-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_MemKernel (m : (ℓ : Loc Cert.MemKernel.nD Cert.MemKernel.τ Cert.MemKernel.sig) → Buf (Elt Bits) ℓ) : Prop :=
  True

def Pre_MemKernelIdeal (m : (ℓ : Loc Cert.MemKernelIdeal.nD Cert.MemKernelIdeal.τ Cert.MemKernelIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def Pre_ProjKernel (m : (ℓ : Loc Cert.ProjKernel.nD Cert.ProjKernel.τ Cert.ProjKernel.sig) → Buf (Elt Bits) ℓ) : Prop :=
  True

def Pre_ProjKernelIdeal (m : (ℓ : Loc Cert.ProjKernelIdeal.nD Cert.ProjKernelIdeal.τ Cert.ProjKernelIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2)
      ∧ r.2.mem ((c.tc : Thread Cert.FfnKernel.nD Cert.FfnKernel.τ).loc Cert.FfnKernel.main_arg3) = m ((c.tc : Thread Cert.FfnKernel.nD Cert.FfnKernel.τ).loc Cert.FfnKernel.main_arg3)
      ∧ r.2.mem ((c.tc : Thread Cert.FfnKernel.nD Cert.FfnKernel.τ).loc Cert.FfnKernel.main_arg4) = m ((c.tc : Thread Cert.FfnKernel.nD Cert.FfnKernel.τ).loc Cert.FfnKernel.main_arg4)
      ∧ r.2.mem ((c.tc : Thread Cert.FfnKernel.nD Cert.FfnKernel.τ).loc Cert.FfnKernel.main_arg5) = m ((c.tc : Thread Cert.FfnKernel.nD Cert.FfnKernel.τ).loc Cert.FfnKernel.main_arg5))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
      ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
      ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
      ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_MemKernel [hMemKernel : Cert.MemKernel.Facts] : Prop :=
  ∀ (m : (ℓ : Loc Cert.MemKernel.nD Cert.MemKernel.τ Cert.MemKernel.sig) → Buf (Elt Bits) ℓ) (g : Dev Cert.MemKernel.nD → PrngReg), Pre_MemKernel m →
    θ_run (Cert.MemKernel.defs (F := Bits)) (onTc (τ := Cert.MemKernel.τ) (Cert.MemKernel.main (F := Bits))) ⟨m, fun _ => 0, g⟩ (fun r => (∀ c : Dev Cert.MemKernel.nD,
      r.2.mem ((c.tc : Thread Cert.MemKernel.nD Cert.MemKernel.τ).loc Cert.MemKernel.main_arg0) = m ((c.tc : Thread Cert.MemKernel.nD Cert.MemKernel.τ).loc Cert.MemKernel.main_arg0)
      ∧ r.2.mem ((c.tc : Thread Cert.MemKernel.nD Cert.MemKernel.τ).loc Cert.MemKernel.main_arg1) = m ((c.tc : Thread Cert.MemKernel.nD Cert.MemKernel.τ).loc Cert.MemKernel.main_arg1)
      ∧ r.2.mem ((c.tc : Thread Cert.MemKernel.nD Cert.MemKernel.τ).loc Cert.MemKernel.main_arg2) = m ((c.tc : Thread Cert.MemKernel.nD Cert.MemKernel.τ).loc Cert.MemKernel.main_arg2)
      ∧ r.2.mem ((c.tc : Thread Cert.MemKernel.nD Cert.MemKernel.τ).loc Cert.MemKernel.main_arg3) = m ((c.tc : Thread Cert.MemKernel.nD Cert.MemKernel.τ).loc Cert.MemKernel.main_arg3)
      ∧ r.2.mem ((c.tc : Thread Cert.MemKernel.nD Cert.MemKernel.τ).loc Cert.MemKernel.main_arg4) = m ((c.tc : Thread Cert.MemKernel.nD Cert.MemKernel.τ).loc Cert.MemKernel.main_arg4)
      ∧ r.2.mem ((c.tc : Thread Cert.MemKernel.nD Cert.MemKernel.τ).loc Cert.MemKernel.main_arg5) = m ((c.tc : Thread Cert.MemKernel.nD Cert.MemKernel.τ).loc Cert.MemKernel.main_arg5)
      ∧ r.2.mem ((c.tc : Thread Cert.MemKernel.nD Cert.MemKernel.τ).loc Cert.MemKernel.main_arg6) = m ((c.tc : Thread Cert.MemKernel.nD Cert.MemKernel.τ).loc Cert.MemKernel.main_arg6)
      ∧ r.2.mem ((c.tc : Thread Cert.MemKernel.nD Cert.MemKernel.τ).loc Cert.MemKernel.main_arg7) = m ((c.tc : Thread Cert.MemKernel.nD Cert.MemKernel.τ).loc Cert.MemKernel.main_arg7)
      ∧ r.2.mem ((c.tc : Thread Cert.MemKernel.nD Cert.MemKernel.τ).loc Cert.MemKernel.main_arg8) = m ((c.tc : Thread Cert.MemKernel.nD Cert.MemKernel.τ).loc Cert.MemKernel.main_arg8)
      ∧ r.2.mem ((c.tc : Thread Cert.MemKernel.nD Cert.MemKernel.τ).loc Cert.MemKernel.main_arg9) = m ((c.tc : Thread Cert.MemKernel.nD Cert.MemKernel.τ).loc Cert.MemKernel.main_arg9)
      ∧ r.2.mem ((c.tc : Thread Cert.MemKernel.nD Cert.MemKernel.τ).loc Cert.MemKernel.main_arg10) = m ((c.tc : Thread Cert.MemKernel.nD Cert.MemKernel.τ).loc Cert.MemKernel.main_arg10)
      ∧ r.2.mem ((c.tc : Thread Cert.MemKernel.nD Cert.MemKernel.τ).loc Cert.MemKernel.main_arg11) = m ((c.tc : Thread Cert.MemKernel.nD Cert.MemKernel.τ).loc Cert.MemKernel.main_arg11))
      ∧ r.2.sem = fun _ => 0)

def quiescent_MemKernelIdeal [hMemKernelIdeal : Cert.MemKernelIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg), Pre_MemKernelIdeal m →
    θ_run (Cert.MemKernelIdeal.defs (F := Ideal)) (onTc (τ := Cert.MemKernelIdeal.τ) (Cert.MemKernelIdeal.main (F := Ideal))) ⟨m, fun _ => 0, g⟩ (fun r => (∀ c : Dev Cert.MemKernelIdeal.nD,
      r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
      ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
      ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
      ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
      ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
      ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
      ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
      ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
      ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8)
      ∧ r.2.mem ((c.tc : Thread Cert.MemKernelIdeal.nD Cert.MemKernelIdeal.τ).loc Cert.MemKernelIdeal.main_arg9) = m ((c.tc : Thread Cert.MemKernelIdeal.nD Cert.MemKernelIdeal.τ).loc Cert.MemKernelIdeal.main_arg9)
      ∧ r.2.mem ((c.tc : Thread Cert.MemKernelIdeal.nD Cert.MemKernelIdeal.τ).loc Cert.MemKernelIdeal.main_arg10) = m ((c.tc : Thread Cert.MemKernelIdeal.nD Cert.MemKernelIdeal.τ).loc Cert.MemKernelIdeal.main_arg10)
      ∧ r.2.mem ((c.tc : Thread Cert.MemKernelIdeal.nD Cert.MemKernelIdeal.τ).loc Cert.MemKernelIdeal.main_arg11) = m ((c.tc : Thread Cert.MemKernelIdeal.nD Cert.MemKernelIdeal.τ).loc Cert.MemKernelIdeal.main_arg11))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3)
      ∧ r.2.mem ((c.tc : Thread Cert.MemReferenceIdeal.nD Cert.MemReferenceIdeal.τ).loc Cert.MemReferenceIdeal.main_arg4) = m ((c.tc : Thread Cert.MemReferenceIdeal.nD Cert.MemReferenceIdeal.τ).loc Cert.MemReferenceIdeal.main_arg4)
      ∧ r.2.mem ((c.tc : Thread Cert.MemReferenceIdeal.nD Cert.MemReferenceIdeal.τ).loc Cert.MemReferenceIdeal.main_arg5) = m ((c.tc : Thread Cert.MemReferenceIdeal.nD Cert.MemReferenceIdeal.τ).loc Cert.MemReferenceIdeal.main_arg5)
      ∧ r.2.mem ((c.tc : Thread Cert.MemReferenceIdeal.nD Cert.MemReferenceIdeal.τ).loc Cert.MemReferenceIdeal.main_arg6) = m ((c.tc : Thread Cert.MemReferenceIdeal.nD Cert.MemReferenceIdeal.τ).loc Cert.MemReferenceIdeal.main_arg6)
      ∧ r.2.mem ((c.tc : Thread Cert.MemReferenceIdeal.nD Cert.MemReferenceIdeal.τ).loc Cert.MemReferenceIdeal.main_arg7) = m ((c.tc : Thread Cert.MemReferenceIdeal.nD Cert.MemReferenceIdeal.τ).loc Cert.MemReferenceIdeal.main_arg7)
      ∧ r.2.mem ((c.tc : Thread Cert.MemReferenceIdeal.nD Cert.MemReferenceIdeal.τ).loc Cert.MemReferenceIdeal.main_arg8) = m ((c.tc : Thread Cert.MemReferenceIdeal.nD Cert.MemReferenceIdeal.τ).loc Cert.MemReferenceIdeal.main_arg8)
      ∧ r.2.mem ((c.tc : Thread Cert.MemReferenceIdeal.nD Cert.MemReferenceIdeal.τ).loc Cert.MemReferenceIdeal.main_arg9) = m ((c.tc : Thread Cert.MemReferenceIdeal.nD Cert.MemReferenceIdeal.τ).loc Cert.MemReferenceIdeal.main_arg9)
      ∧ r.2.mem ((c.tc : Thread Cert.MemReferenceIdeal.nD Cert.MemReferenceIdeal.τ).loc Cert.MemReferenceIdeal.main_arg10) = m ((c.tc : Thread Cert.MemReferenceIdeal.nD Cert.MemReferenceIdeal.τ).loc Cert.MemReferenceIdeal.main_arg10)
      ∧ r.2.mem ((c.tc : Thread Cert.MemReferenceIdeal.nD Cert.MemReferenceIdeal.τ).loc Cert.MemReferenceIdeal.main_arg11) = m ((c.tc : Thread Cert.MemReferenceIdeal.nD Cert.MemReferenceIdeal.τ).loc Cert.MemReferenceIdeal.main_arg11))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2)
      ∧ r.2.mem ((c.tc : Thread Cert.KvKernel.nD Cert.KvKernel.τ).loc Cert.KvKernel.main_arg3) = m ((c.tc : Thread Cert.KvKernel.nD Cert.KvKernel.τ).loc Cert.KvKernel.main_arg3))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
      ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3))
      ∧ r.2.sem = fun _ => 0)

def quiescent_ProjKernel [hProjKernel : Cert.ProjKernel.Facts] : Prop :=
  ∀ (m : (ℓ : Loc Cert.ProjKernel.nD Cert.ProjKernel.τ Cert.ProjKernel.sig) → Buf (Elt Bits) ℓ) (g : Dev Cert.ProjKernel.nD → PrngReg), Pre_ProjKernel m →
    θ_run (Cert.ProjKernel.defs (F := Bits)) (onTc (τ := Cert.ProjKernel.τ) (Cert.ProjKernel.main (F := Bits))) ⟨m, fun _ => 0, g⟩ (fun r => (∀ c : Dev Cert.ProjKernel.nD,
      r.2.mem ((c.tc : Thread Cert.ProjKernel.nD Cert.ProjKernel.τ).loc Cert.ProjKernel.main_arg0) = m ((c.tc : Thread Cert.ProjKernel.nD Cert.ProjKernel.τ).loc Cert.ProjKernel.main_arg0)
      ∧ r.2.mem ((c.tc : Thread Cert.ProjKernel.nD Cert.ProjKernel.τ).loc Cert.ProjKernel.main_arg1) = m ((c.tc : Thread Cert.ProjKernel.nD Cert.ProjKernel.τ).loc Cert.ProjKernel.main_arg1)
      ∧ r.2.mem ((c.tc : Thread Cert.ProjKernel.nD Cert.ProjKernel.τ).loc Cert.ProjKernel.main_arg2) = m ((c.tc : Thread Cert.ProjKernel.nD Cert.ProjKernel.τ).loc Cert.ProjKernel.main_arg2)
      ∧ r.2.mem ((c.tc : Thread Cert.ProjKernel.nD Cert.ProjKernel.τ).loc Cert.ProjKernel.main_arg3) = m ((c.tc : Thread Cert.ProjKernel.nD Cert.ProjKernel.τ).loc Cert.ProjKernel.main_arg3)
      ∧ r.2.mem ((c.tc : Thread Cert.ProjKernel.nD Cert.ProjKernel.τ).loc Cert.ProjKernel.main_arg4) = m ((c.tc : Thread Cert.ProjKernel.nD Cert.ProjKernel.τ).loc Cert.ProjKernel.main_arg4)
      ∧ r.2.mem ((c.tc : Thread Cert.ProjKernel.nD Cert.ProjKernel.τ).loc Cert.ProjKernel.main_arg5) = m ((c.tc : Thread Cert.ProjKernel.nD Cert.ProjKernel.τ).loc Cert.ProjKernel.main_arg5))
      ∧ r.2.sem = fun _ => 0)

def quiescent_ProjKernelIdeal [hProjKernelIdeal : Cert.ProjKernelIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg), Pre_ProjKernelIdeal m →
    θ_run (Cert.ProjKernelIdeal.defs (F := Ideal)) (onTc (τ := Cert.ProjKernelIdeal.τ) (Cert.ProjKernelIdeal.main (F := Ideal))) ⟨m, fun _ => 0, g⟩ (fun r => (∀ c : Dev Cert.ProjKernelIdeal.nD,
      r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
      ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
      ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
      ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
      ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
      ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5))
      ∧ r.2.sem = fun _ => 0)

def preserves_Kernel_KernelIdeal : Prop :=
  IdealRules.named_const.Statement Cert.KernelIdeal.κ "mask" .f32 0xF149F2CA#32 ⊥

def preserves_FfnKernel_FfnKernelIdeal : Prop :=
  True

def algebraic_FfnKernelIdeal_FfnReferenceIdeal [hFfnKernelIdeal : Cert.FfnKernelIdeal.Facts] [hFfnReferenceIdeal : Cert.FfnReferenceIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnKernelIdeal m →
    (∀ c : Dev Cert.FfnKernelIdeal.nD,
      m' ((c.tc : Thread Cert.FfnReferenceIdeal.nD Cert.FfnReferenceIdeal.τ).loc Cert.FfnReferenceIdeal.main_arg0) = m ((c.tc : Thread Cert.FfnKernelIdeal.nD Cert.FfnKernelIdeal.τ).loc Cert.FfnKernelIdeal.main_arg0)
      ∧ m' ((c.tc : Thread Cert.FfnReferenceIdeal.nD Cert.FfnReferenceIdeal.τ).loc Cert.FfnReferenceIdeal.main_arg1) = m ((c.tc : Thread Cert.FfnKernelIdeal.nD Cert.FfnKernelIdeal.τ).loc Cert.FfnKernelIdeal.main_arg1)
      ∧ m' ((c.tc : Thread Cert.FfnReferenceIdeal.nD Cert.FfnReferenceIdeal.τ).loc Cert.FfnReferenceIdeal.main_arg2) = m ((c.tc : Thread Cert.FfnKernelIdeal.nD Cert.FfnKernelIdeal.τ).loc Cert.FfnKernelIdeal.main_arg2)
      ∧ m' ((c.tc : Thread Cert.FfnReferenceIdeal.nD Cert.FfnReferenceIdeal.τ).loc Cert.FfnReferenceIdeal.main_arg3) = m ((c.tc : Thread Cert.FfnKernelIdeal.nD Cert.FfnKernelIdeal.τ).loc Cert.FfnKernelIdeal.main_arg3)
      ∧ m' ((c.tc : Thread Cert.FfnReferenceIdeal.nD Cert.FfnReferenceIdeal.τ).loc Cert.FfnReferenceIdeal.main_arg4) = m ((c.tc : Thread Cert.FfnKernelIdeal.nD Cert.FfnKernelIdeal.τ).loc Cert.FfnKernelIdeal.main_arg4)
      ∧ m' ((c.tc : Thread Cert.FfnReferenceIdeal.nD Cert.FfnReferenceIdeal.τ).loc Cert.FfnReferenceIdeal.main_arg5) = m ((c.tc : Thread Cert.FfnKernelIdeal.nD Cert.FfnKernelIdeal.τ).loc Cert.FfnKernelIdeal.main_arg5)) →
    ∃ (v0 : (c : Dev Cert.FfnKernelIdeal.nD) → Buf (Elt Ideal) ((c.tc : Thread Cert.FfnKernelIdeal.nD Cert.FfnKernelIdeal.τ).loc Cert.FfnKernelIdeal.main_v5)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v5) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2)
          ∧ r.2.mem ((c.tc : Thread Cert.FfnKernelIdeal.nD Cert.FfnKernelIdeal.τ).loc Cert.FfnKernelIdeal.main_arg3) = m ((c.tc : Thread Cert.FfnKernelIdeal.nD Cert.FfnKernelIdeal.τ).loc Cert.FfnKernelIdeal.main_arg3)
          ∧ r.2.mem ((c.tc : Thread Cert.FfnKernelIdeal.nD Cert.FfnKernelIdeal.τ).loc Cert.FfnKernelIdeal.main_arg4) = m ((c.tc : Thread Cert.FfnKernelIdeal.nD Cert.FfnKernelIdeal.τ).loc Cert.FfnKernelIdeal.main_arg4)
          ∧ r.2.mem ((c.tc : Thread Cert.FfnKernelIdeal.nD Cert.FfnKernelIdeal.τ).loc Cert.FfnKernelIdeal.main_arg5) = m ((c.tc : Thread Cert.FfnKernelIdeal.nD Cert.FfnKernelIdeal.τ).loc Cert.FfnKernelIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v33) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_MemKernel_MemKernelIdeal : Prop :=
  True

def algebraic_MemKernelIdeal_MemReferenceIdeal [hMemKernelIdeal : Cert.MemKernelIdeal.Facts] [hMemReferenceIdeal : Cert.MemReferenceIdeal.Facts] : Prop :=
  ∀ (m : (ℓ : Loc Cert.MemKernelIdeal.nD Cert.MemKernelIdeal.τ Cert.MemKernelIdeal.sig) → Buf (Elt Ideal) ℓ) (g : Dev Cert.MemKernelIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemKernelIdeal m →
    (∀ c : Dev Cert.MemKernelIdeal.nD,
      m' ((c.tc : Thread Cert.MemReferenceIdeal.nD Cert.MemReferenceIdeal.τ).loc Cert.MemReferenceIdeal.main_arg0) = m ((c.tc : Thread Cert.MemKernelIdeal.nD Cert.MemKernelIdeal.τ).loc Cert.MemKernelIdeal.main_arg0)
      ∧ m' ((c.tc : Thread Cert.MemReferenceIdeal.nD Cert.MemReferenceIdeal.τ).loc Cert.MemReferenceIdeal.main_arg1) = m ((c.tc : Thread Cert.MemKernelIdeal.nD Cert.MemKernelIdeal.τ).loc Cert.MemKernelIdeal.main_arg1)
      ∧ m' ((c.tc : Thread Cert.MemReferenceIdeal.nD Cert.MemReferenceIdeal.τ).loc Cert.MemReferenceIdeal.main_arg2) = m ((c.tc : Thread Cert.MemKernelIdeal.nD Cert.MemKernelIdeal.τ).loc Cert.MemKernelIdeal.main_arg2)
      ∧ m' ((c.tc : Thread Cert.MemReferenceIdeal.nD Cert.MemReferenceIdeal.τ).loc Cert.MemReferenceIdeal.main_arg3) = m ((c.tc : Thread Cert.MemKernelIdeal.nD Cert.MemKernelIdeal.τ).loc Cert.MemKernelIdeal.main_arg3)
      ∧ m' ((c.tc : Thread Cert.MemReferenceIdeal.nD Cert.MemReferenceIdeal.τ).loc Cert.MemReferenceIdeal.main_arg4) = m ((c.tc : Thread Cert.MemKernelIdeal.nD Cert.MemKernelIdeal.τ).loc Cert.MemKernelIdeal.main_arg4)
      ∧ m' ((c.tc : Thread Cert.MemReferenceIdeal.nD Cert.MemReferenceIdeal.τ).loc Cert.MemReferenceIdeal.main_arg5) = m ((c.tc : Thread Cert.MemKernelIdeal.nD Cert.MemKernelIdeal.τ).loc Cert.MemKernelIdeal.main_arg5)
      ∧ m' ((c.tc : Thread Cert.MemReferenceIdeal.nD Cert.MemReferenceIdeal.τ).loc Cert.MemReferenceIdeal.main_arg6) = m ((c.tc : Thread Cert.MemKernelIdeal.nD Cert.MemKernelIdeal.τ).loc Cert.MemKernelIdeal.main_arg6)
      ∧ m' ((c.tc : Thread Cert.MemReferenceIdeal.nD Cert.MemReferenceIdeal.τ).loc Cert.MemReferenceIdeal.main_arg7) = m ((c.tc : Thread Cert.MemKernelIdeal.nD Cert.MemKernelIdeal.τ).loc Cert.MemKernelIdeal.main_arg7)
      ∧ m' ((c.tc : Thread Cert.MemReferenceIdeal.nD Cert.MemReferenceIdeal.τ).loc Cert.MemReferenceIdeal.main_arg8) = m ((c.tc : Thread Cert.MemKernelIdeal.nD Cert.MemKernelIdeal.τ).loc Cert.MemKernelIdeal.main_arg8)
      ∧ m' ((c.tc : Thread Cert.MemReferenceIdeal.nD Cert.MemReferenceIdeal.τ).loc Cert.MemReferenceIdeal.main_arg9) = m ((c.tc : Thread Cert.MemKernelIdeal.nD Cert.MemKernelIdeal.τ).loc Cert.MemKernelIdeal.main_arg9)
      ∧ m' ((c.tc : Thread Cert.MemReferenceIdeal.nD Cert.MemReferenceIdeal.τ).loc Cert.MemReferenceIdeal.main_arg10) = m ((c.tc : Thread Cert.MemKernelIdeal.nD Cert.MemKernelIdeal.τ).loc Cert.MemKernelIdeal.main_arg10)
      ∧ m' ((c.tc : Thread Cert.MemReferenceIdeal.nD Cert.MemReferenceIdeal.τ).loc Cert.MemReferenceIdeal.main_arg11) = m ((c.tc : Thread Cert.MemKernelIdeal.nD Cert.MemKernelIdeal.τ).loc Cert.MemKernelIdeal.main_arg11)) →
    ∃ (v0 : (c : Dev Cert.MemKernelIdeal.nD) → Buf (Elt Ideal) ((c.tc : Thread Cert.MemKernelIdeal.nD Cert.MemKernelIdeal.τ).loc Cert.MemKernelIdeal.main_v12)),
      θ_run (Cert.MemKernelIdeal.defs (F := Ideal)) (onTc (τ := Cert.MemKernelIdeal.τ) (Cert.MemKernelIdeal.main (F := Ideal))) ⟨m, fun _ => 0, g⟩ (fun r => ∀ c : Dev Cert.MemKernelIdeal.nD,
          r.2.mem ((c.tc : Thread Cert.MemKernelIdeal.nD Cert.MemKernelIdeal.τ).loc Cert.MemKernelIdeal.main_v12) = v0 c
          ∧ r.2.mem ((c.tc : Thread Cert.MemKernelIdeal.nD Cert.MemKernelIdeal.τ).loc Cert.MemKernelIdeal.main_arg0) = m ((c.tc : Thread Cert.MemKernelIdeal.nD Cert.MemKernelIdeal.τ).loc Cert.MemKernelIdeal.main_arg0)
          ∧ r.2.mem ((c.tc : Thread Cert.MemKernelIdeal.nD Cert.MemKernelIdeal.τ).loc Cert.MemKernelIdeal.main_arg1) = m ((c.tc : Thread Cert.MemKernelIdeal.nD Cert.MemKernelIdeal.τ).loc Cert.MemKernelIdeal.main_arg1)
          ∧ r.2.mem ((c.tc : Thread Cert.MemKernelIdeal.nD Cert.MemKernelIdeal.τ).loc Cert.MemKernelIdeal.main_arg2) = m ((c.tc : Thread Cert.MemKernelIdeal.nD Cert.MemKernelIdeal.τ).loc Cert.MemKernelIdeal.main_arg2)
          ∧ r.2.mem ((c.tc : Thread Cert.MemKernelIdeal.nD Cert.MemKernelIdeal.τ).loc Cert.MemKernelIdeal.main_arg3) = m ((c.tc : Thread Cert.MemKernelIdeal.nD Cert.MemKernelIdeal.τ).loc Cert.MemKernelIdeal.main_arg3)
          ∧ r.2.mem ((c.tc : Thread Cert.MemKernelIdeal.nD Cert.MemKernelIdeal.τ).loc Cert.MemKernelIdeal.main_arg4) = m ((c.tc : Thread Cert.MemKernelIdeal.nD Cert.MemKernelIdeal.τ).loc Cert.MemKernelIdeal.main_arg4)
          ∧ r.2.mem ((c.tc : Thread Cert.MemKernelIdeal.nD Cert.MemKernelIdeal.τ).loc Cert.MemKernelIdeal.main_arg5) = m ((c.tc : Thread Cert.MemKernelIdeal.nD Cert.MemKernelIdeal.τ).loc Cert.MemKernelIdeal.main_arg5)
          ∧ r.2.mem ((c.tc : Thread Cert.MemKernelIdeal.nD Cert.MemKernelIdeal.τ).loc Cert.MemKernelIdeal.main_arg6) = m ((c.tc : Thread Cert.MemKernelIdeal.nD Cert.MemKernelIdeal.τ).loc Cert.MemKernelIdeal.main_arg6)
          ∧ r.2.mem ((c.tc : Thread Cert.MemKernelIdeal.nD Cert.MemKernelIdeal.τ).loc Cert.MemKernelIdeal.main_arg7) = m ((c.tc : Thread Cert.MemKernelIdeal.nD Cert.MemKernelIdeal.τ).loc Cert.MemKernelIdeal.main_arg7)
          ∧ r.2.mem ((c.tc : Thread Cert.MemKernelIdeal.nD Cert.MemKernelIdeal.τ).loc Cert.MemKernelIdeal.main_arg8) = m ((c.tc : Thread Cert.MemKernelIdeal.nD Cert.MemKernelIdeal.τ).loc Cert.MemKernelIdeal.main_arg8)
          ∧ r.2.mem ((c.tc : Thread Cert.MemKernelIdeal.nD Cert.MemKernelIdeal.τ).loc Cert.MemKernelIdeal.main_arg9) = m ((c.tc : Thread Cert.MemKernelIdeal.nD Cert.MemKernelIdeal.τ).loc Cert.MemKernelIdeal.main_arg9)
          ∧ r.2.mem ((c.tc : Thread Cert.MemKernelIdeal.nD Cert.MemKernelIdeal.τ).loc Cert.MemKernelIdeal.main_arg10) = m ((c.tc : Thread Cert.MemKernelIdeal.nD Cert.MemKernelIdeal.τ).loc Cert.MemKernelIdeal.main_arg10)
          ∧ r.2.mem ((c.tc : Thread Cert.MemKernelIdeal.nD Cert.MemKernelIdeal.τ).loc Cert.MemKernelIdeal.main_arg11) = m ((c.tc : Thread Cert.MemKernelIdeal.nD Cert.MemKernelIdeal.τ).loc Cert.MemKernelIdeal.main_arg11))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v77) = v0 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3)
          ∧ r.2.mem ((c.tc : Thread Cert.MemReferenceIdeal.nD Cert.MemReferenceIdeal.τ).loc Cert.MemReferenceIdeal.main_arg4) = m' ((c.tc : Thread Cert.MemReferenceIdeal.nD Cert.MemReferenceIdeal.τ).loc Cert.MemReferenceIdeal.main_arg4)
          ∧ r.2.mem ((c.tc : Thread Cert.MemReferenceIdeal.nD Cert.MemReferenceIdeal.τ).loc Cert.MemReferenceIdeal.main_arg5) = m' ((c.tc : Thread Cert.MemReferenceIdeal.nD Cert.MemReferenceIdeal.τ).loc Cert.MemReferenceIdeal.main_arg5)
          ∧ r.2.mem ((c.tc : Thread Cert.MemReferenceIdeal.nD Cert.MemReferenceIdeal.τ).loc Cert.MemReferenceIdeal.main_arg6) = m' ((c.tc : Thread Cert.MemReferenceIdeal.nD Cert.MemReferenceIdeal.τ).loc Cert.MemReferenceIdeal.main_arg6)
          ∧ r.2.mem ((c.tc : Thread Cert.MemReferenceIdeal.nD Cert.MemReferenceIdeal.τ).loc Cert.MemReferenceIdeal.main_arg7) = m' ((c.tc : Thread Cert.MemReferenceIdeal.nD Cert.MemReferenceIdeal.τ).loc Cert.MemReferenceIdeal.main_arg7)
          ∧ r.2.mem ((c.tc : Thread Cert.MemReferenceIdeal.nD Cert.MemReferenceIdeal.τ).loc Cert.MemReferenceIdeal.main_arg8) = m' ((c.tc : Thread Cert.MemReferenceIdeal.nD Cert.MemReferenceIdeal.τ).loc Cert.MemReferenceIdeal.main_arg8)
          ∧ r.2.mem ((c.tc : Thread Cert.MemReferenceIdeal.nD Cert.MemReferenceIdeal.τ).loc Cert.MemReferenceIdeal.main_arg9) = m' ((c.tc : Thread Cert.MemReferenceIdeal.nD Cert.MemReferenceIdeal.τ).loc Cert.MemReferenceIdeal.main_arg9)
          ∧ r.2.mem ((c.tc : Thread Cert.MemReferenceIdeal.nD Cert.MemReferenceIdeal.τ).loc Cert.MemReferenceIdeal.main_arg10) = m' ((c.tc : Thread Cert.MemReferenceIdeal.nD Cert.MemReferenceIdeal.τ).loc Cert.MemReferenceIdeal.main_arg10)
          ∧ r.2.mem ((c.tc : Thread Cert.MemReferenceIdeal.nD Cert.MemReferenceIdeal.τ).loc Cert.MemReferenceIdeal.main_arg11) = m' ((c.tc : Thread Cert.MemReferenceIdeal.nD Cert.MemReferenceIdeal.τ).loc Cert.MemReferenceIdeal.main_arg11))

def preserves_KvKernel_KvKernelIdeal : Prop :=
  True

def algebraic_KvKernelIdeal_KvReferenceIdeal [hKvKernelIdeal : Cert.KvKernelIdeal.Facts] [hKvReferenceIdeal : Cert.KvReferenceIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvKernelIdeal m →
    (∀ c : Dev Cert.KvKernelIdeal.nD,
      m' ((c.tc : Thread Cert.KvReferenceIdeal.nD Cert.KvReferenceIdeal.τ).loc Cert.KvReferenceIdeal.main_arg0) = m ((c.tc : Thread Cert.KvKernelIdeal.nD Cert.KvKernelIdeal.τ).loc Cert.KvKernelIdeal.main_arg0)
      ∧ m' ((c.tc : Thread Cert.KvReferenceIdeal.nD Cert.KvReferenceIdeal.τ).loc Cert.KvReferenceIdeal.main_arg1) = m ((c.tc : Thread Cert.KvKernelIdeal.nD Cert.KvKernelIdeal.τ).loc Cert.KvKernelIdeal.main_arg1)
      ∧ m' ((c.tc : Thread Cert.KvReferenceIdeal.nD Cert.KvReferenceIdeal.τ).loc Cert.KvReferenceIdeal.main_arg2) = m ((c.tc : Thread Cert.KvKernelIdeal.nD Cert.KvKernelIdeal.τ).loc Cert.KvKernelIdeal.main_arg2)
      ∧ m' ((c.tc : Thread Cert.KvReferenceIdeal.nD Cert.KvReferenceIdeal.τ).loc Cert.KvReferenceIdeal.main_arg3) = m ((c.tc : Thread Cert.KvKernelIdeal.nD Cert.KvKernelIdeal.τ).loc Cert.KvKernelIdeal.main_arg3)) →
    ∃ (v0 : (c : Dev Cert.KvKernelIdeal.nD) → Buf (Elt Ideal) ((c.tc : Thread Cert.KvKernelIdeal.nD Cert.KvKernelIdeal.τ).loc Cert.KvKernelIdeal.main_v3_0)) (v1 : (c : Dev Cert.KvKernelIdeal.nD) → Buf (Elt Ideal) ((c.tc : Thread Cert.KvKernelIdeal.nD Cert.KvKernelIdeal.τ).loc Cert.KvKernelIdeal.main_v3_1)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v3_0) = v0 c
          ∧ r.2.mem ((c.tc : Thread Cert.KvKernelIdeal.nD Cert.KvKernelIdeal.τ).loc Cert.KvKernelIdeal.main_v3_1) = v1 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
          ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v15) = v0 c
          ∧ r.2.mem ((c.tc : Thread Cert.KvReferenceIdeal.nD Cert.KvReferenceIdeal.τ).loc Cert.KvReferenceIdeal.main_v17) = v1 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3))

def preserves_ProjKernel_ProjKernelIdeal : Prop :=
  True

def algebraic_ProjKernelIdeal_ProjReferenceIdeal [hProjKernelIdeal : Cert.ProjKernelIdeal.Facts] [hProjReferenceIdeal : Cert.ProjReferenceIdeal.Facts] : Prop :=
  ∀ (m : (ℓ : Loc Cert.ProjKernelIdeal.nD Cert.ProjKernelIdeal.τ Cert.ProjKernelIdeal.sig) → Buf (Elt Ideal) ℓ) (g : Dev Cert.ProjKernelIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjKernelIdeal m →
    (∀ c : Dev Cert.ProjKernelIdeal.nD,
      m' ((c.tc : Thread Cert.ProjReferenceIdeal.nD Cert.ProjReferenceIdeal.τ).loc Cert.ProjReferenceIdeal.main_arg0) = m ((c.tc : Thread Cert.ProjKernelIdeal.nD Cert.ProjKernelIdeal.τ).loc Cert.ProjKernelIdeal.main_arg0)
      ∧ m' ((c.tc : Thread Cert.ProjReferenceIdeal.nD Cert.ProjReferenceIdeal.τ).loc Cert.ProjReferenceIdeal.main_arg1) = m ((c.tc : Thread Cert.ProjKernelIdeal.nD Cert.ProjKernelIdeal.τ).loc Cert.ProjKernelIdeal.main_arg1)
      ∧ m' ((c.tc : Thread Cert.ProjReferenceIdeal.nD Cert.ProjReferenceIdeal.τ).loc Cert.ProjReferenceIdeal.main_arg2) = m ((c.tc : Thread Cert.ProjKernelIdeal.nD Cert.ProjKernelIdeal.τ).loc Cert.ProjKernelIdeal.main_arg2)
      ∧ m' ((c.tc : Thread Cert.ProjReferenceIdeal.nD Cert.ProjReferenceIdeal.τ).loc Cert.ProjReferenceIdeal.main_arg3) = m ((c.tc : Thread Cert.ProjKernelIdeal.nD Cert.ProjKernelIdeal.τ).loc Cert.ProjKernelIdeal.main_arg3)
      ∧ m' ((c.tc : Thread Cert.ProjReferenceIdeal.nD Cert.ProjReferenceIdeal.τ).loc Cert.ProjReferenceIdeal.main_arg4) = m ((c.tc : Thread Cert.ProjKernelIdeal.nD Cert.ProjKernelIdeal.τ).loc Cert.ProjKernelIdeal.main_arg4)
      ∧ m' ((c.tc : Thread Cert.ProjReferenceIdeal.nD Cert.ProjReferenceIdeal.τ).loc Cert.ProjReferenceIdeal.main_arg5) = m ((c.tc : Thread Cert.ProjKernelIdeal.nD Cert.ProjKernelIdeal.τ).loc Cert.ProjKernelIdeal.main_arg5)) →
    ∃ (v0 : (c : Dev Cert.ProjKernelIdeal.nD) → Buf (Elt Ideal) ((c.tc : Thread Cert.ProjKernelIdeal.nD Cert.ProjKernelIdeal.τ).loc Cert.ProjKernelIdeal.main_v12_0)) (v1 : (c : Dev Cert.ProjKernelIdeal.nD) → Buf (Elt Ideal) ((c.tc : Thread Cert.ProjKernelIdeal.nD Cert.ProjKernelIdeal.τ).loc Cert.ProjKernelIdeal.main_v12_1)) (v2 : (c : Dev Cert.ProjKernelIdeal.nD) → Buf (Elt Ideal) ((c.tc : Thread Cert.ProjKernelIdeal.nD Cert.ProjKernelIdeal.τ).loc Cert.ProjKernelIdeal.main_v12_2)) (v3 : (c : Dev Cert.ProjKernelIdeal.nD) → Buf (Elt Ideal) ((c.tc : Thread Cert.ProjKernelIdeal.nD Cert.ProjKernelIdeal.τ).loc Cert.ProjKernelIdeal.main_v12_3)) (v4 : (c : Dev Cert.ProjKernelIdeal.nD) → Buf (Elt Ideal) ((c.tc : Thread Cert.ProjKernelIdeal.nD Cert.ProjKernelIdeal.τ).loc Cert.ProjKernelIdeal.main_v12_4)) (v5 : (c : Dev Cert.ProjKernelIdeal.nD) → Buf (Elt Ideal) ((c.tc : Thread Cert.ProjKernelIdeal.nD Cert.ProjKernelIdeal.τ).loc Cert.ProjKernelIdeal.main_v12_5)) (v6 : (c : Dev Cert.ProjKernelIdeal.nD) → Buf (Elt Ideal) ((c.tc : Thread Cert.ProjKernelIdeal.nD Cert.ProjKernelIdeal.τ).loc Cert.ProjKernelIdeal.main_v12_6)) (v7 : (c : Dev Cert.ProjKernelIdeal.nD) → Buf (Elt Ideal) ((c.tc : Thread Cert.ProjKernelIdeal.nD Cert.ProjKernelIdeal.τ).loc Cert.ProjKernelIdeal.main_v12_7)) (v8 : (c : Dev Cert.ProjKernelIdeal.nD) → Buf (Elt Ideal) ((c.tc : Thread Cert.ProjKernelIdeal.nD Cert.ProjKernelIdeal.τ).loc Cert.ProjKernelIdeal.main_v12_8)) (v9 : (c : Dev Cert.ProjKernelIdeal.nD) → Buf (Elt Ideal) ((c.tc : Thread Cert.ProjKernelIdeal.nD Cert.ProjKernelIdeal.τ).loc Cert.ProjKernelIdeal.main_v12_9)) (v10 : (c : Dev Cert.ProjKernelIdeal.nD) → Buf (Elt Ideal) ((c.tc : Thread Cert.ProjKernelIdeal.nD Cert.ProjKernelIdeal.τ).loc Cert.ProjKernelIdeal.main_v12_10)) (v11 : (c : Dev Cert.ProjKernelIdeal.nD) → Buf (Elt Ideal) ((c.tc : Thread Cert.ProjKernelIdeal.nD Cert.ProjKernelIdeal.τ).loc Cert.ProjKernelIdeal.main_v12_11)),
      θ_run (Cert.ProjKernelIdeal.defs (F := Ideal)) (onTc (τ := Cert.ProjKernelIdeal.τ) (Cert.ProjKernelIdeal.main (F := Ideal))) ⟨m, fun _ => 0, g⟩ (fun r => ∀ c : Dev Cert.ProjKernelIdeal.nD,
          r.2.mem ((c.tc : Thread Cert.ProjKernelIdeal.nD Cert.ProjKernelIdeal.τ).loc Cert.ProjKernelIdeal.main_v12_0) = v0 c
          ∧ r.2.mem ((c.tc : Thread Cert.ProjKernelIdeal.nD Cert.ProjKernelIdeal.τ).loc Cert.ProjKernelIdeal.main_v12_1) = v1 c
          ∧ r.2.mem ((c.tc : Thread Cert.ProjKernelIdeal.nD Cert.ProjKernelIdeal.τ).loc Cert.ProjKernelIdeal.main_v12_2) = v2 c
          ∧ r.2.mem ((c.tc : Thread Cert.ProjKernelIdeal.nD Cert.ProjKernelIdeal.τ).loc Cert.ProjKernelIdeal.main_v12_3) = v3 c
          ∧ r.2.mem ((c.tc : Thread Cert.ProjKernelIdeal.nD Cert.ProjKernelIdeal.τ).loc Cert.ProjKernelIdeal.main_v12_4) = v4 c
          ∧ r.2.mem ((c.tc : Thread Cert.ProjKernelIdeal.nD Cert.ProjKernelIdeal.τ).loc Cert.ProjKernelIdeal.main_v12_5) = v5 c
          ∧ r.2.mem ((c.tc : Thread Cert.ProjKernelIdeal.nD Cert.ProjKernelIdeal.τ).loc Cert.ProjKernelIdeal.main_v12_6) = v6 c
          ∧ r.2.mem ((c.tc : Thread Cert.ProjKernelIdeal.nD Cert.ProjKernelIdeal.τ).loc Cert.ProjKernelIdeal.main_v12_7) = v7 c
          ∧ r.2.mem ((c.tc : Thread Cert.ProjKernelIdeal.nD Cert.ProjKernelIdeal.τ).loc Cert.ProjKernelIdeal.main_v12_8) = v8 c
          ∧ r.2.mem ((c.tc : Thread Cert.ProjKernelIdeal.nD Cert.ProjKernelIdeal.τ).loc Cert.ProjKernelIdeal.main_v12_9) = v9 c
          ∧ r.2.mem ((c.tc : Thread Cert.ProjKernelIdeal.nD Cert.ProjKernelIdeal.τ).loc Cert.ProjKernelIdeal.main_v12_10) = v10 c
          ∧ r.2.mem ((c.tc : Thread Cert.ProjKernelIdeal.nD Cert.ProjKernelIdeal.τ).loc Cert.ProjKernelIdeal.main_v12_11) = v11 c
          ∧ r.2.mem ((c.tc : Thread Cert.ProjKernelIdeal.nD Cert.ProjKernelIdeal.τ).loc Cert.ProjKernelIdeal.main_arg0) = m ((c.tc : Thread Cert.ProjKernelIdeal.nD Cert.ProjKernelIdeal.τ).loc Cert.ProjKernelIdeal.main_arg0)
          ∧ r.2.mem ((c.tc : Thread Cert.ProjKernelIdeal.nD Cert.ProjKernelIdeal.τ).loc Cert.ProjKernelIdeal.main_arg1) = m ((c.tc : Thread Cert.ProjKernelIdeal.nD Cert.ProjKernelIdeal.τ).loc Cert.ProjKernelIdeal.main_arg1)
          ∧ r.2.mem ((c.tc : Thread Cert.ProjKernelIdeal.nD Cert.ProjKernelIdeal.τ).loc Cert.ProjKernelIdeal.main_arg2) = m ((c.tc : Thread Cert.ProjKernelIdeal.nD Cert.ProjKernelIdeal.τ).loc Cert.ProjKernelIdeal.main_arg2)
          ∧ r.2.mem ((c.tc : Thread Cert.ProjKernelIdeal.nD Cert.ProjKernelIdeal.τ).loc Cert.ProjKernelIdeal.main_arg3) = m ((c.tc : Thread Cert.ProjKernelIdeal.nD Cert.ProjKernelIdeal.τ).loc Cert.ProjKernelIdeal.main_arg3)
          ∧ r.2.mem ((c.tc : Thread Cert.ProjKernelIdeal.nD Cert.ProjKernelIdeal.τ).loc Cert.ProjKernelIdeal.main_arg4) = m ((c.tc : Thread Cert.ProjKernelIdeal.nD Cert.ProjKernelIdeal.τ).loc Cert.ProjKernelIdeal.main_arg4)
          ∧ r.2.mem ((c.tc : Thread Cert.ProjKernelIdeal.nD Cert.ProjKernelIdeal.τ).loc Cert.ProjKernelIdeal.main_arg5) = m ((c.tc : Thread Cert.ProjKernelIdeal.nD Cert.ProjKernelIdeal.τ).loc Cert.ProjKernelIdeal.main_arg5))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v61) = v0 c
          ∧ r.2.mem ((c.tc : Thread Cert.ProjReferenceIdeal.nD Cert.ProjReferenceIdeal.τ).loc Cert.ProjReferenceIdeal.main_v24) = v1 c
          ∧ r.2.mem ((c.tc : Thread Cert.ProjReferenceIdeal.nD Cert.ProjReferenceIdeal.τ).loc Cert.ProjReferenceIdeal.main_v25) = v2 c
          ∧ r.2.mem ((c.tc : Thread Cert.ProjReferenceIdeal.nD Cert.ProjReferenceIdeal.τ).loc Cert.ProjReferenceIdeal.main_v83) = v3 c
          ∧ r.2.mem ((c.tc : Thread Cert.ProjReferenceIdeal.nD Cert.ProjReferenceIdeal.τ).loc Cert.ProjReferenceIdeal.main_v85) = v4 c
          ∧ r.2.mem ((c.tc : Thread Cert.ProjReferenceIdeal.nD Cert.ProjReferenceIdeal.τ).loc Cert.ProjReferenceIdeal.main_v107) = v5 c
          ∧ r.2.mem ((c.tc : Thread Cert.ProjReferenceIdeal.nD Cert.ProjReferenceIdeal.τ).loc Cert.ProjReferenceIdeal.main_v109) = v6 c
          ∧ r.2.mem ((c.tc : Thread Cert.ProjReferenceIdeal.nD Cert.ProjReferenceIdeal.τ).loc Cert.ProjReferenceIdeal.main_v110) = v7 c
          ∧ r.2.mem ((c.tc : Thread Cert.ProjReferenceIdeal.nD Cert.ProjReferenceIdeal.τ).loc Cert.ProjReferenceIdeal.main_v111) = v8 c
          ∧ r.2.mem ((c.tc : Thread Cert.ProjReferenceIdeal.nD Cert.ProjReferenceIdeal.τ).loc Cert.ProjReferenceIdeal.main_v112) = v9 c
          ∧ r.2.mem ((c.tc : Thread Cert.ProjReferenceIdeal.nD Cert.ProjReferenceIdeal.τ).loc Cert.ProjReferenceIdeal.main_v113) = v10 c
          ∧ r.2.mem ((c.tc : Thread Cert.ProjReferenceIdeal.nD Cert.ProjReferenceIdeal.τ).loc Cert.ProjReferenceIdeal.main_v114) = v11 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5))

def Claim : Prop :=
  ∃ (hKernel : Cert.Kernel.Facts) (hKernelIdeal : Cert.KernelIdeal.Facts) (hReferenceIdeal : Cert.ReferenceIdeal.Facts) (hFfnKernel : Cert.FfnKernel.Facts) (hFfnKernelIdeal : Cert.FfnKernelIdeal.Facts) (hFfnReferenceIdeal : Cert.FfnReferenceIdeal.Facts) (hMemKernel : Cert.MemKernel.Facts) (hMemKernelIdeal : Cert.MemKernelIdeal.Facts) (hMemReferenceIdeal : Cert.MemReferenceIdeal.Facts) (hKvKernel : Cert.KvKernel.Facts) (hKvKernelIdeal : Cert.KvKernelIdeal.Facts) (hKvReferenceIdeal : Cert.KvReferenceIdeal.Facts) (hProjKernel : Cert.ProjKernel.Facts) (hProjKernelIdeal : Cert.ProjKernelIdeal.Facts) (hProjReferenceIdeal : Cert.ProjReferenceIdeal.Facts),
    quiescent_Kernel (hKernel := hKernel)
    ∧ quiescent_KernelIdeal (hKernelIdeal := hKernelIdeal)
    ∧ quiescent_ReferenceIdeal (hReferenceIdeal := hReferenceIdeal)
    ∧ quiescent_FfnKernel (hFfnKernel := hFfnKernel)
    ∧ quiescent_FfnKernelIdeal (hFfnKernelIdeal := hFfnKernelIdeal)
    ∧ quiescent_FfnReferenceIdeal (hFfnReferenceIdeal := hFfnReferenceIdeal)
    ∧ quiescent_MemKernel (hMemKernel := hMemKernel)
    ∧ quiescent_MemKernelIdeal (hMemKernelIdeal := hMemKernelIdeal)
    ∧ quiescent_MemReferenceIdeal (hMemReferenceIdeal := hMemReferenceIdeal)
    ∧ quiescent_KvKernel (hKvKernel := hKvKernel)
    ∧ quiescent_KvKernelIdeal (hKvKernelIdeal := hKvKernelIdeal)
    ∧ quiescent_KvReferenceIdeal (hKvReferenceIdeal := hKvReferenceIdeal)
    ∧ quiescent_ProjKernel (hProjKernel := hProjKernel)
    ∧ quiescent_ProjKernelIdeal (hProjKernelIdeal := hProjKernelIdeal)
    ∧ quiescent_ProjReferenceIdeal (hProjReferenceIdeal := hProjReferenceIdeal)
    ∧ preserves_Kernel_KernelIdeal
    ∧ preserves_FfnKernel_FfnKernelIdeal
    ∧ algebraic_FfnKernelIdeal_FfnReferenceIdeal (hFfnKernelIdeal := hFfnKernelIdeal) (hFfnReferenceIdeal := hFfnReferenceIdeal)
    ∧ preserves_MemKernel_MemKernelIdeal
    ∧ algebraic_MemKernelIdeal_MemReferenceIdeal (hMemKernelIdeal := hMemKernelIdeal) (hMemReferenceIdeal := hMemReferenceIdeal)
    ∧ preserves_KvKernel_KvKernelIdeal
    ∧ algebraic_KvKernelIdeal_KvReferenceIdeal (hKvKernelIdeal := hKvKernelIdeal) (hKvReferenceIdeal := hKvReferenceIdeal)
    ∧ preserves_ProjKernel_ProjKernelIdeal
    ∧ algebraic_ProjKernelIdeal_ProjReferenceIdeal (hProjKernelIdeal := hProjKernelIdeal) (hProjReferenceIdeal := hProjReferenceIdeal)
-- ==== Kernel.lean ====
abbrev S2x8192x512 : Shape := ⟨3, ![2, 8192, 512]⟩
abbrev S2x8192x24 : Shape := ⟨3, ![2, 8192, 24]⟩
abbrev S2x512x128 : Shape := ⟨3, ![2, 512, 128]⟩
abbrev S2x8192x128 : Shape := ⟨3, ![2, 8192, 128]⟩
abbrev S512 : Shape := ⟨1, ![512]⟩
abbrev S1x512 : Shape := ⟨2, ![1, 512]⟩
abbrev S_ : Shape := ⟨0, ![]⟩
abbrev S128 : Shape := ⟨1, ![128]⟩
abbrev S128x1 : Shape := ⟨2, ![128, 1]⟩
abbrev S128x512 : Shape := ⟨2, ![128, 512]⟩
abbrev S2x8192x32 : Shape := ⟨3, ![2, 8192, 32]⟩
abbrev S2x32x8192 : Shape := ⟨3, ![2, 32, 8192]⟩
abbrev S2x128x512 : Shape := ⟨3, ![2, 128, 512]⟩
abbrev S2x128x8192 : Shape := ⟨3, ![2, 128, 8192]⟩
abbrev S512x1 : Shape := ⟨2, ![512, 1]⟩
abbrev S1x128 : Shape := ⟨2, ![1, 128]⟩
abbrev S512x128 : Shape := ⟨2, ![512, 128]⟩
abbrev S1x128x512 : Shape := ⟨3, ![1, 128, 512]⟩
abbrev S1x32x128 : Shape := ⟨3, ![1, 32, 128]⟩
abbrev S1x512x128 : Shape := ⟨3, ![1, 512, 128]⟩
abbrev S1x8192x128 : Shape := ⟨3, ![1, 8192, 128]⟩
abbrev S1x128x8192 : Shape := ⟨3, ![1, 128, 8192]⟩
abbrev S128x256 : Shape := ⟨2, ![128, 256]⟩
abbrev S512x1024 : Shape := ⟨2, ![512, 1024]⟩
abbrev S2x80x512 : Shape := ⟨3, ![2, 80, 512]⟩
abbrev S1x1024 : Shape := ⟨2, ![1, 1024]⟩
abbrev S64x128 : Shape := ⟨2, ![64, 128]⟩
abbrev S128x128 : Shape := ⟨2, ![128, 128]⟩
abbrev S128x1024 : Shape := ⟨2, ![128, 1024]⟩
abbrev S64x512 : Shape := ⟨2, ![64, 512]⟩
abbrev S1024 : Shape := ⟨1, ![1024]⟩
abbrev S1x64x512 : Shape := ⟨3, ![1, 64, 512]⟩
abbrev S512x512 : Shape := ⟨2, ![512, 512]⟩
abbrev S512x256 : Shape := ⟨2, ![512, 256]⟩
abbrev S1x384x128 : Shape := ⟨3, ![1, 384, 128]⟩
abbrev S384x128 : Shape := ⟨2, ![384, 128]⟩
abbrev S384x1024 : Shape := ⟨2, ![384, 1024]⟩
abbrev S1x64x384 : Shape := ⟨3, ![1, 64, 384]⟩
abbrev S64x384 : Shape := ⟨2, ![64, 384]⟩
abbrev S384x512 : Shape := ⟨2, ![384, 512]⟩
abbrev S128x384 : Shape := ⟨2, ![128, 384]⟩
abbrev S384x256 : Shape := ⟨2, ![384, 256]⟩
abbrev S1x256x128 : Shape := ⟨3, ![1, 256, 128]⟩
abbrev S256x128 : Shape := ⟨2, ![256, 128]⟩
abbrev S256x1024 : Shape := ⟨2, ![256, 1024]⟩
abbrev S1x64x256 : Shape := ⟨3, ![1, 64, 256]⟩
abbrev S64x256 : Shape := ⟨2, ![64, 256]⟩
abbrev S256x512 : Shape := ⟨2, ![256, 512]⟩
abbrev S256x256 : Shape := ⟨2, ![256, 256]⟩
abbrev S1x128x128 : Shape := ⟨3, ![1, 128, 128]⟩
abbrev S1x64x128 : Shape := ⟨3, ![1, 64, 128]⟩
abbrev S1x640x128 : Shape := ⟨3, ![1, 640, 128]⟩
abbrev S640x128 : Shape := ⟨2, ![640, 128]⟩
abbrev S640x1024 : Shape := ⟨2, ![640, 1024]⟩
abbrev S640x512 : Shape := ⟨2, ![640, 512]⟩
abbrev S1x64x640 : Shape := ⟨3, ![1, 64, 640]⟩
abbrev S64x640 : Shape := ⟨2, ![64, 640]⟩
abbrev S16x640 : Shape := ⟨2, ![16, 640]⟩
abbrev S80x640 : Shape := ⟨2, ![80, 640]⟩
abbrev S80x512 : Shape := ⟨2, ![80, 512]⟩
abbrev S1x256 : Shape := ⟨2, ![1, 256]⟩
abbrev S256 : Shape := ⟨1, ![256]⟩
abbrev S8x256 : Shape := ⟨2, ![8, 256]⟩
abbrev S8x128 : Shape := ⟨2, ![8, 128]⟩
abbrev S8x1024 : Shape := ⟨2, ![8, 1024]⟩
abbrev S16x1024 : Shape := ⟨2, ![16, 1024]⟩
abbrev S112x1024 : Shape := ⟨2, ![112, 1024]⟩
abbrev S16x512 : Shape := ⟨2, ![16, 512]⟩
abbrev S1x80x512 : Shape := ⟨3, ![1, 80, 512]⟩
abbrev S1x1x512 : Shape := ⟨3, ![1, 1, 512]⟩
abbrev S1x1x128 : Shape := ⟨3, ![1, 1, 128]⟩

abbrev nBuf : Space → Nat
  | .hbm => 88
  | .vmem => 24
  | .smem => 0
  | _ => 0

abbrev bufTy : (tb : Table) → Fin (tcTables nBuf tb) → BufTy
  | .hbm, ⟨0, _⟩ => ⟨S2x8192x512, .f32⟩
  | .hbm, ⟨1, _⟩ => ⟨S2x8192x24, .f32⟩
  | .hbm, ⟨2, _⟩ => ⟨S2x512x128, .f32⟩
  | .hbm, ⟨3, _⟩ => ⟨S2x512x128, .f32⟩
  | .hbm, ⟨4, _⟩ => ⟨S2x8192x128, .f32⟩
  | .hbm, ⟨5, _⟩ => ⟨S2x8192x128, .f32⟩
  | .hbm, ⟨6, _⟩ => ⟨S2x8192x128, .f32⟩
  | .hbm, ⟨7, _⟩ => ⟨S2x8192x128, .f32⟩
  | .hbm, ⟨8, _⟩ => ⟨S512, .i32⟩
  | .hbm, ⟨9, _⟩ => ⟨S1x512, .i32⟩
  | .hbm, ⟨10, _⟩ => ⟨S_, .i32⟩
  | .hbm, ⟨11, _⟩ => ⟨S1x512, .i32⟩
  | .hbm, ⟨12, _⟩ => ⟨S1x512, .i32⟩
  | .hbm, ⟨13, _⟩ => ⟨S128, .i32⟩
  | .hbm, ⟨14, _⟩ => ⟨S128x1, .i32⟩
  | .hbm, ⟨15, _⟩ => ⟨S_, .i32⟩
  | .hbm, ⟨16, _⟩ => ⟨S128x1, .i32⟩
  | .hbm, ⟨17, _⟩ => ⟨S128x1, .i32⟩
  | .hbm, ⟨18, _⟩ => ⟨S_, .i32⟩
  | .hbm, ⟨19, _⟩ => ⟨S128x1, .i32⟩
  | .hbm, ⟨20, _⟩ => ⟨S128x1, .i32⟩
  | .hbm, ⟨21, _⟩ => ⟨S128x512, .i32⟩
  | .hbm, ⟨22, _⟩ => ⟨S128x512, .i32⟩
  | .hbm, ⟨23, _⟩ => ⟨S128x512, .i1⟩
  | .hbm, ⟨24, _⟩ => ⟨S_, .i32⟩
  | .hbm, ⟨25, _⟩ => ⟨S1x512, .i32⟩
  | .hbm, ⟨26, _⟩ => ⟨S1x512, .i32⟩
  | .hbm, ⟨27, _⟩ => ⟨S128x512, .i32⟩
  | .hbm, ⟨28, _⟩ => ⟨S128x512, .i32⟩
  | .hbm, ⟨29, _⟩ => ⟨S128x512, .i1⟩
  | .hbm, ⟨30, _⟩ => ⟨S128x512, .i1⟩
  | .hbm, ⟨31, _⟩ => ⟨S512, .i32⟩
  | .hbm, ⟨32, _⟩ => ⟨S1x512, .i32⟩
  | .hbm, ⟨33, _⟩ => ⟨S_, .i32⟩
  | .hbm, ⟨34, _⟩ => ⟨S1x512, .i32⟩
  | .hbm, ⟨35, _⟩ => ⟨S1x512, .i1⟩
  | .hbm, ⟨36, _⟩ => ⟨S128x512, .i1⟩
  | .hbm, ⟨37, _⟩ => ⟨S128x512, .i1⟩
  | .hbm, ⟨38, _⟩ => ⟨S128x512, .f32⟩
  | .hbm, ⟨39, _⟩ => ⟨S128x512, .bf16⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2x8192x512, .f32⟩
  | .hbm, ⟨45, _⟩ => ⟨S2x8192x512, .f32⟩
  | .hbm, ⟨46, _⟩ => ⟨S2x8192x512, .bf16⟩
  | .hbm, ⟨47, _⟩ => ⟨S_, .i32⟩
  | .hbm, ⟨48, _⟩ => ⟨S_, .f32⟩
  | .hbm, ⟨49, _⟩ => ⟨S2x8192x32, .f32⟩
  | .hbm, ⟨50, _⟩ => ⟨S2x32x8192, .f32⟩
  | .hbm, ⟨51, _⟩ => ⟨S2x512x128, .bf16⟩
  | .hbm, ⟨52, _⟩ => ⟨S2x128x512, .f32⟩
  | .hbm, ⟨53, _⟩ => ⟨S2x128x512, .bf16⟩
  | .hbm, ⟨54, _⟩ => ⟨S2x8192x128, .bf16⟩
  | .hbm, ⟨55, _⟩ => ⟨S2x128x8192, .f32⟩
  | .hbm, ⟨56, _⟩ => ⟨S2x128x8192, .bf16⟩
  | .hbm, ⟨57, _⟩ => ⟨S2x8192x128, .bf16⟩
  | .hbm, ⟨58, _⟩ => ⟨S2x128x8192, .f32⟩
  | .hbm, ⟨59, _⟩ => ⟨S2x128x8192, .bf16⟩
  | .hbm, ⟨60, _⟩ => ⟨S512, .i32⟩
  | .hbm, ⟨61, _⟩ => ⟨S512x1, .i32⟩
  | .hbm, ⟨62, _⟩ => ⟨S_, .i32⟩
  | .hbm, ⟨63, _⟩ => ⟨S_, .i32⟩
  | .hbm, ⟨64, _⟩ => ⟨S512x1, .i32⟩
  | .hbm, ⟨65, _⟩ => ⟨S512x1, .i32⟩
  | .hbm, ⟨66, _⟩ => ⟨S512x1, .i32⟩
  | .hbm, ⟨67, _⟩ => ⟨S_, .i32⟩
  | .hbm, ⟨68, _⟩ => ⟨S512x1, .i32⟩
  | .hbm, ⟨69, _⟩ => ⟨S512x1, .i1⟩
  | .hbm, ⟨70, _⟩ => ⟨S512x1, .i32⟩
  | .hbm, ⟨71, _⟩ => ⟨S512x1, .i32⟩
  | .hbm, ⟨72, _⟩ => ⟨S_, .i32⟩
  | .hbm, ⟨73, _⟩ => ⟨S512x1, .i32⟩
  | .hbm, ⟨74, _⟩ => ⟨S512x1, .i1⟩
  | .hbm, ⟨75, _⟩ => ⟨S512x1, .i1⟩
  | .hbm, ⟨76, _⟩ => ⟨S_, .i32⟩
  | .hbm, ⟨77, _⟩ => ⟨S512x1, .i32⟩
  | .hbm, ⟨78, _⟩ => ⟨S512x1, .i32⟩
  | .hbm, ⟨79, _⟩ => ⟨S512x1, .i32⟩
  | .hbm, ⟨80, _⟩ => ⟨S128, .i32⟩
  | .hbm, ⟨81, _⟩ => ⟨S1x128, .i32⟩
  | .hbm, ⟨82, _⟩ => ⟨S512x128, .i32⟩
  | .hbm, ⟨83, _⟩ => ⟨S512x128, .i32⟩
  | .hbm, ⟨84, _⟩ => ⟨S512x128, .i1⟩
  | .hbm, ⟨85, _⟩ => ⟨S512x128, .f32⟩
  | .hbm, ⟨86, _⟩ => ⟨S512x128, .bf16⟩
  | .hbm, ⟨87, _⟩ => ⟨S2x8192x512, .f32⟩
  | .local _ .vmem, ⟨0, _⟩ => ⟨S1x128x512, .bf16⟩
  | .local _ .vmem, ⟨1, _⟩ => ⟨S1x128x512, .bf16⟩
  | .local _ .vmem, ⟨2, _⟩ => ⟨S1x32x128, .f32⟩
  | .local _ .vmem, ⟨3, _⟩ => ⟨S1x32x128, .f32⟩
  | .local _ .vmem, ⟨4, _⟩ => ⟨S1x512x128, .bf16⟩
  | .local _ .vmem, ⟨5, _⟩ => ⟨S1x512x128, .bf16⟩
  | .local _ .vmem, ⟨6, _⟩ => ⟨S1x128x512, .bf16⟩
  | .local _ .vmem, ⟨7, _⟩ => ⟨S1x128x512, .bf16⟩
  | .local _ .vmem, ⟨8, _⟩ => ⟨S1x8192x128, .bf16⟩
  | .local _ .vmem, ⟨9, _⟩ => ⟨S1x8192x128, .bf16⟩
  | .local _ .vmem, ⟨10, _⟩ => ⟨S1x128x8192, .bf16⟩
  | .local _ .vmem, ⟨11, _⟩ => ⟨S1x128x8192, .bf16⟩
  | .local _ .vmem, ⟨12, _⟩ => ⟨S1x8192x128, .bf16⟩
  | .local _ .vmem, ⟨13, _⟩ => ⟨S1x8192x128, .bf16⟩
  | .local _ .vmem, ⟨14, _⟩ => ⟨S1x128x8192, .bf16⟩
  | .local _ .vmem, ⟨15, _⟩ => ⟨S1x128x8192, .bf16⟩
  | .local _ .vmem, ⟨16, _⟩ => ⟨S128x512, .bf16⟩
  | .local _ .vmem, ⟨17, _⟩ => ⟨S512x128, .bf16⟩
  | .local _ .vmem, ⟨18, _⟩ => ⟨S1x128x512, .f32⟩
  | .local _ .vmem, ⟨19, _⟩ => ⟨S1x128x512, .f32⟩
  | .local _ .vmem, ⟨20, _⟩ => ⟨S128x256, .f32⟩
  | .local _ .vmem, ⟨21, _⟩ => ⟨S512x1024, .f32⟩
  | .local _ .vmem, ⟨22, _⟩ => ⟨S512x1024, .f32⟩
  | .local _ .vmem, ⟨23, _⟩ => ⟨S2x80x512, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_c_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_call0_v0 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_6 : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_c : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_0 : Ref sig .tc := ⟨.hbm, 76, rfl⟩
abbrev main_call1_v12 : Ref sig .tc := ⟨.hbm, 77, rfl⟩
abbrev main_call1_v13 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![2, 64], ![false, false]⟩

def k0_mult1 (i : grid0.Coords) : BitVec 32 :=
  let arg1 : BitVec 32 := BitVec.ofNat 32 (i 1).val
  let c128_i32 : BitVec 32 := 128#32
  let v0 : BitVec 32 := Scalar.muli arg1 c128_i32
  let c512_i32 : BitVec 32 := 512#32
  let v95 : BitVec 32 := Scalar.subi v0 c512_i32
  let c0_i32_27 : BitVec 32 := 0#32
  let v96 : BitVec 32 := Scalar.maxsi v95 c0_i32_27
  v96
def k0_off1 (i : grid0.Coords) : Fin 3 → Nat :=
  let c0_28 : Index := 0#32
  let arg1 : BitVec 32 := BitVec.ofNat 32 (i 1).val
  let c128_i32 : BitVec 32 := 128#32
  let v0 : BitVec 32 := Scalar.muli arg1 c128_i32
  let c512_i32 : BitVec 32 := 512#32
  let v95 : BitVec 32 := Scalar.subi v0 c512_i32
  let c0_i32_27 : BitVec 32 := 0#32
  let v96 : BitVec 32 := Scalar.maxsi v95 c0_i32_27
  let v97 : BitVec 32 := v96
  let v98 : Index := Scalar.indexCast v97
  let c0_29 : Index := 0#32
  ![0, v98.toNat, 0]
def k0_off2 (i : grid0.Coords) : Fin 3 → Nat :=
  let c0_35 : Index := 0#32
  let c0_36 : Index := 0#32
  let arg1 : BitVec 32 := BitVec.ofNat 32 (i 1).val
  let c128_i32 : BitVec 32 := 128#32
  let v0 : BitVec 32 := Scalar.muli arg1 c128_i32
  let c512_i32 : BitVec 32 := 512#32
  let v95 : BitVec 32 := Scalar.subi v0 c512_i32
  let c0_i32_27 : BitVec 32 := 0#32
  let v96 : BitVec 32 := Scalar.maxsi v95 c0_i32_27
  let v97 : BitVec 32 := v96
  let v127 : Index := Scalar.indexCast v97
  ![0, 0, v127.toNat]
def k0_off3 (i : grid0.Coords) : Fin 3 → Nat :=
  let c0_39 : Index := 0#32
  let c64 : Index := 64#32
  let arg1 : BitVec 32 := BitVec.ofNat 32 (i 1).val
  let c128_i32 : BitVec 32 := 128#32
  let v0 : BitVec 32 := Scalar.muli arg1 c128_i32
  let c512_i32 : BitVec 32 := 512#32
  let v95 : BitVec 32 := Scalar.subi v0 c512_i32
  let c0_i32_27 : BitVec 32 := 0#32
  let v96 : BitVec 32 := Scalar.maxsi v95 c0_i32_27
  let v97 : BitVec 32 := v96
  let v143 : Index := Scalar.indexCast v97
  ![0, 64, v143.toNat]
def k0_mult2 : BitVec 32 :=
  let c0_i32_138 : BitVec 32 := 0#32
  c0_i32_138
def k0_mult3 : BitVec 32 :=
  let c0_i32_139 : BitVec 32 := 0#32
  c0_i32_139
@[reducible] def k0_t1_loop (i : grid0.Coords) : Scf.Loop 32 :=
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_153 : BitVec 32 := 1#32
  ⟨c0_i32_151, v454, c1_i32_153⟩
def k0_mult4 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c0_i32_228 : BitVec 32 := 0#32
  let v635 : BitVec 32 := Scalar.addi v634 c0_i32_228
  let c1_i32_229 : BitVec 32 := 1#32
  let v636 : BitVec 32 := Scalar.addi v635 c1_i32_229
  let c512_i32_230 : BitVec 32 := 512#32
  let v637 : BitVec 32 := Scalar.muli v636 c512_i32_230
  v637
def k0_mult5 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c0_i32_228 : BitVec 32 := 0#32
  let v635 : BitVec 32 := Scalar.addi v634 c0_i32_228
  let c1_i32_229 : BitVec 32 := 1#32
  let v636 : BitVec 32 := Scalar.addi v635 c1_i32_229
  let c8_i32 : BitVec 32 := 8#32
  let v639 : BitVec 32 := Scalar.muli v636 c8_i32
  v639
def k0_off4 (i : grid0.Coords) (k0_t1 : Fin (k0_t1_loop i).trips) (c0_i32_228 : BitVec 32) : Fin 2 → Nat :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let v635 : BitVec 32 := Scalar.addi v634 c0_i32_228
  let c1_i32_229 : BitVec 32 := 1#32
  let v636 : BitVec 32 := Scalar.addi v635 c1_i32_229
  let c8_i32 : BitVec 32 := 8#32
  let v639 : BitVec 32 := Scalar.muli v636 c8_i32
  let v640 : BitVec 32 := v639
  let v641 : Index := Scalar.indexCast v640
  let c0_231 : Index := 0#32
  ![v641.toNat, 0]
def k0_off5 (i : grid0.Coords) (k0_t1 : Fin (k0_t1_loop i).trips) (c0_i32_228 : BitVec 32) : Fin 3 → Nat :=
  let c0_234 : Index := 0#32
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let v635 : BitVec 32 := Scalar.addi v634 c0_i32_228
  let c1_i32_229 : BitVec 32 := 1#32
  let v636 : BitVec 32 := Scalar.addi v635 c1_i32_229
  let c512_i32_230 : BitVec 32 := 512#32
  let v637 : BitVec 32 := Scalar.muli v636 c512_i32_230
  let v638 : BitVec 32 := v637
  let v657 : Index := Scalar.indexCast v638
  let c0_235 : Index := 0#32
  ![0, v657.toNat, 0]
def k0_mult6 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c0_i32_242 : BitVec 32 := 0#32
  let v669 : BitVec 32 := Scalar.addi v634 c0_i32_242
  let c512_i32_243 : BitVec 32 := 512#32
  let v670 : BitVec 32 := Scalar.muli v669 c512_i32_243
  v670
def k0_off6 (i : grid0.Coords) (k0_t1 : Fin (k0_t1_loop i).trips) (c0_i32_242 : BitVec 32) : Fin 3 → Nat :=
  let c0_246 : Index := 0#32
  let c0_247 : Index := 0#32
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let v669 : BitVec 32 := Scalar.addi v634 c0_i32_242
  let c512_i32_243 : BitVec 32 := 512#32
  let v670 : BitVec 32 := Scalar.muli v669 c512_i32_243
  let v671 : BitVec 32 := v670
  let v681 : Index := Scalar.indexCast v671
  ![0, 0, v681.toNat]
def k0_off7 (i : grid0.Coords) (k0_t1 : Fin (k0_t1_loop i).trips) (c0_i32_242 : BitVec 32) : Fin 3 → Nat :=
  let c0_257 : Index := 0#32
  let c64_258 : Index := 64#32
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let v669 : BitVec 32 := Scalar.addi v634 c0_i32_242
  let c512_i32_243 : BitVec 32 := 512#32
  let v670 : BitVec 32 := Scalar.muli v669 c512_i32_243
  let v671 : BitVec 32 := v670
  let v702 : Index := Scalar.indexCast v671
  ![0, 64, v702.toNat]
def k0_mult7 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c1_i32_267 : BitVec 32 := 1#32
  let v717 : BitVec 32 := Scalar.addi v634 c1_i32_267
  let c1_i32_268 : BitVec 32 := 1#32
  let v718 : BitVec 32 := Scalar.addi v717 c1_i32_268
  let c512_i32_269 : BitVec 32 := 512#32
  let v719 : BitVec 32 := Scalar.muli v718 c512_i32_269
  v719
def k0_mult8 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c1_i32_267 : BitVec 32 := 1#32
  let v717 : BitVec 32 := Scalar.addi v634 c1_i32_267
  let c1_i32_268 : BitVec 32 := 1#32
  let v718 : BitVec 32 := Scalar.addi v717 c1_i32_268
  let c8_i32_270 : BitVec 32 := 8#32
  let v721 : BitVec 32 := Scalar.muli v718 c8_i32_270
  v721
def k0_mult9 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c1_i32_282 : BitVec 32 := 1#32
  let v751 : BitVec 32 := Scalar.addi v634 c1_i32_282
  let c512_i32_283 : BitVec 32 := 512#32
  let v752 : BitVec 32 := Scalar.muli v751 c512_i32_283
  v752
def k0_mult10 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c2_i32_308 : BitVec 32 := 2#32
  let v799 : BitVec 32 := Scalar.addi v634 c2_i32_308
  let c1_i32_309 : BitVec 32 := 1#32
  let v800 : BitVec 32 := Scalar.addi v799 c1_i32_309
  let c512_i32_310 : BitVec 32 := 512#32
  let v801 : BitVec 32 := Scalar.muli v800 c512_i32_310
  v801
def k0_mult11 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c2_i32_308 : BitVec 32 := 2#32
  let v799 : BitVec 32 := Scalar.addi v634 c2_i32_308
  let c1_i32_309 : BitVec 32 := 1#32
  let v800 : BitVec 32 := Scalar.addi v799 c1_i32_309
  let c8_i32_311 : BitVec 32 := 8#32
  let v803 : BitVec 32 := Scalar.muli v800 c8_i32_311
  v803
def k0_mult12 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c2_i32_323 : BitVec 32 := 2#32
  let v833 : BitVec 32 := Scalar.addi v634 c2_i32_323
  let c512_i32_324 : BitVec 32 := 512#32
  let v834 : BitVec 32 := Scalar.muli v833 c512_i32_324
  v834
def k0_mult13 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c3_i32_349 : BitVec 32 := 3#32
  let v881 : BitVec 32 := Scalar.addi v634 c3_i32_349
  let c1_i32_350 : BitVec 32 := 1#32
  let v882 : BitVec 32 := Scalar.addi v881 c1_i32_350
  let c512_i32_351 : BitVec 32 := 512#32
  let v883 : BitVec 32 := Scalar.muli v882 c512_i32_351
  v883
def k0_mult14 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c3_i32_349 : BitVec 32 := 3#32
  let v881 : BitVec 32 := Scalar.addi v634 c3_i32_349
  let c1_i32_350 : BitVec 32 := 1#32
  let v882 : BitVec 32 := Scalar.addi v881 c1_i32_350
  let c8_i32_352 : BitVec 32 := 8#32
  let v885 : BitVec 32 := Scalar.muli v882 c8_i32_352
  v885
def k0_mult15 (i : grid0.Coords) (k0_t1 : Fin (k0_t1_loop i).trips) : BitVec 32 :=
  let c4_i32_227 : BitVec 32 := 4#32
  let c0_i32_151 : BitVec 32 := 0#32
  let c1_i32_153 : BitVec 32 := 1#32
  let arg17 : BitVec 32 := Scf.iv c0_i32_151 c1_i32_153 k0_t1
  let v634 : BitVec 32 := Scalar.muli c4_i32_227 arg17
  let c3_i32_364 : BitVec 32 := 3#32
  let v915 : BitVec 32 := Scalar.addi v634 c3_i32_364
  let c512_i32_365 : BitVec 32 := 512#32
  let v916 : BitVec 32 := Scalar.muli v915 c512_i32_365
  v916
@[reducible] def k0_t2_loop (i : grid0.Coords) : Scf.Loop 32 :=
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let v451 : BitVec 32 := Scalar.addi c0_i32_151 v450
  let c1_i32_154 : BitVec 32 := 1#32
  ⟨v454, v451, c1_i32_154⟩
def k0_mult16 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c0_i32_228 : BitVec 32 := 0#32
  let v635 : BitVec 32 := Scalar.addi v634 c0_i32_228
  let c1_i32_229 : BitVec 32 := 1#32
  let v636 : BitVec 32 := Scalar.addi v635 c1_i32_229
  let c512_i32_230 : BitVec 32 := 512#32
  let v637 : BitVec 32 := Scalar.muli v636 c512_i32_230
  v637
def k0_mult17 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c0_i32_228 : BitVec 32 := 0#32
  let v635 : BitVec 32 := Scalar.addi v634 c0_i32_228
  let c1_i32_229 : BitVec 32 := 1#32
  let v636 : BitVec 32 := Scalar.addi v635 c1_i32_229
  let c8_i32 : BitVec 32 := 8#32
  let v639 : BitVec 32 := Scalar.muli v636 c8_i32
  v639
def k0_off8 (i : grid0.Coords) (k0_t2 : Fin (k0_t2_loop i).trips) (c0_i32_228 : BitVec 32) : Fin 2 → Nat :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let v635 : BitVec 32 := Scalar.addi v634 c0_i32_228
  let c1_i32_229 : BitVec 32 := 1#32
  let v636 : BitVec 32 := Scalar.addi v635 c1_i32_229
  let c8_i32 : BitVec 32 := 8#32
  let v639 : BitVec 32 := Scalar.muli v636 c8_i32
  let v640 : BitVec 32 := v639
  let v641 : Index := Scalar.indexCast v640
  let c0_231 : Index := 0#32
  ![v641.toNat, 0]
def k0_off9 (i : grid0.Coords) (k0_t2 : Fin (k0_t2_loop i).trips) (c0_i32_228 : BitVec 32) : Fin 3 → Nat :=
  let c0_234 : Index := 0#32
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let v635 : BitVec 32 := Scalar.addi v634 c0_i32_228
  let c1_i32_229 : BitVec 32 := 1#32
  let v636 : BitVec 32 := Scalar.addi v635 c1_i32_229
  let c512_i32_230 : BitVec 32 := 512#32
  let v637 : BitVec 32 := Scalar.muli v636 c512_i32_230
  let v638 : BitVec 32 := v637
  let v657 : Index := Scalar.indexCast v638
  let c0_235 : Index := 0#32
  ![0, v657.toNat, 0]
def k0_mult18 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c0_i32_242 : BitVec 32 := 0#32
  let v669 : BitVec 32 := Scalar.addi v634 c0_i32_242
  let c512_i32_243 : BitVec 32 := 512#32
  let v670 : BitVec 32 := Scalar.muli v669 c512_i32_243
  v670
def k0_off10 (i : grid0.Coords) (k0_t2 : Fin (k0_t2_loop i).trips) (c0_i32_242 : BitVec 32) : Fin 3 → Nat :=
  let c0_246 : Index := 0#32
  let c0_247 : Index := 0#32
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let v669 : BitVec 32 := Scalar.addi v634 c0_i32_242
  let c512_i32_243 : BitVec 32 := 512#32
  let v670 : BitVec 32 := Scalar.muli v669 c512_i32_243
  let v671 : BitVec 32 := v670
  let v681 : Index := Scalar.indexCast v671
  ![0, 0, v681.toNat]
def k0_off11 (i : grid0.Coords) (k0_t2 : Fin (k0_t2_loop i).trips) (c0_i32_242 : BitVec 32) : Fin 3 → Nat :=
  let c0_257 : Index := 0#32
  let c64_258 : Index := 64#32
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let v669 : BitVec 32 := Scalar.addi v634 c0_i32_242
  let c512_i32_243 : BitVec 32 := 512#32
  let v670 : BitVec 32 := Scalar.muli v669 c512_i32_243
  let v671 : BitVec 32 := v670
  let v702 : Index := Scalar.indexCast v671
  ![0, 64, v702.toNat]
def k0_mult19 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c1_i32_267 : BitVec 32 := 1#32
  let v717 : BitVec 32 := Scalar.addi v634 c1_i32_267
  let c1_i32_268 : BitVec 32 := 1#32
  let v718 : BitVec 32 := Scalar.addi v717 c1_i32_268
  let c512_i32_269 : BitVec 32 := 512#32
  let v719 : BitVec 32 := Scalar.muli v718 c512_i32_269
  v719
def k0_mult20 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c1_i32_267 : BitVec 32 := 1#32
  let v717 : BitVec 32 := Scalar.addi v634 c1_i32_267
  let c1_i32_268 : BitVec 32 := 1#32
  let v718 : BitVec 32 := Scalar.addi v717 c1_i32_268
  let c8_i32_270 : BitVec 32 := 8#32
  let v721 : BitVec 32 := Scalar.muli v718 c8_i32_270
  v721
def k0_mult21 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c1_i32_282 : BitVec 32 := 1#32
  let v751 : BitVec 32 := Scalar.addi v634 c1_i32_282
  let c512_i32_283 : BitVec 32 := 512#32
  let v752 : BitVec 32 := Scalar.muli v751 c512_i32_283
  v752
def k0_mult22 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c2_i32_308 : BitVec 32 := 2#32
  let v799 : BitVec 32 := Scalar.addi v634 c2_i32_308
  let c1_i32_309 : BitVec 32 := 1#32
  let v800 : BitVec 32 := Scalar.addi v799 c1_i32_309
  let c512_i32_310 : BitVec 32 := 512#32
  let v801 : BitVec 32 := Scalar.muli v800 c512_i32_310
  v801
def k0_mult23 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c2_i32_308 : BitVec 32 := 2#32
  let v799 : BitVec 32 := Scalar.addi v634 c2_i32_308
  let c1_i32_309 : BitVec 32 := 1#32
  let v800 : BitVec 32 := Scalar.addi v799 c1_i32_309
  let c8_i32_311 : BitVec 32 := 8#32
  let v803 : BitVec 32 := Scalar.muli v800 c8_i32_311
  v803
def k0_mult24 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c2_i32_323 : BitVec 32 := 2#32
  let v833 : BitVec 32 := Scalar.addi v634 c2_i32_323
  let c512_i32_324 : BitVec 32 := 512#32
  let v834 : BitVec 32 := Scalar.muli v833 c512_i32_324
  v834
def k0_mult25 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c3_i32_349 : BitVec 32 := 3#32
  let v881 : BitVec 32 := Scalar.addi v634 c3_i32_349
  let c1_i32_350 : BitVec 32 := 1#32
  let v882 : BitVec 32 := Scalar.addi v881 c1_i32_350
  let c512_i32_351 : BitVec 32 := 512#32
  let v883 : BitVec 32 := Scalar.muli v882 c512_i32_351
  v883
def k0_mult26 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c3_i32_349 : BitVec 32 := 3#32
  let v881 : BitVec 32 := Scalar.addi v634 c3_i32_349
  let c1_i32_350 : BitVec 32 := 1#32
  let v882 : BitVec 32 := Scalar.addi v881 c1_i32_350
  let c8_i32_352 : BitVec 32 := 8#32
  let v885 : BitVec 32 := Scalar.muli v882 c8_i32_352
  v885
def k0_mult27 (i : grid0.Coords) (k0_t2 : Fin (k0_t2_loop i).trips) : BitVec 32 :=
  let c4_i32_227 : BitVec 32 := 4#32
  let c0_i32_151 : BitVec 32 := 0#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v450 : BitVec 32 := Scalar.subi v418 c0_i32_151
  let c1_i32_152 : BitVec 32 := 1#32
  let v452 : BitVec 32 := Scalar.divsi v450 c1_i32_152
  let v453 : BitVec 32 := Scalar.muli v452 c1_i32_152
  let v454 : BitVec 32 := Scalar.addi c0_i32_151 v453
  let c1_i32_154 : BitVec 32 := 1#32
  let arg17 : BitVec 32 := Scf.iv v454 c1_i32_154 k0_t2
  let v634 : BitVec 32 := Scalar.muli c4_i32_227 arg17
  let c3_i32_364 : BitVec 32 := 3#32
  let v915 : BitVec 32 := Scalar.addi v634 c3_i32_364
  let c512_i32_365 : BitVec 32 := 512#32
  let v916 : BitVec 32 := Scalar.muli v915 c512_i32_365
  v916
def k0_cond4 (i : grid0.Coords) : BitVec 1 :=
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c4_i32_155 : BitVec 32 := 4#32
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v458 : BitVec 32 := Scalar.subi v401 v457
  let c0_i32_156 : BitVec 32 := 0#32
  let v459 : BitVec 1 := Scalar.cmpi .eq v458 c0_i32_156
  let v460 : BitVec 32 := Scalar.extui v459
  let c0_i32_157 : BitVec 32 := 0#32
  let v461 : BitVec 1 := Scalar.cmpi .ne v460 c0_i32_157
  v461

def k0_mult28 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c512_i32_228 : BitVec 32 := 512#32
  let v635 : BitVec 32 := Scalar.muli v634 c512_i32_228
  v635
def k0_mult29 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c512_i32_235 : BitVec 32 := 512#32
  let v650 : BitVec 32 := Scalar.muli v634 c512_i32_235
  v650
def k0_off12 (i : grid0.Coords) : Fin 3 → Nat :=
  let c0_238 : Index := 0#32
  let c0_239 : Index := 0#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c512_i32_235 : BitVec 32 := 512#32
  let v650 : BitVec 32 := Scalar.muli v634 c512_i32_235
  let v651 : BitVec 32 := v650
  let v661 : Index := Scalar.indexCast v651
  ![0, 0, v661.toNat]
def k0_off13 (i : grid0.Coords) : Fin 3 → Nat :=
  let c0_249 : Index := 0#32
  let c64_250 : Index := 64#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c512_i32_235 : BitVec 32 := 512#32
  let v650 : BitVec 32 := Scalar.muli v634 c512_i32_235
  let v651 : BitVec 32 := v650
  let v682 : Index := Scalar.indexCast v651
  ![0, 64, v682.toNat]
def k0_cond5 (i : grid0.Coords) : BitVec 1 :=
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c4_i32_155 : BitVec 32 := 4#32
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v462 : BitVec 32 := Scalar.subi v401 v457
  let c1_i32_158 : BitVec 32 := 1#32
  let v463 : BitVec 1 := Scalar.cmpi .eq v462 c1_i32_158
  let v464 : BitVec 32 := Scalar.extui v463
  let c0_i32_159 : BitVec 32 := 0#32
  let v465 : BitVec 1 := Scalar.cmpi .ne v464 c0_i32_159
  v465

def k0_mult30 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c1_i32_228 : BitVec 32 := 1#32
  let v635 : BitVec 32 := Scalar.addi v634 c1_i32_228
  let c512_i32_229 : BitVec 32 := 512#32
  let v636 : BitVec 32 := Scalar.muli v635 c512_i32_229
  v636
def k0_mult31 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c1_i32_228 : BitVec 32 := 1#32
  let v635 : BitVec 32 := Scalar.addi v634 c1_i32_228
  let c8_i32 : BitVec 32 := 8#32
  let v638 : BitVec 32 := Scalar.muli v635 c8_i32
  v638
def k0_off14 (i : grid0.Coords) : Fin 2 → Nat :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c1_i32_228 : BitVec 32 := 1#32
  let v635 : BitVec 32 := Scalar.addi v634 c1_i32_228
  let c8_i32 : BitVec 32 := 8#32
  let v638 : BitVec 32 := Scalar.muli v635 c8_i32
  let v639 : BitVec 32 := v638
  let v640 : Index := Scalar.indexCast v639
  let c0_230 : Index := 0#32
  ![v640.toNat, 0]
def k0_off15 (i : grid0.Coords) : Fin 3 → Nat :=
  let c0_233 : Index := 0#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c1_i32_228 : BitVec 32 := 1#32
  let v635 : BitVec 32 := Scalar.addi v634 c1_i32_228
  let c512_i32_229 : BitVec 32 := 512#32
  let v636 : BitVec 32 := Scalar.muli v635 c512_i32_229
  let v637 : BitVec 32 := v636
  let v656 : Index := Scalar.indexCast v637
  let c0_234 : Index := 0#32
  ![0, v656.toNat, 0]
def k0_mult32 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_240 : BitVec 32 := 0#32
  let v666 : BitVec 32 := Scalar.addi v457 c0_i32_240
  let c512_i32_241 : BitVec 32 := 512#32
  let v667 : BitVec 32 := Scalar.muli v666 c512_i32_241
  v667
def k0_off16 (i : grid0.Coords) (c0_i32_240 : BitVec 32) : Fin 3 → Nat :=
  let c0_244 : Index := 0#32
  let c0_245 : Index := 0#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v666 : BitVec 32 := Scalar.addi v457 c0_i32_240
  let c512_i32_241 : BitVec 32 := 512#32
  let v667 : BitVec 32 := Scalar.muli v666 c512_i32_241
  let v668 : BitVec 32 := v667
  let v678 : Index := Scalar.indexCast v668
  ![0, 0, v678.toNat]
def k0_off17 (i : grid0.Coords) (c0_i32_240 : BitVec 32) : Fin 3 → Nat :=
  let c0_255 : Index := 0#32
  let c64_256 : Index := 64#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v666 : BitVec 32 := Scalar.addi v457 c0_i32_240
  let c512_i32_241 : BitVec 32 := 512#32
  let v667 : BitVec 32 := Scalar.muli v666 c512_i32_241
  let v668 : BitVec 32 := v667
  let v699 : Index := Scalar.indexCast v668
  ![0, 64, v699.toNat]
def k0_mult33 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c1_i32_265 : BitVec 32 := 1#32
  let v714 : BitVec 32 := Scalar.addi v457 c1_i32_265
  let c512_i32_266 : BitVec 32 := 512#32
  let v715 : BitVec 32 := Scalar.muli v714 c512_i32_266
  v715
def k0_mult34 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c1_i32_265 : BitVec 32 := 1#32
  let v714 : BitVec 32 := Scalar.addi v457 c1_i32_265
  let c512_i32_273 : BitVec 32 := 512#32
  let v730 : BitVec 32 := Scalar.muli v714 c512_i32_273
  v730
def k0_cond6 (i : grid0.Coords) : BitVec 1 :=
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c4_i32_155 : BitVec 32 := 4#32
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v466 : BitVec 32 := Scalar.subi v401 v457
  let c2_i32 : BitVec 32 := 2#32
  let v467 : BitVec 1 := Scalar.cmpi .eq v466 c2_i32
  let v468 : BitVec 32 := Scalar.extui v467
  let c0_i32_160 : BitVec 32 := 0#32
  let v469 : BitVec 1 := Scalar.cmpi .ne v468 c0_i32_160
  v469

def k0_mult35 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c1_i32_228 : BitVec 32 := 1#32
  let v635 : BitVec 32 := Scalar.addi v634 c1_i32_228
  let c512_i32_229 : BitVec 32 := 512#32
  let v636 : BitVec 32 := Scalar.muli v635 c512_i32_229
  v636
def k0_mult36 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c1_i32_228 : BitVec 32 := 1#32
  let v635 : BitVec 32 := Scalar.addi v634 c1_i32_228
  let c8_i32 : BitVec 32 := 8#32
  let v638 : BitVec 32 := Scalar.muli v635 c8_i32
  v638
def k0_off18 (i : grid0.Coords) (c0_i32_227 : BitVec 32) : Fin 2 → Nat :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v634 : BitVec 32 := Scalar.addi v457 c0_i32_227
  let c1_i32_228 : BitVec 32 := 1#32
  let v635 : BitVec 32 := Scalar.addi v634 c1_i32_228
  let c8_i32 : BitVec 32 := 8#32
  let v638 : BitVec 32 := Scalar.muli v635 c8_i32
  let v639 : BitVec 32 := v638
  let v640 : Index := Scalar.indexCast v639
  let c0_230 : Index := 0#32
  ![v640.toNat, 0]
def k0_off19 (i : grid0.Coords) (c0_i32_227 : BitVec 32) : Fin 3 → Nat :=
  let c0_233 : Index := 0#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v634 : BitVec 32 := Scalar.addi v457 c0_i32_227
  let c1_i32_228 : BitVec 32 := 1#32
  let v635 : BitVec 32 := Scalar.addi v634 c1_i32_228
  let c512_i32_229 : BitVec 32 := 512#32
  let v636 : BitVec 32 := Scalar.muli v635 c512_i32_229
  let v637 : BitVec 32 := v636
  let v656 : Index := Scalar.indexCast v637
  let c0_234 : Index := 0#32
  ![0, v656.toNat, 0]
def k0_mult37 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_241 : BitVec 32 := 0#32
  let v668 : BitVec 32 := Scalar.addi v457 c0_i32_241
  let c512_i32_242 : BitVec 32 := 512#32
  let v669 : BitVec 32 := Scalar.muli v668 c512_i32_242
  v669
def k0_off20 (i : grid0.Coords) (c0_i32_241 : BitVec 32) : Fin 3 → Nat :=
  let c0_245 : Index := 0#32
  let c0_246 : Index := 0#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v668 : BitVec 32 := Scalar.addi v457 c0_i32_241
  let c512_i32_242 : BitVec 32 := 512#32
  let v669 : BitVec 32 := Scalar.muli v668 c512_i32_242
  let v670 : BitVec 32 := v669
  let v680 : Index := Scalar.indexCast v670
  ![0, 0, v680.toNat]
def k0_off21 (i : grid0.Coords) (c0_i32_241 : BitVec 32) : Fin 3 → Nat :=
  let c0_256 : Index := 0#32
  let c64_257 : Index := 64#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v668 : BitVec 32 := Scalar.addi v457 c0_i32_241
  let c512_i32_242 : BitVec 32 := 512#32
  let v669 : BitVec 32 := Scalar.muli v668 c512_i32_242
  let v670 : BitVec 32 := v669
  let v701 : Index := Scalar.indexCast v670
  ![0, 64, v701.toNat]
def k0_mult38 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c1_i32_266 : BitVec 32 := 1#32
  let v716 : BitVec 32 := Scalar.addi v457 c1_i32_266
  let c1_i32_267 : BitVec 32 := 1#32
  let v717 : BitVec 32 := Scalar.addi v716 c1_i32_267
  let c512_i32_268 : BitVec 32 := 512#32
  let v718 : BitVec 32 := Scalar.muli v717 c512_i32_268
  v718
def k0_mult39 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c1_i32_266 : BitVec 32 := 1#32
  let v716 : BitVec 32 := Scalar.addi v457 c1_i32_266
  let c1_i32_267 : BitVec 32 := 1#32
  let v717 : BitVec 32 := Scalar.addi v716 c1_i32_267
  let c8_i32_269 : BitVec 32 := 8#32
  let v720 : BitVec 32 := Scalar.muli v717 c8_i32_269
  v720
def k0_mult40 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c1_i32_280 : BitVec 32 := 1#32
  let v748 : BitVec 32 := Scalar.addi v457 c1_i32_280
  let c512_i32_281 : BitVec 32 := 512#32
  let v749 : BitVec 32 := Scalar.muli v748 c512_i32_281
  v749
def k0_mult41 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c2_i32_306 : BitVec 32 := 2#32
  let v796 : BitVec 32 := Scalar.addi v457 c2_i32_306
  let c512_i32_307 : BitVec 32 := 512#32
  let v797 : BitVec 32 := Scalar.muli v796 c512_i32_307
  v797
def k0_mult42 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c2_i32_306 : BitVec 32 := 2#32
  let v796 : BitVec 32 := Scalar.addi v457 c2_i32_306
  let c512_i32_314 : BitVec 32 := 512#32
  let v812 : BitVec 32 := Scalar.muli v796 c512_i32_314
  v812
def k0_cond7 (i : grid0.Coords) : BitVec 1 :=
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c4_i32_155 : BitVec 32 := 4#32
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v470 : BitVec 32 := Scalar.subi v401 v457
  let c3_i32_161 : BitVec 32 := 3#32
  let v471 : BitVec 1 := Scalar.cmpi .eq v470 c3_i32_161
  let v472 : BitVec 32 := Scalar.extui v471
  let c0_i32_162 : BitVec 32 := 0#32
  let v473 : BitVec 1 := Scalar.cmpi .ne v472 c0_i32_162
  v473

def k0_mult43 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c1_i32_228 : BitVec 32 := 1#32
  let v635 : BitVec 32 := Scalar.addi v634 c1_i32_228
  let c512_i32_229 : BitVec 32 := 512#32
  let v636 : BitVec 32 := Scalar.muli v635 c512_i32_229
  v636
def k0_mult44 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_227 : BitVec 32 := 0#32
  let v634 : BitVec 32 := Scalar.addi v457 c0_i32_227
  let c1_i32_228 : BitVec 32 := 1#32
  let v635 : BitVec 32 := Scalar.addi v634 c1_i32_228
  let c8_i32 : BitVec 32 := 8#32
  let v638 : BitVec 32 := Scalar.muli v635 c8_i32
  v638
def k0_off22 (i : grid0.Coords) (c0_i32_227 : BitVec 32) : Fin 2 → Nat :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v634 : BitVec 32 := Scalar.addi v457 c0_i32_227
  let c1_i32_228 : BitVec 32 := 1#32
  let v635 : BitVec 32 := Scalar.addi v634 c1_i32_228
  let c8_i32 : BitVec 32 := 8#32
  let v638 : BitVec 32 := Scalar.muli v635 c8_i32
  let v639 : BitVec 32 := v638
  let v640 : Index := Scalar.indexCast v639
  let c0_230 : Index := 0#32
  ![v640.toNat, 0]
def k0_off23 (i : grid0.Coords) (c0_i32_227 : BitVec 32) : Fin 3 → Nat :=
  let c0_233 : Index := 0#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v634 : BitVec 32 := Scalar.addi v457 c0_i32_227
  let c1_i32_228 : BitVec 32 := 1#32
  let v635 : BitVec 32 := Scalar.addi v634 c1_i32_228
  let c512_i32_229 : BitVec 32 := 512#32
  let v636 : BitVec 32 := Scalar.muli v635 c512_i32_229
  let v637 : BitVec 32 := v636
  let v656 : Index := Scalar.indexCast v637
  let c0_234 : Index := 0#32
  ![0, v656.toNat, 0]
def k0_mult45 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c0_i32_241 : BitVec 32 := 0#32
  let v668 : BitVec 32 := Scalar.addi v457 c0_i32_241
  let c512_i32_242 : BitVec 32 := 512#32
  let v669 : BitVec 32 := Scalar.muli v668 c512_i32_242
  v669
def k0_off24 (i : grid0.Coords) (c0_i32_241 : BitVec 32) : Fin 3 → Nat :=
  let c0_245 : Index := 0#32
  let c0_246 : Index := 0#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v668 : BitVec 32 := Scalar.addi v457 c0_i32_241
  let c512_i32_242 : BitVec 32 := 512#32
  let v669 : BitVec 32 := Scalar.muli v668 c512_i32_242
  let v670 : BitVec 32 := v669
  let v680 : Index := Scalar.indexCast v670
  ![0, 0, v680.toNat]
def k0_off25 (i : grid0.Coords) (c0_i32_241 : BitVec 32) : Fin 3 → Nat :=
  let c0_256 : Index := 0#32
  let c64_257 : Index := 64#32
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let v668 : BitVec 32 := Scalar.addi v457 c0_i32_241
  let c512_i32_242 : BitVec 32 := 512#32
  let v669 : BitVec 32 := Scalar.muli v668 c512_i32_242
  let v670 : BitVec 32 := v669
  let v701 : Index := Scalar.indexCast v670
  ![0, 64, v701.toNat]
def k0_mult46 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c1_i32_266 : BitVec 32 := 1#32
  let v716 : BitVec 32 := Scalar.addi v457 c1_i32_266
  let c1_i32_267 : BitVec 32 := 1#32
  let v717 : BitVec 32 := Scalar.addi v716 c1_i32_267
  let c512_i32_268 : BitVec 32 := 512#32
  let v718 : BitVec 32 := Scalar.muli v717 c512_i32_268
  v718
def k0_mult47 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c1_i32_266 : BitVec 32 := 1#32
  let v716 : BitVec 32 := Scalar.addi v457 c1_i32_266
  let c1_i32_267 : BitVec 32 := 1#32
  let v717 : BitVec 32 := Scalar.addi v716 c1_i32_267
  let c8_i32_269 : BitVec 32 := 8#32
  let v720 : BitVec 32 := Scalar.muli v717 c8_i32_269
  v720
def k0_mult48 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c1_i32_281 : BitVec 32 := 1#32
  let v750 : BitVec 32 := Scalar.addi v457 c1_i32_281
  let c512_i32_282 : BitVec 32 := 512#32
  let v751 : BitVec 32 := Scalar.muli v750 c512_i32_282
  v751
def k0_mult49 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c2_i32_307 : BitVec 32 := 2#32
  let v798 : BitVec 32 := Scalar.addi v457 c2_i32_307
  let c1_i32_308 : BitVec 32 := 1#32
  let v799 : BitVec 32 := Scalar.addi v798 c1_i32_308
  let c512_i32_309 : BitVec 32 := 512#32
  let v800 : BitVec 32 := Scalar.muli v799 c512_i32_309
  v800
def k0_mult50 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c2_i32_307 : BitVec 32 := 2#32
  let v798 : BitVec 32 := Scalar.addi v457 c2_i32_307
  let c1_i32_308 : BitVec 32 := 1#32
  let v799 : BitVec 32 := Scalar.addi v798 c1_i32_308
  let c8_i32_310 : BitVec 32 := 8#32
  let v802 : BitVec 32 := Scalar.muli v799 c8_i32_310
  v802
def k0_mult51 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c2_i32_321 : BitVec 32 := 2#32
  let v830 : BitVec 32 := Scalar.addi v457 c2_i32_321
  let c512_i32_322 : BitVec 32 := 512#32
  let v831 : BitVec 32 := Scalar.muli v830 c512_i32_322
  v831
def k0_mult52 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c3_i32_347 : BitVec 32 := 3#32
  let v878 : BitVec 32 := Scalar.addi v457 c3_i32_347
  let c512_i32_348 : BitVec 32 := 512#32
  let v879 : BitVec 32 := Scalar.muli v878 c512_i32_348
  v879
def k0_mult53 (i : grid0.Coords) : BitVec 32 :=
  let c4_i32_155 : BitVec 32 := 4#32
  let arg1 : BitVec 32 := BitVec.ofNat 32 (i 1).val
  let c128_i32 : BitVec 32 := 128#32
  let v0 : BitVec 32 := Scalar.muli arg1 c128_i32
  let c0_i32_125 : BitVec 32 := 0#32
  let v386 : BitVec 1 := Scalar.cmpi .sgt v0 c0_i32_125
  let v387 : BitVec 32 := Scalar.extui v386
  let c0_i32_126 : BitVec 32 := 0#32
  let v388 : BitVec 1 := Scalar.cmpi .slt v0 c0_i32_126
  let v389 : BitVec 32 := Scalar.extui v388
  let v390 : BitVec 32 := Scalar.subi v387 v389
  let c512_i32_124 : BitVec 32 := 512#32
  let c0_i32_127 : BitVec 32 := 0#32
  let v391 : BitVec 1 := Scalar.cmpi .sgt c512_i32_124 c0_i32_127
  let v392 : BitVec 32 := Scalar.extui v391
  let c0_i32_128 : BitVec 32 := 0#32
  let v393 : BitVec 1 := Scalar.cmpi .slt c512_i32_124 c0_i32_128
  let v394 : BitVec 32 := Scalar.extui v393
  let v395 : BitVec 32 := Scalar.subi v392 v394
  let v396 : BitVec 1 := Scalar.cmpi .ne v390 v395
  let v397 : BitVec 32 := Scalar.remsi v0 c512_i32_124
  let c0_i32_129 : BitVec 32 := 0#32
  let v398 : BitVec 1 := Scalar.cmpi .ne v397 c0_i32_129
  let v399 : BitVec 1 := Scalar.andi v396 v398
  let v385 : BitVec 32 := Scalar.divsi v0 c512_i32_124
  let c1_i32_130 : BitVec 32 := 1#32
  let v400 : BitVec 32 := Scalar.subi v385 c1_i32_130
  let v401 : BitVec 32 := Scalar.select v399 v400 v385
  let c0_i32_131 : BitVec 32 := 0#32
  let v403 : BitVec 1 := Scalar.cmpi .sgt v401 c0_i32_131
  let v404 : BitVec 32 := Scalar.extui v403
  let c0_i32_132 : BitVec 32 := 0#32
  let v405 : BitVec 1 := Scalar.cmpi .slt v401 c0_i32_132
  let v406 : BitVec 32 := Scalar.extui v405
  let v407 : BitVec 32 := Scalar.subi v404 v406
  let c4_i32 : BitVec 32 := 4#32
  let c0_i32_133 : BitVec 32 := 0#32
  let v408 : BitVec 1 := Scalar.cmpi .sgt c4_i32 c0_i32_133
  let v409 : BitVec 32 := Scalar.extui v408
  let c0_i32_134 : BitVec 32 := 0#32
  let v410 : BitVec 1 := Scalar.cmpi .slt c4_i32 c0_i32_134
  let v411 : BitVec 32 := Scalar.extui v410
  let v412 : BitVec 32 := Scalar.subi v409 v411
  let v413 : BitVec 1 := Scalar.cmpi .ne v407 v412
  let v414 : BitVec 32 := Scalar.remsi v401 c4_i32
  let c0_i32_135 : BitVec 32 := 0#32
  let v415 : BitVec 1 := Scalar.cmpi .ne v414 c0_i32_135
  let v416 : BitVec 1 := Scalar.andi v413 v415
  let v402 : BitVec 32 := Scalar.divsi v401 c4_i32
  let c1_i32_136 : BitVec 32 := 1#32
  let v417 : BitVec 32 := Scalar.subi v402 c1_i32_136
  let v418 : BitVec 32 := Scalar.select v416 v417 v402
  let v457 : BitVec 32 := Scalar.muli c4_i32_155 v418
  let c3_i32_347 : BitVec 32 := 3#32
  let v878 : BitVec 32 := Scalar.addi v457 c3_i32_347
  let c512_i32_355 : BitVec 32 := 512#32
  let v894 : BitVec 32 := Scalar.muli v878 c512_i32_355
  v894
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x8192 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x8192 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S2x8192x512 : Shape := ⟨3, ![2, 8192, 512]⟩
abbrev S2x8192x24 : Shape := ⟨3, ![2, 8192, 24]⟩
abbrev S2x512x128 : Shape := ⟨3, ![2, 512, 128]⟩
abbrev S2x8192x128 : Shape := ⟨3, ![2, 8192, 128]⟩
abbrev S2x8192x2x4x64 : Shape := ⟨5, ![2, 8192, 2, 4, 64]⟩
abbrev S2x2x4x8192x64 : Shape := ⟨5, ![2, 2, 4, 8192, 64]⟩
abbrev S2x8192x2x4x3 : Shape := ⟨5, ![2, 8192, 2, 4, 3]⟩
abbrev S2x2x4x8192x3 : Shape := ⟨5, ![2, 2, 4, 8192, 3]⟩
abbrev S8192 : Shape := ⟨1, ![8192]⟩
abbrev S2x511x128 : Shape := ⟨3, ![2, 511, 128]⟩
abbrev S2x511x2x64 : Shape := ⟨4, ![2, 511, 2, 64]⟩
abbrev S2x2x511x64 : Shape := ⟨4, ![2, 2, 511, 64]⟩
abbrev S511 : Shape := ⟨1, ![511]⟩
abbrev S_ : Shape := ⟨0, ![]⟩
abbrev S2x2x4x8192x511 : Shape := ⟨5, ![2, 2, 4, 8192, 511]⟩
abbrev S1x511 : Shape := ⟨2, ![1, 511]⟩
abbrev S8192x1 : Shape := ⟨2, ![8192, 1]⟩
abbrev S8192x511 : Shape := ⟨2, ![8192, 511]⟩
abbrev S2x2x4x8192 : Shape := ⟨4, ![2, 2, 4, 8192]⟩
abbrev S2x2x4x8192x1 : Shape := ⟨5, ![2, 2, 4, 8192, 1]⟩
abbrev S128 : Shape := ⟨1, ![128]⟩
abbrev S511x1 : Shape := ⟨2, ![511, 1]⟩
abbrev S1x128 : Shape := ⟨2, ![1, 128]⟩
abbrev S511x128 : Shape := ⟨2, ![511, 128]⟩
abbrev S2x2x8192x511 : Shape := ⟨4, ![2, 2, 8192, 511]⟩
abbrev S2x2x8192x128 : Shape := ⟨4, ![2, 2, 8192, 128]⟩
abbrev S8192x128 : Shape := ⟨2, ![8192, 128]⟩
abbrev S2x2x8192x1x128 : Shape := ⟨5, ![2, 2, 8192, 1, 128]⟩
abbrev S2x2x8192x128x1 : Shape := ⟨5, ![2, 2, 8192, 128, 1]⟩
abbrev S2x2x8192x128x128 : Shape := ⟨5, ![2, 2, 8192, 128, 128]⟩
abbrev S128x1 : Shape := ⟨2, ![128, 1]⟩
abbrev S128x128 : Shape := ⟨2, ![128, 128]⟩
abbrev S1x1x1x128x128 : Shape := ⟨5, ![1, 1, 1, 128, 128]⟩
abbrev S2x2x8192x128x64 : Shape := ⟨5, ![2, 2, 8192, 128, 64]⟩
abbrev S2x2x1x8192x8192 : Shape := ⟨5, ![2, 2, 1, 8192, 8192]⟩
abbrev S2x8192x2x64 : Shape := ⟨4, ![2, 8192, 2, 64]⟩
abbrev S2x2x8192x64 : Shape := ⟨4, ![2, 2, 8192, 64]⟩
abbrev S2x2x4x8192x8192 : Shape := ⟨5, ![2, 2, 4, 8192, 8192]⟩
abbrev S1x8192 : Shape := ⟨2, ![1, 8192]⟩
abbrev S8192x8192 : Shape := ⟨2, ![8192, 8192]⟩
abbrev S1x1x1x8192x8192 : Shape := ⟨5, ![1, 1, 1, 8192, 8192]⟩

abbrev nBuf : Space → Nat
  | .hbm => 250
  | .vmem => 0
  | .smem => 0
  | _ => 0

abbrev hbmTy0_0 (i : Nat) : BufTy := match i % 128 with
  | 0 => ⟨S2x8192x512, .f32⟩
  | 1 => ⟨S2x8192x24, .f32⟩
  | 2 => ⟨S2x512x128, .f32⟩
  | 3 => ⟨S2x512x128, .f32⟩
  | 4 => ⟨S2x8192x128, .f32⟩
  | 5 => ⟨S2x8192x128, .f32⟩
  | 6 => ⟨S2x8192x128, .f32⟩
  | 7 => ⟨S2x8192x128, .f32⟩
  | 8 => ⟨S2x8192x2x4x64, .f32⟩
  | 9 => ⟨S2x2x4x8192x64, .f32⟩
  | 10 => ⟨S2x8192x2x4x3, .f32⟩
  | 11 => ⟨S2x2x4x8192x3, .f32⟩
  | 12 => ⟨S8192, .i32⟩
  | 13 => ⟨S2x511x128, .f32⟩
  | 14 => ⟨S2x511x2x64, .f32⟩
  | 15 => ⟨S2x2x511x64, .f32⟩
  | 16 => ⟨S2x511x128, .f32⟩
  | 17 => ⟨S2x511x2x64, .f32⟩
  | 18 => ⟨S2x2x511x64, .f32⟩
  | 19 => ⟨S511, .i32⟩
  | 20 => ⟨S_, .i32⟩
  | 21 => ⟨S511, .i32⟩
  | 22 => ⟨S511, .i32⟩
  | 23 => ⟨S_, .i32⟩
  | 24 => ⟨S511, .i32⟩
  | 25 => ⟨S511, .i32⟩
  | 26 => ⟨S_, .i32⟩
  | 27 => ⟨S511, .i32⟩
  | 28 => ⟨S511, .i32⟩
  | 29 => ⟨S2x2x4x8192x511, .f32⟩
  | 30 => ⟨S_, .f32⟩
  | 31 => ⟨S2x2x4x8192x511, .f32⟩
  | 32 => ⟨S2x2x4x8192x511, .f32⟩
  | 33 => ⟨S1x511, .i32⟩
  | 34 => ⟨S8192x1, .i32⟩
  | 35 => ⟨S8192x511, .i32⟩
  | 36 => ⟨S8192x511, .i32⟩
  | 37 => ⟨S8192x511, .i1⟩
  | 38 => ⟨S_, .f32⟩
  | 39 => ⟨S_, .f32⟩
  | 40 => ⟨S2x2x4x8192x511, .i1⟩
  | 41 => ⟨S2x2x4x8192x511, .f32⟩
  | 42 => ⟨S2x2x4x8192x511, .f32⟩
  | 43 => ⟨S_, .f32⟩
  | 44 => ⟨S2x2x4x8192, .f32⟩
  | 45 => ⟨S2x2x4x8192x1, .f32⟩
  | 46 => ⟨S2x2x4x8192x511, .f32⟩
  | 47 => ⟨S2x2x4x8192x511, .f32⟩
  | 48 => ⟨S2x2x4x8192x511, .f32⟩
  | 49 => ⟨S_, .f32⟩
  | 50 => ⟨S_, .f32⟩
  | 51 => ⟨S2x2x4x8192x511, .i1⟩
  | 52 => ⟨S2x2x4x8192x511, .f32⟩
  | 53 => ⟨S2x2x4x8192x511, .f32⟩
  | 54 => ⟨S_, .f32⟩
  | 55 => ⟨S2x2x4x8192, .f32⟩
  | 56 => ⟨S2x2x4x8192x1, .f32⟩
  | 57 => ⟨S_, .f32⟩
  | 58 => ⟨S2x2x4x8192x1, .f32⟩
  | 59 => ⟨S2x2x4x8192x1, .f32⟩
  | 60 => ⟨S2x2x4x8192x511, .f32⟩
  | 61 => ⟨S2x2x4x8192x511, .f32⟩
  | 62 => ⟨S2x2x4x8192x64, .f32⟩
  | 63 => ⟨S128, .i32⟩
  | 64 => ⟨S_, .i32⟩
  | 65 => ⟨S128, .i32⟩
  | 66 => ⟨S128, .i32⟩
  | 67 => ⟨S511x1, .i32⟩
  | 68 => ⟨S1x128, .i32⟩
  | 69 => ⟨S_, .i32⟩
  | 70 => ⟨S1x128, .i32⟩
  | 71 => ⟨S1x128, .i32⟩
  | 72 => ⟨S511x128, .i32⟩
  | 73 => ⟨S511x128, .i32⟩
  | 74 => ⟨S511x128, .i1⟩
  | 75 => ⟨S511x1, .i32⟩
  | 76 => ⟨S_, .i32⟩
  | 77 => ⟨S511x1, .i32⟩
  | 78 => ⟨S511x1, .i32⟩
  | 79 => ⟨S1x128, .i32⟩
  | 80 => ⟨S511x128, .i32⟩
  | 81 => ⟨S511x128, .i32⟩
  | 82 => ⟨S511x128, .i1⟩
  | 83 => ⟨S511x128, .i1⟩
  | 84 => ⟨S511x128, .f32⟩
  | 85 => ⟨S_, .f32⟩
  | 86 => ⟨S2x2x8192x511, .f32⟩
  | 87 => ⟨S2x2x8192x128, .f32⟩
  | 88 => ⟨S128, .i32⟩
  | 89 => ⟨S_, .i32⟩
  | 90 => ⟨S8192, .i32⟩
  | 91 => ⟨S8192, .i32⟩
  | 92 => ⟨S8192x1, .i32⟩
  | 93 => ⟨S_, .i32⟩
  | 94 => ⟨S128, .i32⟩
  | 95 => ⟨S128, .i1⟩
  | 96 => ⟨S1x128, .i32⟩
  | 97 => ⟨S8192x128, .i32⟩
  | 98 => ⟨S8192x128, .i32⟩
  | 99 => ⟨S8192x128, .i1⟩
  | 100 => ⟨S1x128, .i1⟩
  | 101 => ⟨S8192x128, .i1⟩
  | 102 => ⟨S8192x128, .i1⟩
  | 103 => ⟨S_, .i32⟩
  | 104 => ⟨S8192x1, .i32⟩
  | 105 => ⟨S8192x1, .i32⟩
  | 106 => ⟨S1x128, .i32⟩
  | 107 => ⟨S8192x128, .i32⟩
  | 108 => ⟨S8192x128, .i32⟩
  | 109 => ⟨S8192x128, .i1⟩
  | 110 => ⟨S8192x128, .i1⟩
  | 111 => ⟨S1x128, .i32⟩
  | 112 => ⟨S8192x128, .i32⟩
  | 113 => ⟨S8192x128, .i32⟩
  | 114 => ⟨S8192x128, .i1⟩
  | 115 => ⟨S_, .f32⟩
  | 116 => ⟨S_, .f32⟩
  | 117 => ⟨S2x2x8192x128, .i1⟩
  | 118 => ⟨S2x2x8192x128, .f32⟩
  | 119 => ⟨S2x2x8192x128, .f32⟩
  | 120 => ⟨S_, .f32⟩
  | 121 => ⟨S_, .f32⟩
  | 122 => ⟨S2x2x8192x128, .i1⟩
  | 123 => ⟨S2x2x8192x128, .f32⟩
  | 124 => ⟨S2x2x8192x128, .f32⟩
  | 125 => ⟨S2x2x8192x1x128, .f32⟩
  | 126 => ⟨S2x2x8192x128x1, .f32⟩
  | 127 => ⟨S2x2x8192x128x128, .f32⟩
  | _ => ⟨S2x8192x512, .f32⟩

abbrev hbmTy0_1 (i : Nat) : BufTy := match i % 128 with
  | 0 => ⟨S2x2x8192x128x128, .f32⟩
  | 1 => ⟨S2x2x8192x128x128, .i1⟩
  | 2 => ⟨S2x2x8192x128x128, .f32⟩
  | 3 => ⟨S2x2x8192x128x128, .f32⟩
  | 4 => ⟨S2x2x8192x128x128, .i1⟩
  | 5 => ⟨S1x128, .i32⟩
  | 6 => ⟨S128x1, .i32⟩
  | 7 => ⟨S128x128, .i32⟩
  | 8 => ⟨S128x128, .i32⟩
  | 9 => ⟨S128x128, .i1⟩
  | 10 => ⟨S1x1x1x128x128, .i1⟩
  | 11 => ⟨S2x2x8192x128x128, .i1⟩
  | 12 => ⟨S2x2x8192x128x128, .i1⟩
  | 13 => ⟨S2x2x8192x128x128, .i1⟩
  | 14 => ⟨S2x2x8192x128x128, .f32⟩
  | 15 => ⟨S_, .f32⟩
  | 16 => ⟨S2x2x8192x128, .f32⟩
  | 17 => ⟨S_, .f32⟩
  | 18 => ⟨S2x2x8192x128, .f32⟩
  | 19 => ⟨S2x2x8192x128, .i1⟩
  | 20 => ⟨S2x2x8192x128x1, .i1⟩
  | 21 => ⟨S2x2x8192x128x64, .i1⟩
  | 22 => ⟨S2x2x1x8192x8192, .i1⟩
  | 23 => ⟨S2x8192x2x64, .f32⟩
  | 24 => ⟨S2x2x8192x64, .f32⟩
  | 25 => ⟨S2x2x4x8192x8192, .f32⟩
  | 26 => ⟨S_, .f32⟩
  | 27 => ⟨S2x2x4x8192x8192, .f32⟩
  | 28 => ⟨S2x2x4x8192x8192, .f32⟩
  | 29 => ⟨S1x8192, .i32⟩
  | 30 => ⟨S8192x1, .i32⟩
  | 31 => ⟨S8192x8192, .i32⟩
  | 32 => ⟨S8192x8192, .i32⟩
  | 33 => ⟨S8192x8192, .i1⟩
  | 34 => ⟨S1x1x1x8192x8192, .i1⟩
  | 35 => ⟨S2x2x1x8192x8192, .i1⟩
  | 36 => ⟨S2x2x1x8192x8192, .i1⟩
  | 37 => ⟨S_, .f32⟩
  | 38 => ⟨S_, .f32⟩
  | 39 => ⟨S2x2x4x8192x8192, .i1⟩
  | 40 => ⟨S2x2x4x8192x8192, .f32⟩
  | 41 => ⟨S2x2x4x8192x8192, .f32⟩
  | 42 => ⟨S_, .f32⟩
  | 43 => ⟨S2x2x4x8192, .f32⟩
  | 44 => ⟨S2x2x4x8192x1, .f32⟩
  | 45 => ⟨S2x2x4x8192x8192, .f32⟩
  | 46 => ⟨S2x2x4x8192x8192, .f32⟩
  | 47 => ⟨S2x2x4x8192x8192, .f32⟩
  | 48 => ⟨S_, .f32⟩
  | 49 => ⟨S_, .f32⟩
  | 50 => ⟨S2x2x4x8192x8192, .i1⟩
  | 51 => ⟨S2x2x4x8192x8192, .f32⟩
  | 52 => ⟨S2x2x4x8192x8192, .f32⟩
  | 53 => ⟨S_, .f32⟩
  | 54 => ⟨S2x2x4x8192, .f32⟩
  | 55 => ⟨S2x2x4x8192x1, .f32⟩
  | 56 => ⟨S_, .f32⟩
  | 57 => ⟨S2x2x4x8192x1, .f32⟩
  | 58 => ⟨S2x2x4x8192x1, .f32⟩
  | 59 => ⟨S2x2x4x8192x8192, .f32⟩
  | 60 => ⟨S2x2x4x8192x8192, .f32⟩
  | 61 => ⟨S2x8192x2x64, .f32⟩
  | 62 => ⟨S2x2x8192x64, .f32⟩
  | 63 => ⟨S2x2x4x8192x64, .f32⟩
  | 64 => ⟨S8192x1, .i32⟩
  | 65 => ⟨S1x8192, .i32⟩
  | 66 => ⟨S8192x8192, .i32⟩
  | 67 => ⟨S8192x8192, .i32⟩
  | 68 => ⟨S8192x8192, .i32⟩
  | 69 => ⟨S2x8192x2x64, .f32⟩
  | 70 => ⟨S2x2x8192x64, .f32⟩
  | 71 => ⟨S2x2x4x8192x8192, .f32⟩
  | 72 => ⟨S_, .f32⟩
  | 73 => ⟨S2x2x4x8192x8192, .f32⟩
  | 74 => ⟨S2x2x4x8192x8192, .f32⟩
  | 75 => ⟨S_, .i32⟩
  | 76 => ⟨S8192x8192, .i32⟩
  | 77 => ⟨S8192x8192, .i1⟩
  | 78 => ⟨S_, .i32⟩
  | 79 => ⟨S8192x8192, .i32⟩
  | 80 => ⟨S8192x8192, .i1⟩
  | 81 => ⟨S8192x8192, .i1⟩
  | 82 => ⟨S_, .f32⟩
  | 83 => ⟨S_, .f32⟩
  | 84 => ⟨S2x2x4x8192x8192, .i1⟩
  | 85 => ⟨S2x2x4x8192x8192, .f32⟩
  | 86 => ⟨S2x2x4x8192x8192, .f32⟩
  | 87 => ⟨S_, .f32⟩
  | 88 => ⟨S2x2x4x8192, .f32⟩
  | 89 => ⟨S2x2x4x8192x1, .f32⟩
  | 90 => ⟨S2x2x4x8192x8192, .f32⟩
  | 91 => ⟨S2x2x4x8192x8192, .f32⟩
  | 92 => ⟨S2x2x4x8192x8192, .f32⟩
  | 93 => ⟨S_, .f32⟩
  | 94 => ⟨S_, .f32⟩
  | 95 => ⟨S2x2x4x8192x8192, .i1⟩
  | 96 => ⟨S2x2x4x8192x8192, .f32⟩
  | 97 => ⟨S2x2x4x8192x8192, .f32⟩
  | 98 => ⟨S_, .f32⟩
  | 99 => ⟨S2x2x4x8192, .f32⟩
  | 100 => ⟨S2x2x4x8192x1, .f32⟩
  | 101 => ⟨S_, .f32⟩
  | 102 => ⟨S2x2x4x8192x1, .f32⟩
  | 103 => ⟨S2x2x4x8192x1, .f32⟩
  | 104 => ⟨S2x2x4x8192x8192, .f32⟩
  | 105 => ⟨S2x2x4x8192x8192, .f32⟩
  | 106 => ⟨S2x8192x2x64, .f32⟩
  | 107 => ⟨S2x2x8192x64, .f32⟩
  | 108 => ⟨S2x2x4x8192x64, .f32⟩
  | 109 => ⟨S2x2x4x8192x1, .f32⟩
  | 110 => ⟨S2x2x4x8192x64, .f32⟩
  | 111 => ⟨S2x2x4x8192x64, .f32⟩
  | 112 => ⟨S2x2x4x8192x1, .f32⟩
  | 113 => ⟨S2x2x4x8192x64, .f32⟩
  | 114 => ⟨S2x2x4x8192x64, .f32⟩
  | 115 => ⟨S2x2x4x8192x64, .f32⟩
  | 116 => ⟨S2x2x4x8192x1, .f32⟩
  | 117 => ⟨S2x2x4x8192x64, .f32⟩
  | 118 => ⟨S2x2x4x8192x64, .f32⟩
  | 119 => ⟨S2x2x4x8192x64, .f32⟩
  | 120 => ⟨S2x8192x2x4x64, .f32⟩
  | 121 => ⟨S2x8192x512, .f32⟩
  | _ => ⟨S2x8192x512, .f32⟩

abbrev hbmTy (i : Nat) : BufTy := match i / 128 with
  | 0 => hbmTy0_0 i
  | 1 => hbmTy0_1 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_cst : Ref sig .tc := ⟨.hbm, 38, rfl⟩
abbrev main_call0_call0_v0 : Ref sig .tc := ⟨.hbm, 39, rfl⟩
abbrev main_call0_call0_v1 : Ref sig .tc := ⟨.hbm, 40, rfl⟩
abbrev main_call0_call0_v2 : Ref sig .tc := ⟨.hbm, 41, rfl⟩
abbrev main_call0_v0 : Ref sig .tc := ⟨.hbm, 42, rfl⟩
abbrev main_call0_cst_0 : Ref sig .tc := ⟨.hbm, 43, rfl⟩
abbrev main_call0_v1 : Ref sig .tc := ⟨.hbm, 44, rfl⟩
abbrev main_call0_v2 : Ref sig .tc := ⟨.hbm, 45, rfl⟩
abbrev main_call0_v3 : Ref sig .tc := ⟨.hbm, 46, rfl⟩
abbrev main_call0_v4 : Ref sig .tc := ⟨.hbm, 47, rfl⟩
abbrev main_call0_v5 : Ref sig .tc := ⟨.hbm, 48, rfl⟩
abbrev main_call0_cst_1 : Ref sig .tc := ⟨.hbm, 49, rfl⟩
abbrev main_call0_call1_v0 : Ref sig .tc := ⟨.hbm, 50, rfl⟩
abbrev main_call0_call1_v1 : Ref sig .tc := ⟨.hbm, 51, rfl⟩
abbrev main_call0_call1_v2 : Ref sig .tc := ⟨.hbm, 52, rfl⟩
abbrev main_call0_v6 : Ref sig .tc := ⟨.hbm, 53, rfl⟩
abbrev main_call0_cst_2 : Ref sig .tc := ⟨.hbm, 54, rfl⟩
abbrev main_call0_v7 : Ref sig .tc := ⟨.hbm, 55, rfl⟩
abbrev main_call0_v8 : Ref sig .tc := ⟨.hbm, 56, rfl⟩
abbrev main_call0_cst_3 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_c_2 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_3 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_c_4 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_5 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_6 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_c_7 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_8 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_9 : Ref sig .tc := ⟨.hbm, 115, rfl⟩
abbrev main_call1_v0 : Ref sig .tc := ⟨.hbm, 116, rfl⟩
abbrev main_call1_v1 : Ref sig .tc := ⟨.hbm, 117, rfl⟩
abbrev main_call1_v2 : Ref sig .tc := ⟨.hbm, 118, rfl⟩
abbrev main_v73 : Ref sig .tc := ⟨.hbm, 119, rfl⟩
abbrev main_cst_10 : Ref sig .tc := ⟨.hbm, 120, rfl⟩
abbrev main_call2_v0 : Ref sig .tc := ⟨.hbm, 121, rfl⟩
abbrev main_call2_v1 : Ref sig .tc := ⟨.hbm, 122, rfl⟩
abbrev main_call2_v2 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_cst_11 : Ref sig .tc := ⟨.hbm, 143, rfl⟩
abbrev main_v93 : Ref sig .tc := ⟨.hbm, 144, rfl⟩
abbrev main_cst_12 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_cst_13 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_call3_cst : Ref sig .tc := ⟨.hbm, 165, rfl⟩
abbrev main_call3_call0_v0 : Ref sig .tc := ⟨.hbm, 166, rfl⟩
abbrev main_call3_call0_v1 : Ref sig .tc := ⟨.hbm, 167, rfl⟩
abbrev main_call3_call0_v2 : Ref sig .tc := ⟨.hbm, 168, rfl⟩
abbrev main_call3_v0 : Ref sig .tc := ⟨.hbm, 169, rfl⟩
abbrev main_call3_cst_0 : Ref sig .tc := ⟨.hbm, 170, rfl⟩
abbrev main_call3_v1 : Ref sig .tc := ⟨.hbm, 171, rfl⟩
abbrev main_call3_v2 : Ref sig .tc := ⟨.hbm, 172, rfl⟩
abbrev main_call3_v3 : Ref sig .tc := ⟨.hbm, 173, rfl⟩
abbrev main_call3_v4 : Ref sig .tc := ⟨.hbm, 174, rfl⟩
abbrev main_call3_v5 : Ref sig .tc := ⟨.hbm, 175, rfl⟩
abbrev main_call3_cst_1 : Ref sig .tc := ⟨.hbm, 176, rfl⟩
abbrev main_call3_call1_v0 : Ref sig .tc := ⟨.hbm, 177, rfl⟩
abbrev main_call3_call1_v1 : Ref sig .tc := ⟨.hbm, 178, rfl⟩
abbrev main_call3_call1_v2 : Ref sig .tc := ⟨.hbm, 179, rfl⟩
abbrev main_call3_v6 : Ref sig .tc := ⟨.hbm, 180, rfl⟩
abbrev main_call3_cst_2 : Ref sig .tc := ⟨.hbm, 181, rfl⟩
abbrev main_call3_v7 : Ref sig .tc := ⟨.hbm, 182, rfl⟩
abbrev main_call3_v8 : Ref sig .tc := ⟨.hbm, 183, rfl⟩
abbrev main_call3_cst_3 : Ref sig .tc := ⟨.hbm, 184, rfl⟩
abbrev main_call3_v9 : Ref sig .tc := ⟨.hbm, 185, rfl⟩
abbrev main_call3_v10 : Ref sig .tc := ⟨.hbm, 186, rfl⟩
abbrev main_call3_v11 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩
abbrev main_v119 : Ref sig .tc := ⟨.hbm, 195, rfl⟩
abbrev main_v120 : Ref sig .tc := ⟨.hbm, 196, rfl⟩
abbrev main_v121 : Ref sig .tc := ⟨.hbm, 197, rfl⟩
abbrev main_v122 : Ref sig .tc := ⟨.hbm, 198, rfl⟩
abbrev main_v123 : Ref sig .tc := ⟨.hbm, 199, rfl⟩
abbrev main_cst_14 : Ref sig .tc := ⟨.hbm, 200, rfl⟩
abbrev main_v124 : Ref sig .tc := ⟨.hbm, 201, rfl⟩
abbrev main_v125 : Ref sig .tc := ⟨.hbm, 202, rfl⟩
abbrev main_c_15 : Ref sig .tc := ⟨.hbm, 203, rfl⟩
abbrev main_v126 : Ref sig .tc := ⟨.hbm, 204, rfl⟩
abbrev main_v127 : Ref sig .tc := ⟨.hbm, 205, rfl⟩
abbrev main_c_16 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_call4_cst : Ref sig .tc := ⟨.hbm, 210, rfl⟩
abbrev main_call4_call0_v0 : Ref sig .tc := ⟨.hbm, 211, rfl⟩
abbrev main_call4_call0_v1 : Ref sig .tc := ⟨.hbm, 212, rfl⟩
abbrev main_call4_call0_v2 : Ref sig .tc := ⟨.hbm, 213, rfl⟩
abbrev main_call4_v0 : Ref sig .tc := ⟨.hbm, 214, rfl⟩
abbrev main_call4_cst_0 : Ref sig .tc := ⟨.hbm, 215, rfl⟩
abbrev main_call4_v1 : Ref sig .tc := ⟨.hbm, 216, rfl⟩
abbrev main_call4_v2 : Ref sig .tc := ⟨.hbm, 217, rfl⟩
abbrev main_call4_v3 : Ref sig .tc := ⟨.hbm, 218, rfl⟩
abbrev main_call4_v4 : Ref sig .tc := ⟨.hbm, 219, rfl⟩
abbrev main_call4_v5 : Ref sig .tc := ⟨.hbm, 220, rfl⟩
abbrev main_call4_cst_1 : Ref sig .tc := ⟨.hbm, 221, rfl⟩
abbrev main_call4_call1_v0 : Ref sig .tc := ⟨.hbm, 222, rfl⟩
abbrev main_call4_call1_v1 : Ref sig .tc := ⟨.hbm, 223, rfl⟩
abbrev main_call4_call1_v2 : Ref sig .tc := ⟨.hbm, 224, rfl⟩
abbrev main_call4_v6 : Ref sig .tc := ⟨.hbm, 225, rfl⟩
abbrev main_call4_cst_2 : Ref sig .tc := ⟨.hbm, 226, rfl⟩
abbrev main_call4_v7 : Ref sig .tc := ⟨.hbm, 227, rfl⟩
abbrev main_call4_v8 : Ref sig .tc := ⟨.hbm, 228, rfl⟩
abbrev main_call4_cst_3 : Ref sig .tc := ⟨.hbm, 229, rfl⟩
abbrev main_call4_v9 : Ref sig .tc := ⟨.hbm, 230, rfl⟩
abbrev main_call4_v10 : Ref sig .tc := ⟨.hbm, 231, rfl⟩
abbrev main_call4_v11 : Ref sig .tc := ⟨.hbm, 232, rfl⟩
abbrev main_v131 : Ref sig .tc := ⟨.hbm, 233, rfl⟩
abbrev main_v132 : Ref sig .tc := ⟨.hbm, 234, rfl⟩
abbrev main_v133 : Ref sig .tc := ⟨.hbm, 235, rfl⟩
abbrev main_v134 : Ref sig .tc := ⟨.hbm, 236, rfl⟩
abbrev main_v135 : Ref sig .tc := ⟨.hbm, 237, rfl⟩
abbrev main_v136 : Ref sig .tc := ⟨.hbm, 238, rfl⟩
abbrev main_v137 : Ref sig .tc := ⟨.hbm, 239, rfl⟩
abbrev main_v138 : Ref sig .tc := ⟨.hbm, 240, rfl⟩
abbrev main_v139 : Ref sig .tc := ⟨.hbm, 241, rfl⟩
abbrev main_v140 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_v147 : Ref sig .tc := ⟨.hbm, 249, rfl⟩

abbrev nD : Nat := 1
abbrev τ : Topo := Topo.v7x

variable {F : FTy → Type} [FloatOps F]
-- ==== FfnKernel.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 9
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S1x1024, .f32⟩
  | .hbm, ⟨11, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== FfnReferenceIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 55
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S_, .f32⟩
  | .hbm, ⟨43, _⟩ => ⟨S16384x1, .f32⟩
  | .hbm, ⟨44, _⟩ => ⟨S16384x1, .f32⟩
  | .hbm, ⟨45, _⟩ => ⟨S16384x1, .f32⟩
  | .hbm, ⟨46, _⟩ => ⟨S16384x1024, .f32⟩
  | .hbm, ⟨47, _⟩ => ⟨S16384x1024, .f32⟩
  | .hbm, ⟨48, _⟩ => ⟨S1x1024, .f32⟩
  | .hbm, ⟨49, _⟩ => ⟨S16384x1024, .f32⟩
  | .hbm, ⟨50, _⟩ => ⟨S16384x1024, .f32⟩
  | .hbm, ⟨51, _⟩ => ⟨S_, .f32⟩
  | .hbm, ⟨52, _⟩ => ⟨S16384x1024, .f32⟩
  | .hbm, ⟨53, _⟩ => ⟨S16384x1024, .f32⟩
  | .hbm, ⟨54, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩

abbrev nD : Nat := 1
abbrev τ : Topo := Topo.v7x

variable {F : FTy → Type} [FloatOps F]
-- ==== MemKernel.lean ====
abbrev S2x8192x1024 : Shape := ⟨3, ![2, 8192, 1024]⟩
abbrev S2x8192x512 : Shape := ⟨3, ![2, 8192, 512]⟩
abbrev S512 : Shape := ⟨1, ![512]⟩
abbrev S1024x1024 : Shape := ⟨2, ![1024, 1024]⟩
abbrev S1024 : Shape := ⟨1, ![1024]⟩
abbrev S2x256x1024 : Shape := ⟨3, ![2, 256, 1024]⟩
abbrev S2x1024x256 : Shape := ⟨3, ![2, 1024, 256]⟩
abbrev S1x512 : Shape := ⟨2, ![1, 512]⟩
abbrev S512x1024 : Shape := ⟨2, ![512, 1024]⟩
abbrev S1x1024 : Shape := ⟨2, ![1, 1024]⟩
abbrev S1x1024x1024 : Shape := ⟨3, ![1, 1024, 1024]⟩
abbrev S1x1024x512 : Shape := ⟨3, ![1, 1024, 512]⟩
abbrev S1x1024x256 : Shape := ⟨3, ![1, 1024, 256]⟩
abbrev S1x256x1024 : Shape := ⟨3, ![1, 256, 1024]⟩
abbrev S1x256x512 : Shape := ⟨3, ![1, 256, 512]⟩
abbrev S256x512 : Shape := ⟨2, ![256, 512]⟩
abbrev S256 : Shape := ⟨1, ![256]⟩
abbrev S256x1 : Shape := ⟨2, ![256, 1]⟩
abbrev S256x1024 : Shape := ⟨2, ![256, 1024]⟩
abbrev S256x256 : Shape := ⟨2, ![256, 256]⟩
abbrev S1x256x256 : Shape := ⟨3, ![1, 256, 256]⟩

abbrev nBuf : Space → Nat
  | .hbm => 25
  | .vmem => 20
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S2x256x1024, .f32⟩
  | .hbm, ⟨9, _⟩ => ⟨S2x256x1024, .f32⟩
  | .hbm, ⟨10, _⟩ => ⟨S1024x1024, .f32⟩
  | .hbm, ⟨11, _⟩ => ⟨S1024, .f32⟩
  | .hbm, ⟨12, _⟩ => ⟨S2x1024x256, .f32⟩
  | .hbm, ⟨13, _⟩ => ⟨S2x1024x256, .bf16⟩
  | .hbm, ⟨14, _⟩ => ⟨S2x256x1024, .bf16⟩
  | .hbm, ⟨15, _⟩ => ⟨S1024x1024, .bf16⟩
  | .hbm, ⟨16, _⟩ => ⟨S1x512, .f32⟩
  | .hbm, ⟨17, _⟩ => ⟨S512x1024, .bf16⟩
  | .hbm, ⟨18, _⟩ => ⟨S512x1024, .bf16⟩
  | .hbm, ⟨19, _⟩ => ⟨S1x1024, .f32⟩
  | .hbm, ⟨20, _⟩ => ⟨S1x1024, .f32⟩
  | .hbm, ⟨21, _⟩ => ⟨S1024x1024, .bf16⟩
  | .hbm, ⟨22, _⟩ => ⟨S1024x1024, .bf16⟩
  | .hbm, ⟨23, _⟩ => ⟨S1x1024, .f32⟩
  | .hbm, ⟨24, _⟩ => ⟨S2x8192x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .bf16⟩
  | .local _ .vmem, ⟨12, _⟩ => ⟨S1x1024x256, .bf16⟩
  | .local _ .vmem, ⟨13, _⟩ => ⟨S1x1024x256, .bf16⟩
  | .local _ .vmem, ⟨14, _⟩ => ⟨S1x256x1024, .bf16⟩
  | .local _ .vmem, ⟨15, _⟩ => ⟨S1x256x1024, .bf16⟩
  | .local _ .vmem, ⟨16, _⟩ => ⟨S1024x1024, .bf16⟩
  | .local _ .vmem, ⟨17, _⟩ => ⟨S1x1024, .f32⟩
  | .local _ .vmem, ⟨18, _⟩ => ⟨S1x1024x1024, .f32⟩
  | .local _ .vmem, ⟨19, _⟩ => ⟨S1x1024x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== MemReferenceIdeal.lean ====
abbrev S2x8192x1024 : Shape := ⟨3, ![2, 8192, 1024]⟩
abbrev S2x8192x512 : Shape := ⟨3, ![2, 8192, 512]⟩
abbrev S512 : Shape := ⟨1, ![512]⟩
abbrev S1024x1024 : Shape := ⟨2, ![1024, 1024]⟩
abbrev S1024 : Shape := ⟨1, ![1024]⟩
abbrev S2x256x1024 : Shape := ⟨3, ![2, 256, 1024]⟩
abbrev S_ : Shape := ⟨0, ![]⟩
abbrev S2x8192 : Shape := ⟨2, ![2, 8192]⟩
abbrev S2x8192x1 : Shape := ⟨3, ![2, 8192, 1]⟩
abbrev S1x1x512 : Shape := ⟨3, ![1, 1, 512]⟩
abbrev S1x1x1024 : Shape := ⟨3, ![1, 1, 1024]⟩
abbrev S2x8192x4x256 : Shape := ⟨4, ![2, 8192, 4, 256]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩

abbrev nBuf : Space → Nat
  | .hbm => 106
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .f32⟩
  | .hbm, ⟨2, _⟩ => ⟨S2x8192x512, .f32⟩
  | .hbm, ⟨3, _⟩ => ⟨S512, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024x1024, .f32⟩
  | .hbm, ⟨8, _⟩ => ⟨S2x256x1024, .f32⟩
  | .hbm, ⟨9, _⟩ => ⟨S2x256x1024, .f32⟩
  | .hbm, ⟨10, _⟩ => ⟨S1024x1024, .f32⟩
  | .hbm, ⟨11, _⟩ => ⟨S1024, .f32⟩
  | .hbm, ⟨12, _⟩ => ⟨S2x8192x512, .f32⟩
  | .hbm, ⟨13, _⟩ => ⟨S_, .f32⟩
  | .hbm, ⟨14, _⟩ => ⟨S2x8192, .f32⟩
  | .hbm, ⟨15, _⟩ => ⟨S2x8192x1, .f32⟩
  | .hbm, ⟨16, _⟩ => ⟨S_, .f32⟩
  | .hbm, ⟨17, _⟩ => ⟨S2x8192x1, .f32⟩
  | .hbm, ⟨18, _⟩ => ⟨S2x8192x1, .f32⟩
  | .hbm, ⟨19, _⟩ => ⟨S_, .f32⟩
  | .hbm, ⟨20, _⟩ => ⟨S2x8192x1, .f32⟩
  | .hbm, ⟨21, _⟩ => ⟨S2x8192x1, .f32⟩
  | .hbm, ⟨22, _⟩ => ⟨S2x8192x1, .f32⟩
  | .hbm, ⟨23, _⟩ => ⟨S2x8192x512, .f32⟩
  | .hbm, ⟨24, _⟩ => ⟨S2x8192x512, .f32⟩
  | .hbm, ⟨25, _⟩ => ⟨S1x1x512, .f32⟩
  | .hbm, ⟨26, _⟩ => ⟨S2x8192x512, .f32⟩
  | .hbm, ⟨27, _⟩ => ⟨S2x8192x512, .f32⟩
  | .hbm, ⟨28, _⟩ => ⟨S2x8192x1024, .f32⟩
  | .hbm, ⟨29, _⟩ => ⟨S2x8192x1024, .f32⟩
  | .hbm, ⟨30, _⟩ => ⟨S2x8192x1024, .f32⟩
  | .hbm, ⟨31, _⟩ => ⟨S_, .f32⟩
  | .hbm, ⟨32, _⟩ => ⟨S2x8192, .f32⟩
  | .hbm, ⟨33, _⟩ => ⟨S2x8192x1, .f32⟩
  | .hbm, ⟨34, _⟩ => ⟨S_, .f32⟩
  | .hbm, ⟨35, _⟩ => ⟨S2x8192x1, .f32⟩
  | .hbm, ⟨36, _⟩ => ⟨S2x8192x1, .f32⟩
  | .hbm, ⟨37, _⟩ => ⟨S_, .f32⟩
  | .hbm, ⟨38, _⟩ => ⟨S2x8192x1, .f32⟩
  | .hbm, ⟨39, _⟩ => ⟨S2x8192x1, .f32⟩
  | .hbm, ⟨40, _⟩ => ⟨S2x8192x1, .f32⟩
  | .hbm, ⟨41, _⟩ => ⟨S2x8192x1024, .f32⟩
  | .hbm, ⟨42, _⟩ => ⟨S2x8192x1024, .f32⟩
  | .hbm, ⟨43, _⟩ => ⟨S1x1x1024, .f32⟩
  | .hbm, ⟨44, _⟩ => ⟨S2x8192x1024, .f32⟩
  | .hbm, ⟨45, _⟩ => ⟨S2x8192x1024, .f32⟩
  | .hbm, ⟨46, _⟩ => ⟨S2x8192x1024, .f32⟩
  | .hbm, ⟨47, _⟩ => ⟨S2x8192x1024, .f32⟩
  | .hbm, ⟨48, _⟩ => ⟨S_, .f32⟩
  | .hbm, ⟨49, _⟩ => ⟨S2x8192, .f32⟩
  | .hbm, ⟨50, _⟩ => ⟨S2x8192x1, .f32⟩
  | .hbm, ⟨51, _⟩ => ⟨S_, .f32⟩
  | .hbm, ⟨52, _⟩ => ⟨S2x8192x1, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1, .f32⟩
  | .hbm, ⟨58, _⟩ => ⟨S2x8192x1024, .f32⟩
  | .hbm, ⟨59, _⟩ => ⟨S2x8192x1024, .f32⟩
  | .hbm, ⟨60, _⟩ => ⟨S1x1x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S2x8192x4x256, .f32⟩
  | .hbm, ⟨65, _⟩ => ⟨S2x256x4x256, .f32⟩
  | .hbm, ⟨66, _⟩ => ⟨S2x256x4x256, .f32⟩
  | .hbm, ⟨67, _⟩ => ⟨S2x4x8192x256, .f32⟩
  | .hbm, ⟨68, _⟩ => ⟨S_, .f32⟩
  | .hbm, ⟨69, _⟩ => ⟨S2x4x8192x256, .f32⟩
  | .hbm, ⟨70, _⟩ => ⟨S2x4x8192x256, .f32⟩
  | .hbm, ⟨71, _⟩ => ⟨S_, .f32⟩
  | .hbm, ⟨72, _⟩ => ⟨S2x4x8192, .f32⟩
  | .hbm, ⟨73, _⟩ => ⟨S_, .f32⟩
  | .hbm, ⟨74, _⟩ => ⟨S2x4x8192, .f32⟩
  | .hbm, ⟨75, _⟩ => ⟨S2x4x8192, .f32⟩
  | .hbm, ⟨76, _⟩ => ⟨S2x4x8192x1, .f32⟩
  | .hbm, ⟨77, _⟩ => ⟨S2x4x8192x256, .f32⟩
  | .hbm, ⟨78, _⟩ => ⟨S2x4x8192x256, .f32⟩
  | .hbm, ⟨79, _⟩ => ⟨S2x4x8192x256, .f32⟩
  | .hbm, ⟨80, _⟩ => ⟨S_, .f32⟩
  | .hbm, ⟨81, _⟩ => ⟨S2x4x8192, .f32⟩
  | .hbm, ⟨82, _⟩ => ⟨S2x4x8192x1, .f32⟩
  | .hbm, ⟨83, _⟩ => ⟨S2x4x8192x256, .f32⟩
  | .hbm, ⟨84, _⟩ => ⟨S2x4x8192x256, .f32⟩
  | .hbm, ⟨85, _⟩ => ⟨S2x4x256x8192, .f32⟩
  | .hbm, ⟨86, _⟩ => ⟨S2x8192x4x256, .f32⟩
  | .hbm, ⟨87, _⟩ => ⟨S2x8192x1024, .f32⟩
  | .hbm, ⟨88, _⟩ => ⟨S2x8192x1024, .f32⟩
  | .hbm, ⟨89, _⟩ => ⟨S2x8192x1024, .f32⟩
  | .hbm, ⟨90, _⟩ => ⟨S_, .f32⟩
  | .hbm, ⟨91, _⟩ => ⟨S2x8192, .f32⟩
  | .hbm, ⟨92, _⟩ => ⟨S2x8192x1, .f32⟩
  | .hbm, ⟨93, _⟩ => ⟨S_, .f32⟩
  | .hbm, ⟨94, _⟩ => ⟨S2x8192x1, .f32⟩
  | .hbm, ⟨95, _⟩ => ⟨S2x8192x1, .f32⟩
  | .hbm, ⟨96, _⟩ => ⟨S_, .f32⟩
  | .hbm, ⟨97, _⟩ => ⟨S2x8192x1, .f32⟩
  | .hbm, ⟨98, _⟩ => ⟨S2x8192x1, .f32⟩
  | .hbm, ⟨99, _⟩ => ⟨S2x8192x1, .f32⟩
  | .hbm, ⟨100, _⟩ => ⟨S2x8192x1024, .f32⟩
  | .hbm, ⟨101, _⟩ => ⟨S2x8192x1024, .f32⟩
  | .hbm, ⟨102, _⟩ => ⟨S1x1x1024, .f32⟩
  | .hbm, ⟨103, _⟩ => ⟨S2x8192x1024, .f32⟩
  | .hbm, ⟨104, _⟩ => ⟨S2x8192x1024, .f32⟩
  | .hbm, ⟨105, _⟩ => ⟨S2x8192x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_cst_4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_cst_7 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_8 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_11 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_v65 : Ref sig .tc := ⟨.hbm, 91, rfl⟩
abbrev main_v66 : Ref sig .tc := ⟨.hbm, 92, rfl⟩
abbrev main_cst_13 : Ref sig .tc := ⟨.hbm, 93, rfl⟩
abbrev main_v67 : Ref sig .tc := ⟨.hbm, 94, rfl⟩
abbrev main_v68 : Ref sig .tc := ⟨.hbm, 95, rfl⟩
abbrev main_cst_14 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩

abbrev nD : Nat := 1
abbrev τ : Topo := Topo.v7x

variable {F : FTy → Type} [FloatOps F]
-- ==== KvKernel.lean ====
abbrev S2x256x1024 : Shape := ⟨3, ![2, 256, 1024]⟩
abbrev S1024 : Shape := ⟨1, ![1024]⟩
abbrev S1024x1024 : Shape := ⟨2, ![1024, 1024]⟩
abbrev S1x1024 : Shape := ⟨2, ![1, 1024]⟩
abbrev S2x1024x256 : Shape := ⟨3, ![2, 1024, 256]⟩
abbrev S1x256x1024 : Shape := ⟨3, ![1, 256, 1024]⟩
abbrev S1x1024x256 : Shape := ⟨3, ![1, 1024, 256]⟩
abbrev S256x1024 : Shape := ⟨2, ![256, 1024]⟩
abbrev S256 : Shape := ⟨1, ![256]⟩
abbrev S256x1 : Shape := ⟨2, ![256, 1]⟩
abbrev S1024x256 : Shape := ⟨2, ![1024, 256]⟩

abbrev nBuf : Space → Nat
  | .hbm => 9
  | .vmem => 9
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S2x1024x256, .bf16⟩
  | .hbm, ⟨8, _⟩ => ⟨S2x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x256x1024, .bf16⟩
  | .local _ .vmem, ⟨8, _⟩ => ⟨S1x256x1024, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KvReferenceIdeal.lean ====
abbrev S2x256x1024 : Shape := ⟨3, ![2, 256, 1024]⟩
abbrev S1024 : Shape := ⟨1, ![1024]⟩
abbrev S1024x1024 : Shape := ⟨2, ![1024, 1024]⟩
abbrev S_ : Shape := ⟨0, ![]⟩
abbrev S2x256 : Shape := ⟨2, ![2, 256]⟩
abbrev S2x256x1 : Shape := ⟨3, ![2, 256, 1]⟩
abbrev S1x1x1024 : Shape := ⟨3, ![1, 1, 1024]⟩
abbrev S2x1024x256 : Shape := ⟨3, ![2, 1024, 256]⟩

abbrev nBuf : Space → Nat
  | .hbm => 25
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1024, .f32⟩
  | .hbm, ⟨2, _⟩ => ⟨S1024x1024, .f32⟩
  | .hbm, ⟨3, _⟩ => ⟨S1024x1024, .f32⟩
  | .hbm, ⟨4, _⟩ => ⟨S2x256x1024, .f32⟩
  | .hbm, ⟨5, _⟩ => ⟨S_, .f32⟩
  | .hbm, ⟨6, _⟩ => ⟨S2x256, .f32⟩
  | .hbm, ⟨7, _⟩ => ⟨S2x256x1, .f32⟩
  | .hbm, ⟨8, _⟩ => ⟨S_, .f32⟩
  | .hbm, ⟨9, _⟩ => ⟨S2x256x1, .f32⟩
  | .hbm, ⟨10, _⟩ => ⟨S2x256x1, .f32⟩
  | .hbm, ⟨11, _⟩ => ⟨S_, .f32⟩
  | .hbm, ⟨12, _⟩ => ⟨S2x256x1, .f32⟩
  | .hbm, ⟨13, _⟩ => ⟨S2x256x1, .f32⟩
  | .hbm, ⟨14, _⟩ => ⟨S2x256x1, .f32⟩
  | .hbm, ⟨15, _⟩ => ⟨S2x256x1024, .f32⟩
  | .hbm, ⟨16, _⟩ => ⟨S2x256x1024, .f32⟩
  | .hbm, ⟨17, _⟩ => ⟨S1x1x1024, .f32⟩
  | .hbm, ⟨18, _⟩ => ⟨S2x256x1024, .f32⟩
  | .hbm, ⟨19, _⟩ => ⟨S2x256x1024, .f32⟩
  | .hbm, ⟨20, _⟩ => ⟨S2x256x1024, .f32⟩
  | .hbm, ⟨21, _⟩ => ⟨S2x1024x256, .f32⟩
  | .hbm, ⟨22, _⟩ => ⟨S2x1024x256, .bf16⟩
  | .hbm, ⟨23, _⟩ => ⟨S2x256x1024, .f32⟩
  | .hbm, ⟨24, _⟩ => ⟨S2x256x1024, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== ProjKernel.lean ====
abbrev S2x8192x1024 : Shape := ⟨3, ![2, 8192, 1024]⟩
abbrev S1024 : Shape := ⟨1, ![1024]⟩
abbrev S1024x3096 : Shape := ⟨2, ![1024, 3096]⟩
abbrev S1792 : Shape := ⟨1, ![1792]⟩
abbrev S8192x32 : Shape := ⟨2, ![8192, 32]⟩
abbrev S1024x24 : Shape := ⟨2, ![1024, 24]⟩
abbrev S1024x1280 : Shape := ⟨2, ![1024, 1280]⟩
abbrev S_ : Shape := ⟨0, ![]⟩
abbrev S1024x128 : Shape := ⟨2, ![1024, 128]⟩
abbrev S1024x1792 : Shape := ⟨2, ![1024, 1792]⟩
abbrev S1024x3200 : Shape := ⟨2, ![1024, 3200]⟩
abbrev S8192x128 : Shape := ⟨2, ![8192, 128]⟩
abbrev S1x1792 : Shape := ⟨2, ![1, 1792]⟩
abbrev S1x1024 : Shape := ⟨2, ![1, 1024]⟩
abbrev S2x8192x512 : Shape := ⟨3, ![2, 8192, 512]⟩
abbrev S2x8192x128 : Shape := ⟨3, ![2, 8192, 128]⟩
abbrev S2x128x8192 : Shape := ⟨3, ![2, 128, 8192]⟩
abbrev S2x32x8192 : Shape := ⟨3, ![2, 32, 8192]⟩
abbrev S2x8192x256 : Shape := ⟨3, ![2, 8192, 256]⟩
abbrev S1x512x1024 : Shape := ⟨3, ![1, 512, 1024]⟩
abbrev S512x128 : Shape := ⟨2, ![512, 128]⟩
abbrev S1x512x512 : Shape := ⟨3, ![1, 512, 512]⟩
abbrev S1x512x128 : Shape := ⟨3, ![1, 512, 128]⟩
abbrev S1x128x512 : Shape := ⟨3, ![1, 128, 512]⟩
abbrev S1x32x512 : Shape := ⟨3, ![1, 32, 512]⟩
abbrev S1x512x256 : Shape := ⟨3, ![1, 512, 256]⟩
abbrev S8x1792 : Shape := ⟨2, ![8, 1792]⟩
abbrev S512x1024 : Shape := ⟨2, ![512, 1024]⟩
abbrev S512 : Shape := ⟨1, ![512]⟩
abbrev S512x1 : Shape := ⟨2, ![512, 1]⟩
abbrev S512x3200 : Shape := ⟨2, ![512, 3200]⟩
abbrev S512x512 : Shape := ⟨2, ![512, 512]⟩
abbrev S128x512 : Shape := ⟨2, ![128, 512]⟩
abbrev S32x512 : Shape := ⟨2, ![32, 512]⟩
abbrev S512x1792 : Shape := ⟨2, ![512, 1792]⟩
abbrev S512x256 : Shape := ⟨2, ![512, 256]⟩

abbrev nBuf : Space → Nat
  | .hbm => 32
  | .vmem => 34
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x3096, .f32⟩
  | .hbm, ⟨3, _⟩ => ⟨S1792, .f32⟩
  | .hbm, ⟨4, _⟩ => ⟨S8192x32, .f32⟩
  | .hbm, ⟨5, _⟩ => ⟨S8192x32, .f32⟩
  | .hbm, ⟨6, _⟩ => ⟨S1024x24, .f32⟩
  | .hbm, ⟨7, _⟩ => ⟨S1024x1280, .f32⟩
  | .hbm, ⟨8, _⟩ => ⟨S_, .i32⟩
  | .hbm, ⟨9, _⟩ => ⟨S_, .f32⟩
  | .hbm, ⟨10, _⟩ => ⟨S1024x128, .f32⟩
  | .hbm, ⟨11, _⟩ => ⟨S1024x1792, .f32⟩
  | .hbm, ⟨12, _⟩ => ⟨S1024x3200, .f32⟩
  | .hbm, ⟨13, _⟩ => ⟨S1024x3200, .bf16⟩
  | .hbm, ⟨14, _⟩ => ⟨S8192x128, .f32⟩
  | .hbm, ⟨15, _⟩ => ⟨S8192x32, .f32⟩
  | .hbm, ⟨16, _⟩ => ⟨S8192x32, .f32⟩
  | .hbm, ⟨17, _⟩ => ⟨S8192x128, .f32⟩
  | .hbm, ⟨18, _⟩ => ⟨S1x1792, .f32⟩
  | .hbm, ⟨19, _⟩ => ⟨S1x1024, .f32⟩
  | .hbm, ⟨20, _⟩ => ⟨S2x8192x512, .bf16⟩
  | .hbm, ⟨21, _⟩ => ⟨S2x8192x128, .f32⟩
  | .hbm, ⟨22, _⟩ => ⟨S2x8192x128, .f32⟩
  | .hbm, ⟨23, _⟩ => ⟨S2x8192x128, .bf16⟩
  | .hbm, ⟨24, _⟩ => ⟨S2x128x8192, .bf16⟩
  | .hbm, ⟨25, _⟩ => ⟨S2x8192x128, .bf16⟩
  | .hbm, ⟨26, _⟩ => ⟨S2x128x8192, .bf16⟩
  | .hbm, ⟨27, _⟩ => ⟨S2x32x8192, .f32⟩
  | .hbm, ⟨28, _⟩ => ⟨S2x8192x512, .f32⟩
  | .hbm, ⟨29, _⟩ => ⟨S2x8192x512, .f32⟩
  | .hbm, ⟨30, _⟩ => ⟨S2x8192x512, .f32⟩
  | .hbm, ⟨31, _⟩ => ⟨S2x8192x256, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3200, .bf16⟩
  | .local _ .vmem, ⟨4, _⟩ => ⟨S1x1792, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S1x512x512, .bf16⟩
  | .local _ .vmem, ⟨10, _⟩ => ⟨S1x512x512, .bf16⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x512x128, .bf16⟩
  | .local _ .vmem, ⟨16, _⟩ => ⟨S1x512x128, .bf16⟩
  | .local _ .vmem, ⟨17, _⟩ => ⟨S1x128x512, .bf16⟩
  | .local _ .vmem, ⟨18, _⟩ => ⟨S1x128x512, .bf16⟩
  | .local _ .vmem, ⟨19, _⟩ => ⟨S1x512x128, .bf16⟩
  | .local _ .vmem, ⟨20, _⟩ => ⟨S1x512x128, .bf16⟩
  | .local _ .vmem, ⟨21, _⟩ => ⟨S1x128x512, .bf16⟩
  | .local _ .vmem, ⟨22, _⟩ => ⟨S1x128x512, .bf16⟩
  | .local _ .vmem, ⟨23, _⟩ => ⟨S1x32x512, .f32⟩
  | .local _ .vmem, ⟨24, _⟩ => ⟨S1x32x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x512, .f32⟩
  | .local _ .vmem, ⟨29, _⟩ => ⟨S1x512x512, .f32⟩
  | .local _ .vmem, ⟨30, _⟩ => ⟨S1x512x512, .f32⟩
  | .local _ .vmem, ⟨31, _⟩ => ⟨S1x512x256, .f32⟩
  | .local _ .vmem, ⟨32, _⟩ => ⟨S1x512x256, .f32⟩
  | .local _ .vmem, ⟨33, _⟩ => ⟨S8x1792, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12_0 : Ref sig .tc := ⟨.hbm, 20, rfl⟩
abbrev main_v12_1 : Ref sig .tc := ⟨.hbm, 21, rfl⟩
abbrev main_v12_2 : Ref sig .tc := ⟨.hbm, 22, rfl⟩
abbrev main_v12_3 : Ref sig .tc := ⟨.hbm, 23, rfl⟩
abbrev main_v12_4 : Ref sig .tc := ⟨.hbm, 24, rfl⟩
abbrev main_v12_5 : Ref sig .tc := ⟨.hbm, 25, rfl⟩
abbrev main_v12_6 : Ref sig .tc := ⟨.hbm, 26, rfl⟩
abbrev main_v12_7 : Ref sig .tc := ⟨.hbm, 27, rfl⟩
abbrev main_v12_8 : Ref sig .tc := ⟨.hbm, 28, rfl⟩
abbrev main_v12_9 : Ref sig .tc := ⟨.hbm, 29, rfl⟩
abbrev main_v12_10 : Ref sig .tc := ⟨.hbm, 30, rfl⟩
abbrev main_v12_11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_scratch0 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3200 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ProjReferenceIdeal.lean ====
abbrev S2x8192x1024 : Shape := ⟨3, ![2, 8192, 1024]⟩
abbrev S1024 : Shape := ⟨1, ![1024]⟩
abbrev S1024x3096 : Shape := ⟨2, ![1024, 3096]⟩
abbrev S1792 : Shape := ⟨1, ![1792]⟩
abbrev S8192x32 : Shape := ⟨2, ![8192, 32]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x3096 : Shape := ⟨3, ![2, 8192, 3096]⟩
abbrev S2x8192x1304 : Shape := ⟨3, ![2, 8192, 1304]⟩
abbrev S2x8192x1792 : Shape := ⟨3, ![2, 8192, 1792]⟩
abbrev S2x8193x1792 : Shape := ⟨3, ![2, 8193, 1792]⟩
abbrev S1x1x1792 : Shape := ⟨3, ![1, 1, 1792]⟩
abbrev S2x8192x512 : Shape := ⟨3, ![2, 8192, 512]⟩
abbrev S2x8192x128 : Shape := ⟨3, ![2, 8192, 128]⟩
abbrev S2x8192x24 : Shape := ⟨3, ![2, 8192, 24]⟩
abbrev S2x8192x32 : Shape := ⟨3, ![2, 8192, 32]⟩
abbrev S2x8192x8x64 : Shape := ⟨4, ![2, 8192, 8, 64]⟩
abbrev S2x8192x8x32 : Shape := ⟨4, ![2, 8192, 8, 32]⟩
abbrev S8192x1x32 : Shape := ⟨3, ![8192, 1, 32]⟩
abbrev S1x8192x1x32 : Shape := ⟨4, ![1, 8192, 1, 32]⟩
abbrev S2x8192x2x64 : Shape := ⟨4, ![2, 8192, 2, 64]⟩
abbrev S2x8192x2x32 : Shape := ⟨4, ![2, 8192, 2, 32]⟩
abbrev S2x128x8192 : Shape := ⟨3, ![2, 128, 8192]⟩
abbrev S2x32x8192 : Shape := ⟨3, ![2, 32, 8192]⟩
abbrev S2x8192x256 : Shape := ⟨3, ![2, 8192, 256]⟩

abbrev nBuf : Space → Nat
  | .hbm => 131
  | .vmem => 0
  | .smem => 0
  | _ => 0

abbrev hbmTy0_0 (i : Nat) : BufTy := match i % 128 with
  | 0 => ⟨S2x8192x1024, .f32⟩
  | 1 => ⟨S1024, .f32⟩
  | 2 => ⟨S1024x3096, .f32⟩
  | 3 => ⟨S1792, .f32⟩
  | 4 => ⟨S8192x32, .f32⟩
  | 5 => ⟨S8192x32, .f32⟩
  | 6 => ⟨S2x8192x1024, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x1024, .f32⟩
  | 18 => ⟨S2x8192x1024, .f32⟩
  | 19 => ⟨S1x1x1024, .f32⟩
  | 20 => ⟨S2x8192x1024, .f32⟩
  | 21 => ⟨S2x8192x1024, .f32⟩
  | 22 => ⟨S2x8192x3096, .f32⟩
  | 23 => ⟨S2x8192x1304, .f32⟩
  | 24 => ⟨S2x8192x1792, .f32⟩
  | 25 => ⟨S_, .i32⟩
  | 26 => ⟨S_, .f32⟩
  | 27 => ⟨S2x8193x1792, .f32⟩
  | 28 => ⟨S2x8192x1792, .f32⟩
  | 29 => ⟨S2x8192x1792, .f32⟩
  | 30 => ⟨S1x1x1792, .f32⟩
  | 31 => ⟨S2x8192x1792, .f32⟩
  | 32 => ⟨S2x8192x1792, .f32⟩
  | 33 => ⟨S2x8192x1792, .f32⟩
  | 34 => ⟨S2x8192x512, .f32⟩
  | 35 => ⟨S2x8192x128, .f32⟩
  | 36 => ⟨S2x8192x128, .f32⟩
  | 37 => ⟨S2x8192x128, .f32⟩
  | 38 => ⟨S2x8192x128, .f32⟩
  | 39 => ⟨S2x8192x128, .f32⟩
  | 40 => ⟨S2x8192x128, .f32⟩
  | 41 => ⟨S2x8192x24, .f32⟩
  | 42 => ⟨S_, .i32⟩
  | 43 => ⟨S_, .f32⟩
  | 44 => ⟨S2x8192x32, .f32⟩
  | 45 => ⟨S2x8192x32, .f32⟩
  | 46 => ⟨S2x8192x32, .f32⟩
  | 47 => ⟨S_, .f32⟩
  | 48 => ⟨S2x8192x32, .f32⟩
  | 49 => ⟨S2x8192x32, .f32⟩
  | 50 => ⟨S_, .f32⟩
  | 51 => ⟨S2x8192x32, .f32⟩
  | 52 => ⟨S2x8192x32, .f32⟩
  | 53 => ⟨S2x8192x8x64, .f32⟩
  | 54 => ⟨S2x8192x8x32, .f32⟩
  | 55 => ⟨S2x8192x8x32, .f32⟩
  | 56 => ⟨S8192x1x32, .f32⟩
  | 57 => ⟨S8192x1x32, .f32⟩
  | 58 => ⟨S1x8192x1x32, .f32⟩
  | 59 => ⟨S2x8192x8x32, .f32⟩
  | 60 => ⟨S2x8192x8x32, .f32⟩
  | 61 => ⟨S1x8192x1x32, .f32⟩
  | 62 => ⟨S2x8192x8x32, .f32⟩
  | 63 => ⟨S2x8192x8x32, .f32⟩
  | 64 => ⟨S2x8192x8x32, .f32⟩
  | 65 => ⟨S1x8192x1x32, .f32⟩
  | 66 => ⟨S2x8192x8x32, .f32⟩
  | 67 => ⟨S2x8192x8x32, .f32⟩
  | 68 => ⟨S1x8192x1x32, .f32⟩
  | 69 => ⟨S2x8192x8x32, .f32⟩
  | 70 => ⟨S2x8192x8x32, .f32⟩
  | 71 => ⟨S2x8192x8x32, .f32⟩
  | 72 => ⟨S2x8192x8x64, .f32⟩
  | 73 => ⟨S2x8192x512, .f32⟩
  | 74 => ⟨S_, .f32⟩
  | 75 => ⟨S2x8192x512, .f32⟩
  | 76 => ⟨S2x8192x512, .f32⟩
  | 77 => ⟨S2x8192x512, .bf16⟩
  | 78 => ⟨S2x8192x2x64, .f32⟩
  | 79 => ⟨S2x8192x2x32, .f32⟩
  | 80 => ⟨S2x8192x2x32, .f32⟩
  | 81 => ⟨S8192x1x32, .f32⟩
  | 82 => ⟨S8192x1x32, .f32⟩
  | 83 => ⟨S1x8192x1x32, .f32⟩
  | 84 => ⟨S2x8192x2x32, .f32⟩
  | 85 => ⟨S2x8192x2x32, .f32⟩
  | 86 => ⟨S1x8192x1x32, .f32⟩
  | 87 => ⟨S2x8192x2x32, .f32⟩
  | 88 => ⟨S2x8192x2x32, .f32⟩
  | 89 => ⟨S2x8192x2x32, .f32⟩
  | 90 => ⟨S1x8192x1x32, .f32⟩
  | 91 => ⟨S2x8192x2x32, .f32⟩
  | 92 => ⟨S2x8192x2x32, .f32⟩
  | 93 => ⟨S1x8192x1x32, .f32⟩
  | 94 => ⟨S2x8192x2x32, .f32⟩
  | 95 => ⟨S2x8192x2x32, .f32⟩
  | 96 => ⟨S2x8192x2x32, .f32⟩
  | 97 => ⟨S2x8192x2x64, .f32⟩
  | 98 => ⟨S2x8192x128, .f32⟩
  | 99 => ⟨S2x8192x128, .bf16⟩
  | 100 => ⟨S2x128x8192, .f32⟩
  | 101 => ⟨S2x128x8192, .bf16⟩
  | 102 => ⟨S2x8192x2x64, .f32⟩
  | 103 => ⟨S2x8192x2x32, .f32⟩
  | 104 => ⟨S2x8192x2x32, .f32⟩
  | 105 => ⟨S8192x1x32, .f32⟩
  | 106 => ⟨S8192x1x32, .f32⟩
  | 107 => ⟨S1x8192x1x32, .f32⟩
  | 108 => ⟨S2x8192x2x32, .f32⟩
  | 109 => ⟨S2x8192x2x32, .f32⟩
  | 110 => ⟨S1x8192x1x32, .f32⟩
  | 111 => ⟨S2x8192x2x32, .f32⟩
  | 112 => ⟨S2x8192x2x32, .f32⟩
  | 113 => ⟨S2x8192x2x32, .f32⟩
  | 114 => ⟨S1x8192x1x32, .f32⟩
  | 115 => ⟨S2x8192x2x32, .f32⟩
  | 116 => ⟨S2x8192x2x32, .f32⟩
  | 117 => ⟨S1x8192x1x32, .f32⟩
  | 118 => ⟨S2x8192x2x32, .f32⟩
  | 119 => ⟨S2x8192x2x32, .f32⟩
  | 120 => ⟨S2x8192x2x32, .f32⟩
  | 121 => ⟨S2x8192x2x64, .f32⟩
  | 122 => ⟨S2x8192x128, .f32⟩
  | 123 => ⟨S2x8192x128, .bf16⟩
  | 124 => ⟨S2x128x8192, .f32⟩
  | 125 => ⟨S2x128x8192, .bf16⟩
  | 126 => ⟨S2x32x8192, .f32⟩
  | 127 => ⟨S2x8192x512, .f32⟩
  | _ => ⟨S2x8192x1024, .f32⟩

abbrev hbmTy0_1 (i : Nat) : BufTy := match i % 128 with
  | 0 => ⟨S2x8192x512, .f32⟩
  | 1 => ⟨S2x8192x512, .f32⟩
  | 2 => ⟨S2x8192x256, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c : Ref sig .tc := ⟨.hbm, 25, rfl⟩
abbrev main_call0_v0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_2 : Ref sig .tc := ⟨.hbm, 42, rfl⟩
abbrev main_call1_v0 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_5 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩

abbrev nD : Nat := 1
abbrev τ : Topo := Topo.v7x

variable {F : FTy → Type} [FloatOps F]
-- ==== Proof.PI.Switch.lean ====
module

public import proofs.«01_k».proof.Proof.Gen.KernelIdeal.Frame
public import proofs.«01_k».proof.Proof.Gen.KernelIdeal.Loops

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The memrefs the kernel is called with, each whole. -/
structure Mems where
  a2 : Memref sig .tc .vmem S1x128x512 .bf16
  h2 : a2.IsWhole
  a3 : Memref sig .tc .vmem S1x32x128 .f32
  h3 : a3.IsWhole
  a4 : Memref sig .tc .vmem S1x512x128 .bf16
  h4 : a4.IsWhole
  a5 : Memref sig .tc .vmem S1x128x512 .bf16
  h5 : a5.IsWhole
  a6 : Memref sig .tc .vmem S1x8192x128 .bf16
  h6 : a6.IsWhole
  a7 : Memref sig .tc .vmem S1x128x8192 .bf16
  h7 : a7.IsWhole
  a8 : Memref sig .tc .vmem S1x8192x128 .bf16
  h8 : a8.IsWhole
  a9 : Memref sig .tc .vmem S1x128x8192 .bf16
  h9 : a9.IsWhole
  a10 : Memref sig .tc .vmem S128x512 .bf16
  h10 : a10.IsWhole
  a11 : Memref sig .tc .vmem S512x128 .bf16
  h11 : a11.IsWhole
  a12 : Memref sig .tc .vmem S1x128x512 .f32
  h12 : a12.IsWhole
  a13 : Memref sig .tc .vmem S128x256 .f32
  h13 : a13.IsWhole
  a14 : Memref sig .tc .vmem S512x1024 .f32
  h14 : a14.IsWhole
  a15 : Memref sig .tc .vmem S512x1024 .f32
  h15 : a15.IsWhole
  a16 : Memref sig .tc .vmem S2x80x512 .f32
  h16 : a16.IsWhole

/-- The compressed branch over the first 512 compressed keys: the two groups' outputs and the blocks' importance. -/
def cmp4 (v19 : IVec S1x1024 32) (v49 : FVec F S128x1024 .bf16) (x4 : Vec F S1x512x128 .bf16) (x5 : Vec F S1x128x512 .bf16) (x10 : Vec F S128x512 .bf16) :
    FVec F S64x512 .f32 × FVec F S64x512 .f32 × FVec F S128x256 .f32 :=
  (k0_pay3 v19 v49 (View.ld x4 (Rect.unit (s := S1x512x128) ![0, 0, 0] S1x512x128.size inb_S1x512x128_S1x512x128_0_0_0)) (View.ld x5 (Rect.unit (s := S1x128x512) ![0, 0, 0] S1x64x512.size inb_S1x128x512_S1x64x512_0_0_0)),
    k0_pay182 (k0_pay5 (View.ld x5 (Rect.unit (s := S1x128x512) ![0, 64, 0] S1x64x512.size inb_S1x128x512_S1x64x512_0_64_0))) (k0_pay6 v19 v49 (View.ld x4 (Rect.unit (s := S1x512x128) ![0, 0, 0] S1x512x128.size inb_S1x512x128_S1x512x128_0_0_0))) (constant S64x512 .f32 0x00000000#32),
    k0_pay183 (k0_pay2 v19 v49 (View.ld x4 (Rect.unit (s := S1x512x128) ![0, 0, 0] S1x512x128.size inb_S1x512x128_S1x512x128_0_0_0))) (k0_pay4 v19 v49 (View.ld x4 (Rect.unit (s := S1x512x128) ![0, 0, 0] S1x512x128.size inb_S1x512x128_S1x512x128_0_0_0))) (View.ld x10 (Rect.unit (s := S128x512) ![0, 0] S128x512.size inb_S128x512_S128x512_0_0)))

/-- The compressed branch over the first 384 compressed keys: the two groups' outputs and the blocks' importance. -/
def cmp3 (v19 : IVec S1x1024 32) (v49 : FVec F S128x1024 .bf16) (x4 : Vec F S1x512x128 .bf16) (x5 : Vec F S1x128x512 .bf16) (x10 : Vec F S128x512 .bf16) :
    FVec F S64x512 .f32 × FVec F S64x512 .f32 × FVec F S128x256 .f32 :=
  (k0_pay8 v19 v49 (View.ld x4 (Rect.unit (s := S1x512x128) ![0, 0, 0] S1x384x128.size inb_S1x512x128_S1x384x128_0_0_0)) (View.ld x5 (Rect.unit (s := S1x128x512) ![0, 0, 0] S1x64x384.size inb_S1x128x512_S1x64x384_0_0_0)),
    k0_pay184 (k0_pay10 (View.ld x5 (Rect.unit (s := S1x128x512) ![0, 64, 0] S1x64x384.size inb_S1x128x512_S1x64x384_0_64_0))) (k0_pay11 v19 v49 (View.ld x4 (Rect.unit (s := S1x512x128) ![0, 0, 0] S1x384x128.size inb_S1x512x128_S1x384x128_0_0_0))) (constant S64x512 .f32 0x00000000#32),
    k0_pay185 (k0_pay7 v19 v49 (View.ld x4 (Rect.unit (s := S1x512x128) ![0, 0, 0] S1x384x128.size inb_S1x512x128_S1x384x128_0_0_0))) (k0_pay9 v19 v49 (View.ld x4 (Rect.unit (s := S1x512x128) ![0, 0, 0] S1x384x128.size inb_S1x512x128_S1x384x128_0_0_0))) (View.ld x10 (Rect.unit (s := S128x512) ![0, 0] S128x384.size inb_S128x512_S128x384_0_0)))

/-- The compressed branch over the first 256 compressed keys: the two groups' outputs and the blocks' importance. -/
def cmp2 (v19 : IVec S1x1024 32) (v49 : FVec F S128x1024 .bf16) (x4 : Vec F S1x512x128 .bf16) (x5 : Vec F S1x128x512 .bf16) (x10 : Vec F S128x512 .bf16) :
    FVec F S64x512 .f32 × FVec F S64x512 .f32 × FVec F S128x256 .f32 :=
  (k0_pay13 v19 v49 (View.ld x4 (Rect.unit (s := S1x512x128) ![0, 0, 0] S1x256x128.size inb_S1x512x128_S1x256x128_0_0_0)) (View.ld x5 (Rect.unit (s := S1x128x512) ![0, 0, 0] S1x64x256.size inb_S1x128x512_S1x64x256_0_0_0)),
    k0_pay186 (k0_pay15 (View.ld x5 (Rect.unit (s := S1x128x512) ![0, 64, 0] S1x64x256.size inb_S1x128x512_S1x64x256_0_64_0))) (k0_pay16 v19 v49 (View.ld x4 (Rect.unit (s := S1x512x128) ![0, 0, 0] S1x256x128.size inb_S1x512x128_S1x256x128_0_0_0))) (constant S64x512 .f32 0x00000000#32),
    k0_pay187 (k0_pay12 v19 v49 (View.ld x4 (Rect.unit (s := S1x512x128) ![0, 0, 0] S1x256x128.size inb_S1x512x128_S1x256x128_0_0_0))) (k0_pay14 v19 v49 (View.ld x4 (Rect.unit (s := S1x512x128) ![0, 0, 0] S1x256x128.size inb_S1x512x128_S1x256x128_0_0_0))) (View.ld x10 (Rect.unit (s := S128x512) ![0, 0] S128x256.size inb_S128x512_S128x256_0_0)))

/-- The compressed branch over the first 128 compressed keys: the two groups' outputs and the blocks' importance. -/
def cmp1 (v19 : IVec S1x1024 32) (v49 : FVec F S128x1024 .bf16) (x4 : Vec F S1x512x128 .bf16) (x5 : Vec F S1x128x512 .bf16) (x10 : Vec F S128x512 .bf16) :
    FVec F S64x512 .f32 × FVec F S64x512 .f32 × FVec F S128x256 .f32 :=
  (k0_pay18 v19 v49 (View.ld x4 (Rect.unit (s := S1x512x128) ![0, 0, 0] S1x128x128.size inb_S1x512x128_S1x128x128_0_0_0)) (View.ld x5 (Rect.unit (s := S1x128x512) ![0, 0, 0] S1x64x128.size inb_S1x128x512_S1x64x128_0_0_0)),
    k0_pay188 (k0_pay20 (View.ld x5 (Rect.unit (s := S1x128x512) ![0, 64, 0] S1x64x128.size inb_S1x128x512_S1x64x128_0_64_0))) (k0_pay21 v19 v49 (View.ld x4 (Rect.unit (s := S1x512x128) ![0, 0, 0] S1x128x128.size inb_S1x512x128_S1x128x128_0_0_0))) (constant S64x512 .f32 0x00000000#32),
    k0_pay189 (k0_pay17 v19 v49 (View.ld x4 (Rect.unit (s := S1x512x128) ![0, 0, 0] S1x128x128.size inb_S1x512x128_S1x128x128_0_0_0))) (k0_pay19 v19 v49 (View.ld x4 (Rect.unit (s := S1x512x128) ![0, 0, 0] S1x128x128.size inb_S1x512x128_S1x128x128_0_0_0))) (View.ld x10 (Rect.unit (s := S128x512) ![0, 0] S128x128.size inb_S128x512_S128x128_0_0)))

/-- The branch taken, of the four numbers of key blocks. -/
def sw92 (v73 : BitVec 32) (v87 : BitVec 1) : BitVec 32 :=
  Scalar.minsi (Scalar.maxsi (Scalar.subi (Scalar.select v87 (Scalar.subi v73 1#32) v73) 1#32) 0#32) 3#32

/-- The compressed branch, over as many key blocks as the switch takes. -/
def cmpSel (v73 : BitVec 32) (v87 : BitVec 1) (v19 : IVec S1x1024 32) (v49 : FVec F S128x1024 .bf16) (x4 : Vec F S1x512x128 .bf16) (x5 : Vec F S1x128x512 .bf16) (x10 : Vec F S128x512 .bf16) :
    FVec F S64x512 .f32 × FVec F S64x512 .f32 × FVec F S128x256 .f32 :=
  if Scalar.cmpi .ne (sw92 v73 v87) 0#32 = 1#1 then
    if Scalar.cmpi .ne (Scalar.subi (sw92 v73 v87) 1#32) 0#32 = 1#1 then
      if Scalar.cmpi .ne (Scalar.subi (Scalar.subi (sw92 v73 v87) 1#32) 1#32) 0#32 = 1#1 then cmp4 v19 v49 x4 x5 x10
      else cmp3 v19 v49 x4 x5 x10
    else cmp2 v19 v49 x4 x5 x10
  else cmp1 v19 v49 x4 x5 x10

/-- What the switch and the window's loads leave. -/
def val40 (i : grid0.Coords) (v0 : BitVec 32) (v19 : IVec S1x1024 32) (v49 : FVec F S128x1024 .bf16) (t3 : FVec F S64x512 .f32 × FVec F S64x512 .f32 × FVec F S128x256 .f32)
    (x8 : Vec F S1x8192x128 .bf16) (x9 : Vec F S1x128x8192 .bf16) : (Σ' (v94_0 : FVec F S64x512 .f32) (v94_1 : FVec F S64x512 .f32) (v94_2 : FVec F S128x256 .f32) (v97 : BitVec 32) (v118 : FVec F S640x1024 .f32) (v120 : FVec F S1x1024 .f32) (v126 : FVec F S640x512 .bf16) (v129 : FVec F S64x640 .bf16), FVec F S16x640 .bf16) :=
  ⟨t3.1, t3.2.1, t3.2.2, Scalar.maxsi (Scalar.subi v0 512#32) 0#32,
    k0_pay190 v0 v19 v49 (View.ld x8 (Rect.unit (s := S1x8192x128) (k0_off1 i) S1x640x128.size (k0_off1_inb i))),
    k0_pay191 v0 v19 v49 (View.ld x8 (Rect.unit (s := S1x8192x128) (k0_off1 i) S1x640x128.size (k0_off1_inb i))),
    k0_pay192 v0 v19 v49 (View.ld x8 (Rect.unit (s := S1x8192x128) (k0_off1 i) S1x640x128.size (k0_off1_inb i))),
    k0_pay193 (View.ld x9 (Rect.unit (s := S1x128x8192) (k0_off2 i) S1x64x640.size (k0_off2_inb i))), k0_pay194 (F := F)⟩

set_option maxHeartbeats 2000000 in
theorem part40 (c : Dev nD) (i : grid0.Coords) (A : Mems) (v0 : BitVec 32) (v19 : IVec S1x1024 32) (v49 : FVec F S128x1024 .bf16) (v73 : BitVec 32) (v87 : BitVec 1)
   (x4 : Vec F S1x512x128 .bf16) (x5 : Vec F S1x128x512 .bf16) (x10 : Vec F S128x512 .bf16) (x8 : Vec F S1x8192x128 .bf16) (x9 : Vec F S1x128x8192 .bf16) (K : (Σ' (v94_0 : FVec F S64x512 .f32) (v94_1 : FVec F S64x512 .f32) (v94_2 : FVec F S128x256 .f32) (v97 : BitVec 32) (v118 : FVec F S640x1024 .f32) (v120 : FVec F S1x1024 .f32) (v126 : FVec F S640x512 .bf16) (v129 : FVec F S64x640 .bf16), FVec F S16x640 .bf16) → sProp 𝕄) :
   iprop(owns (c : Thread nD τ) A.a4 fullShare x4 ∗ owns (c : Thread nD τ) A.a5 fullShare x5 ∗ owns (c : Thread nD τ) A.a8 fullShare x8 ∗ owns (c : Thread nD τ) A.a9 fullShare x9 ∗ owns (c : Thread nD τ) A.a10 fullShare x10 ∗ (∀ r, ⌜r = val40 i v0 v19 v49 (cmpSel v73 v87 v19 v49 x4 x5 x10) x8 x9⌝ ∗ owns (c : Thread nD τ) A.a4 fullShare x4 ∗ owns (c : Thread nD τ) A.a5 fullShare x5 ∗ owns (c : Thread nD τ) A.a8 fullShare x8 ∗ owns (c : Thread nD τ) A.a9 fullShare x9 ∗ owns (c : Thread nD τ) A.a10 fullShare x10 -∗ K r))
   ⊢ wp frame (wpE (defs₀ (F := F)) Variants.none (c : Thread nD τ) none) Set.univ (k0_part40 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 v0 v19 v49 v73 v87) K := by
  rw [k0_part40_eq_skeleton]
  unfold k0_part40_skel owns
  simp only [k0_part1_eq_skeleton, k0_part2_eq_skeleton, k0_part3_eq_skeleton, k0_part4_eq_skeleton]
  iintro ⟨⟨%f4, %e4, H4⟩, ⟨%f5, %e5, H5⟩, ⟨%f8, %e8, H8⟩, ⟨%f9, %e9, H9⟩, ⟨%f10, %e10, H10⟩, Hk⟩
  subst e4 e5 e8 e9 e10
  by_cases h1 : Scalar.cmpi .ne (sw92 v73 v87) 0#32 = 1#1
  · by_cases h2 : Scalar.cmpi .ne (Scalar.subi (sw92 v73 v87) 1#32) 0#32 = 1#1
    · by_cases h3 : Scalar.cmpi .ne (Scalar.subi (Scalar.subi (sw92 v73 v87) 1#32) 1#32) 0#32 = 1#1
      · rw [show cmpSel v73 v87 v19 v49 _ _ _ = cmp4 (F := F) v19 v49 _ _ _ by unfold cmpSel; rw [if_pos h1, if_pos h2, if_pos h3]]
        unfold sw92 at h1 h2 h3
        sl_exec
        sl_step
        iapply Hk
        isplitr; · ipureintro; rfl
        isplitl [H4]
        · iexists f4; isplitr; · ipureintro; rfl
          iexact H4
        isplitl [H5]
        · iexists f5; isplitr; · ipureintro; rfl
          iexact H5
        isplitl [H8]
        · iexists f8; isplitr; · ipureintro; rfl
          iexact H8
        isplitl [H9]
        · iexists f9; isplitr; · ipureintro; rfl
          iexact H9
        iexists f10; isplitr; · ipureintro; rfl
        iexact H10
      · rw [show cmpSel v73 v87 v19 v49 _ _ _ = cmp3 (F := F) v19 v49 _ _ _ by unfold cmpSel; rw [if_pos h1, if_pos h2, if_neg h3]]
        unfold sw92 at h1 h2 h3
        sl_exec
        sl_step
        iapply Hk
        isplitr; · ipureintro; rfl
        isplitl [H4]
        · iexists f4; isplitr; · ipureintro; rfl
          iexact H4
        isplitl [H5]
        · iexists f5; isplitr; · ipureintro; rfl
          iexact H5
        isplitl [H8]
        · iexists f8; isplitr; · ipureintro; rfl
          iexact H8
        isplitl [H9]
        · iexists f9; isplitr; · ipureintro; rfl
          iexact H9
        iexists f10; isplitr; · ipureintro; rfl
        iexact H10
    · rw [show cmpSel v73 v87 v19 v49 _ _ _ = cmp2 (F := F) v19 v49 _ _ _ by unfold cmpSel; rw [if_pos h1, if_neg h2]]
      unfold sw92 at h1 h2
      sl_exec
      sl_step
      iapply Hk
      isplitr; · ipureintro; rfl
      isplitl [H4]
      · iexists f4; isplitr; · ipureintro; rfl
        iexact H4
      isplitl [H5]
      · iexists f5; isplitr; · ipureintro; rfl
        iexact H5
      isplitl [H8]
      · iexists f8; isplitr; · ipureintro; rfl
        iexact H8
      isplitl [H9]
      · iexists f9; isplitr; · ipureintro; rfl
        iexact H9
      iexists f10; isplitr; · ipureintro; rfl
      iexact H10
  · rw [show cmpSel v73 v87 v19 v49 _ _ _ = cmp1 (F := F) v19 v49 _ _ _ by unfold cmpSel; rw [if_neg h1]]
    unfold sw92 at h1
    sl_exec
    sl_step
    iapply Hk
    isplitr; · ipureintro; rfl
    isplitl [H4]
    · iexists f4; isplitr; · ipureintro; rfl
      iexact H4
    isplitl [H5]
    · iexists f5; isplitr; · ipureintro; rfl
      iexact H5
    isplitl [H8]
    · iexists f8; isplitr; · ipureintro; rfl
      iexact H8
    isplitl [H9]
    · iexists f9; isplitr; · ipureintro; rfl
      iexact H9
    iexists f10; isplitr; · ipureintro; rfl
    iexact H10

/-- The query block's rotated layout: the number of the first query, each column's query, and the slabs it is made from. -/
def val38 (i : grid0.Coords) (x2 : Vec F S1x128x512 .bf16) : (Σ' (v0 : BitVec 32) (v19 : IVec S1x1024 32) (v23 : FVec F S64x128 .f32) (v27 : FVec F S128x128 .f32) (v29 : FVec F S128x128 .f32) (v33 : FVec F S128x128 .f32) (v35 : FVec F S128x128 .f32) (v39 : FVec F S128x128 .f32) (v41 : FVec F S128x128 .f32) (v45 : FVec F S128x128 .f32), FVec F S64x128 .f32) :=
  ⟨Scalar.muli (BitVec.ofNat 32 (i 1).val) 128#32, k0_pay166 i, k0_pay168 (F := F), k0_pay170 (View.ld x2 (Rect.unit (s := S1x128x512) ![0, 0, 0] S1x128x512.size inb_S1x128x512_S1x128x512_0_0_0)), k0_pay171 (View.ld x2 (Rect.unit (s := S1x128x512) ![0, 0, 0] S1x128x512.size inb_S1x128x512_S1x128x512_0_0_0)), k0_pay173 (View.ld x2 (Rect.unit (s := S1x128x512) ![0, 0, 0] S1x128x512.size inb_S1x128x512_S1x128x512_0_0_0)), k0_pay174 (View.ld x2 (Rect.unit (s := S1x128x512) ![0, 0, 0] S1x128x512.size inb_S1x128x512_S1x128x512_0_0_0)), k0_pay176 (View.ld x2 (Rect.unit (s := S1x128x512) ![0, 0, 0] S1x128x512.size inb_S1x128x512_S1x128x512_0_0_0)), k0_pay177 (View.ld x2 (Rect.unit (s := S1x128x512) ![0, 0, 0] S1x128x512.size inb_S1x128x512_S1x128x512_0_0_0)), k0_pay179 (View.ld x2 (Rect.unit (s := S1x128x512) ![0, 0, 0] S1x128x512.size inb_S1x128x512_S1x128x512_0_0_0)), k0_pay180 (View.ld x2 (Rect.unit (s := S1x128x512) ![0, 0, 0] S1x128x512.size inb_S1x128x512_S1x128x512_0_0_0))⟩

theorem part38 (c : Dev nD) (i : grid0.Coords) (A : Mems) (x2 : Vec F S1x128x512 .bf16) (K : (Σ' (v0 : BitVec 32) (v19 : IVec S1x1024 32) (v23 : FVec F S64x128 .f32) (v27 : FVec F S128x128 .f32) (v29 : FVec F S128x128 .f32) (v33 : FVec F S128x128 .f32) (v35 : FVec F S128x128 .f32) (v39 : FVec F S128x128 .f32) (v41 : FVec F S128x128 .f32) (v45 : FVec F S128x128 .f32), FVec F S64x128 .f32) → sProp 𝕄) :
   iprop(owns (c : Thread nD τ) A.a2 fullShare x2 ∗ (∀ r, ⌜r = val38 i x2⌝ ∗ owns (c : Thread nD τ) A.a2 fullShare x2 -∗ K r))
   ⊢ wp frame (wpE (defs₀ (F := F)) Variants.none (c : Thread nD τ) none) Set.univ (k0_part38 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16) K := by
  rw [k0_part38_eq_skeleton]
  unfold k0_part38_skel owns
  iintro ⟨⟨%f2, %e2, H2⟩, Hk⟩
  subst e2
  sl_exec
  sl_step
  iapply Hk
  isplitr; · ipureintro; rfl
  iexists f2; isplitr; · ipureintro; rfl
  iexact H2

/-- The count of key blocks that the switch is computed from, and whether the division rounds down. -/
def cnt39 (v0 : BitVec 32) : BitVec 32 × BitVec 1 :=
  let v50 : BitVec 32 := Scalar.addi v0 128#32
  let v51 : BitVec 32 := Scalar.subi v50 32#32
  let v52 : BitVec 32 := Scalar.divsi v51 16#32
  let v53 : BitVec 1 := Scalar.cmpi .sgt v51 0#32
  let v54 : BitVec 32 := Scalar.extui v53
  let v55 : BitVec 1 := Scalar.cmpi .slt v51 0#32
  let v56 : BitVec 32 := Scalar.extui v55
  let v57 : BitVec 32 := Scalar.subi v54 v56
  let v58 : BitVec 1 := Scalar.cmpi .sgt 16#32 0#32
  let v59 : BitVec 32 := Scalar.extui v58
  let v60 : BitVec 1 := Scalar.cmpi .slt 16#32 0#32
  let v61 : BitVec 32 := Scalar.extui v60
  let v62 : BitVec 32 := Scalar.subi v59 v61
  let v63 : BitVec 1 := Scalar.cmpi .ne v57 v62
  let v64 : BitVec 32 := Scalar.remsi v51 16#32
  let v65 : BitVec 1 := Scalar.cmpi .ne v64 0#32
  let v66 : BitVec 1 := Scalar.andi v63 v65
  let v67 : BitVec 32 := Scalar.subi v52 1#32
  let v68 : BitVec 32 := Scalar.select v66 v67 v52
  let v69 : BitVec 32 := Scalar.addi v68 1#32
  let v70 : BitVec 32 := Scalar.addi v69 128#32
  let v71 : BitVec 32 := Scalar.subi v70 1#32
  let v72 : BitVec 32 := Scalar.maxsi v71 128#32
  let v73 : BitVec 32 := Scalar.divsi v72 128#32
  let v74 : BitVec 1 := Scalar.cmpi .sgt v72 0#32
  let v75 : BitVec 32 := Scalar.extui v74
  let v76 : BitVec 1 := Scalar.cmpi .slt v72 0#32
  let v77 : BitVec 32 := Scalar.extui v76
  let v78 : BitVec 32 := Scalar.subi v75 v77
  let v79 : BitVec 1 := Scalar.cmpi .sgt 128#32 0#32
  let v80 : BitVec 32 := Scalar.extui v79
  let v81 : BitVec 1 := Scalar.cmpi .slt 128#32 0#32
  let v82 : BitVec 32 := Scalar.extui v81
  let v83 : BitVec 32 := Scalar.subi v80 v82
  let v84 : BitVec 1 := Scalar.cmpi .ne v78 v83
  let v85 : BitVec 32 := Scalar.remsi v72 128#32
  let v86 : BitVec 1 := Scalar.cmpi .ne v85 0#32
  let v87 : BitVec 1 := Scalar.andi v84 v86
  (v73, v87)

theorem part39 (c : Dev nD) (i : grid0.Coords) (A : Mems) (v0 : BitVec 32) (v23 : FVec F S64x128 .f32) (v27 : FVec F S128x128 .f32) (v29 : FVec F S128x128 .f32) (v33 : FVec F S128x128 .f32) (v35 : FVec F S128x128 .f32) (v39 : FVec F S128x128 .f32) (v41 : FVec F S128x128 .f32) (v45 : FVec F S128x128 .f32) (v46 : FVec F S64x128 .f32) (K : (Σ' (v49 : FVec F S128x1024 .bf16) (v73 : BitVec 32), BitVec 1) → sProp 𝕄) :
   iprop(∀ r, ⌜r = ⟨k0_pay181 v23 v27 v29 v33 v35 v39 v41 v45 v46, (cnt39 v0).1, (cnt39 v0).2⟩⌝ -∗ K r)
   ⊢ wp frame (wpE (defs₀ (F := F)) Variants.none (c : Thread nD τ) none) Set.univ (k0_part39 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 v0 v23 v27 v29 v33 v35 v39 v41 v45 v46) K := by
  rw [k0_part39_eq_skeleton]
  unfold k0_part39_skel
  iintro Hk
  sl_exec
  sl_step
  iapply Hk
  ipureintro; rfl

end Cert.Proof.PI
end
-- ==== Proof.PI.Sel0.lean ====
module

public import proofs.«01_k».proof.Proof.Gen.KernelIdeal.Frame
public import proofs.«01_k».proof.Proof.Gen.KernelIdeal.Loops
public import proofs.«01_k».proof.Proof.PI.Switch

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The buffers the selected branch works in: its keys, values, indicators and bias at given contents, the others at any. -/
def St48 (c : Dev nD) (A : Mems) (X6 : BufTy.Contents (Elt F) A.a6.view.ty) (X7 : BufTy.Contents (Elt F) A.a7.view.ty) (X11 : BufTy.Contents (Elt F) A.a11.view.ty) (X13 : BufTy.Contents (Elt F) A.a13.view.ty) : sProp 𝕄 :=
  iprop((A.a6.view.loc (c : Thread nD τ) ↦[A.a6.view.set]{fullShare} X6) ∗ (A.a7.view.loc (c : Thread nD τ) ↦[A.a7.view.set]{fullShare} X7) ∗ (A.a11.view.loc (c : Thread nD τ) ↦[A.a11.view.set]{fullShare} X11) ∗ (A.a13.view.loc (c : Thread nD τ) ↦[A.a13.view.set]{fullShare} X13) ∗ (∃ f, (A.a14.view.loc (c : Thread nD τ) ↦[A.a14.view.set]{fullShare} f)) ∗ (∃ f, (A.a15.view.loc (c : Thread nD τ) ↦[A.a15.view.set]{fullShare} f)) ∗ (∃ f, (A.a16.view.loc (c : Thread nD τ) ↦[A.a16.view.set]{fullShare} f)))

theorem part48 (c : Dev nD) (i : grid0.Coords) (A : Mems) (v19 : IVec S1x1024 32) (v49 : FVec F S128x1024 .bf16) (v401 : BitVec 32) (v418 : BitVec 32) (v419 : FVec F S1x1024 .f32) (v437 : FVec F S256x1024 .bf16)
   (X6 : BufTy.Contents (Elt F) A.a6.view.ty) (X7 : BufTy.Contents (Elt F) A.a7.view.ty) (X11 : BufTy.Contents (Elt F) A.a11.view.ty) (X13 : BufTy.Contents (Elt F) A.a13.view.ty)
   :
   St48 (F := F) c A X6 X7 X11 X13
   ⊢ wp frame (wpE (defs₀ (F := F)) Variants.none (c : Thread nD τ) none) Set.univ (k0_part48 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 v19 v49 v401 v418 v419 v437) (fun _ => St48 c A X6 X7 X11 X13) := by
  rw [k0_part48_eq_skeleton]
  unfold k0_part48_skel St48
  iintro ⟨H6, H7, H11, H13, ⟨%f14, H14⟩, ⟨%f15, H15⟩, ⟨%f16, H16⟩⟩
  sl_exec
  sl_step
  isplitl [H6]; · iexact H6
  isplitl [H7]; · iexact H7
  isplitl [H11]; · iexact H11
  isplitl [H13]; · iexact H13
  isplitl [H14]; · iexists _; iexact H14
  isplitl [H15]; · iexists _; iexact H15
  iexists _; iexact H16
end Cert.Proof.PI
end
-- ==== Proof.PI.Body.lean ====
module

public import proofs.«01_k».proof.Proof.Gen.KernelIdeal.Frame
public import proofs.«01_k».proof.Proof.Gen.KernelIdeal.Loops
public import proofs.«01_k».proof.Proof.PI.Sel0

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
theorem body (c : Dev nD) (i : grid0.Coords) (A : Mems) (x2 : Vec F S1x128x512 .bf16) (x3 : Vec F S1x32x128 .f32) (x4 : Vec F S1x512x128 .bf16) (x5 : Vec F S1x128x512 .bf16) (x6 : Vec F S1x8192x128 .bf16) (x7 : Vec F S1x128x8192 .bf16) (x8 : Vec F S1x8192x128 .bf16) (x9 : Vec F S1x128x8192 .bf16) (x10 : Vec F S128x512 .bf16) (x11 : Vec F S512x128 .bf16) (K : PUnit → sProp 𝕄)
   :
   iprop(owns (c : Thread nD τ) A.a2 fullShare x2 ∗ owns (c : Thread nD τ) A.a3 fullShare x3 ∗ owns (c : Thread nD τ) A.a4 fullShare x4 ∗ owns (c : Thread nD τ) A.a5 fullShare x5 ∗ owns (c : Thread nD τ) A.a6 fullShare x6 ∗ owns (c : Thread nD τ) A.a7 fullShare x7 ∗ owns (c : Thread nD τ) A.a8 fullShare x8 ∗ owns (c : Thread nD τ) A.a9 fullShare x9 ∗ owns (c : Thread nD τ) A.a10 fullShare x10 ∗ owns (c : Thread nD τ) A.a11 fullShare x11 ∗ (∃ d, owns (c : Thread nD τ) A.a12 fullShare d) ∗ (∃ d, owns (c : Thread nD τ) A.a13 fullShare d) ∗ (∃ d, owns (c : Thread nD τ) A.a14 fullShare d) ∗ (∃ d, owns (c : Thread nD τ) A.a15 fullShare d) ∗ (∃ d, owns (c : Thread nD τ) A.a16 fullShare d) ∗ (iprop(owns (c : Thread nD τ) A.a2 fullShare x2 ∗ owns (c : Thread nD τ) A.a3 fullShare x3 ∗ owns (c : Thread nD τ) A.a4 fullShare x4 ∗ owns (c : Thread nD τ) A.a5 fullShare x5 ∗ owns (c : Thread nD τ) A.a6 fullShare x6 ∗ owns (c : Thread nD τ) A.a7 fullShare x7 ∗ owns (c : Thread nD τ) A.a8 fullShare x8 ∗ owns (c : Thread nD τ) A.a9 fullShare x9 ∗ owns (c : Thread nD τ) A.a10 fullShare x10 ∗ owns (c : Thread nD τ) A.a11 fullShare x11 ∗ (∃ d, owns (c : Thread nD τ) A.a12 fullShare d) ∗ (∃ d, owns (c : Thread nD τ) A.a13 fullShare d) ∗ (∃ d, owns (c : Thread nD τ) A.a14 fullShare d) ∗ (∃ d, owns (c : Thread nD τ) A.a15 fullShare d) ∗ (∃ d, owns (c : Thread nD τ) A.a16 fullShare d)) -∗ K ⟨⟩))
   ⊢ wp frame (wpE (defs₀ (F := F)) Variants.none (c : Thread nD τ) none) Set.univ (cc0_nsa_attn (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16) K := by
  rw [cc0_nsa_attn_eq_skeleton]
  unfold cc0_nsa_attn_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%f11, %e11, H11⟩, ⟨%d12, %f12, -, H12⟩, ⟨%d13, %f13, -, H13⟩, ⟨%d14, %f14, -, H14⟩, ⟨%d15, %f15, -, H15⟩, ⟨%d16, %f16, -, H16⟩, Hk⟩
  subst e2 e3 e4 e5 e6 e7 e8 e9 e10 e11
  rw [wp_bind]
  iapply (part38 (F := F) c i A _ _)
  unfold owns
  isplitl [H2]
  · iexists f2; isplitr; · ipureintro; rfl
    iexact H2
  iintro %r ⟨%hr, ⟨%f2, %e2, H2⟩⟩
  unfold val38 at hr
  subst hr
  dsimp only
  rw [wp_bind]
  iapply (part39 (F := F) c i A _ _ _ _ _ _ _ _ _ _ _)
  iintro %r %hr
  subst hr
  dsimp only
  rw [wp_bind]
  iapply (part40 (F := F) c i A _ _ _ _ _ _ _ _ _ _ _)
  unfold owns
  isplitl [H4]
  · iexists f4; isplitr; · ipureintro; rfl
    iexact H4
  isplitl [H5]
  · iexists f5; isplitr; · ipureintro; rfl
    iexact H5
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iintro %r ⟨%hr, ⟨%f4, %e4, H4⟩, ⟨%f5, %e5, H5⟩, ⟨%f8, %e8, H8⟩, ⟨%f9, %e9, H9⟩, ⟨%f10, %e10, H10⟩⟩
  unfold val40 at hr
  subst hr
  dsimp only
  generalize hp : k0_part48 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 = p48
  sl_exec
  subst hp
  rw [wp_bind]
  iapply (wp_wand_r Idealize.ShloMosaic.frame (wpE (defs₀ (F := F)) Variants.none (c : Thread nD τ) none) Set.univ (Q := fun _ => St48 (F := F) c A _ _ _ _))
  isplitl [H6 H7 H11 H13 H14 H15 H16]
  · iapply (part48 (F := F) c i A)
    unfold St48
    isplitl [H6]; · iexact H6
    isplitl [H7]; · iexact H7
    isplitl [H11]; · iexact H11
    isplitl [H13]; · iexact H13
    isplitl [H14]; · iexists _; iexact H14
    isplitl [H15]; · iexists _; iexact H15
    iexists _; iexact H16
  iintro %_
  unfold St48
  iintro ⟨H6, H7, H11, H13, ⟨%g14, H14⟩, ⟨%g15, H15⟩, ⟨%g16, H16⟩⟩
  sl_exec
  sl_step
  iapply Hk

  isplitl [H2]
  · iexists f2; isplitr; · ipureintro; exact e2
    iexact H2
  isplitl [H3]
  · iexists f3; isplitr; · ipureintro; rfl
    iexact H3
  isplitl [H4]
  · iexists f4; isplitr; · ipureintro; exact e4
    iexact H4
  isplitl [H5]
  · iexists f5; isplitr; · ipureintro; exact e5
    iexact H5
  isplitl [H6]
  · iexists f6; isplitr; · ipureintro; rfl
    iexact H6
  isplitl [H7]
  · iexists f7; isplitr; · ipureintro; rfl
    iexact H7
  isplitl [H8]
  · iexists f8; isplitr; · ipureintro; exact e8
    iexact H8
  isplitl [H9]
  · iexists f9; isplitr; · ipureintro; exact e9
    iexact H9
  isplitl [H10]
  · iexists f10; isplitr; · ipureintro; exact e10
    iexact H10
  isplitl [H11]
  · iexists f11; isplitr; · ipureintro; rfl
    iexact H11
  isplitl [H12]
  · iexists _; iexists _; isplitr
    swap; · iexact H12
    ipureintro; rfl
  isplitl [H13]
  · iexists _; iexists _; isplitr
    swap; · iexact H13
    ipureintro; rfl
  isplitl [H14]
  · iexists _; iexists _; isplitr
    swap; · iexact H14
    ipureintro; rfl
  isplitl [H15]
  · iexists _; iexists _; isplitr
    swap; · iexact H15
    ipureintro; rfl
  iexists _; iexists _; isplitr
  swap; · iexact H16
  ipureintro; rfl
end Cert.Proof.PI
end
-- ==== Proof.PI.Run.lean ====
module

public import proofs.«01_k».proof.Proof.Gen.KernelIdeal.Frame
public import proofs.«01_k».proof.Proof.Gen.KernelIdeal.Loops
public import proofs.«01_k».proof.Proof.PI.Body

@[expose] public section

set_option maxRecDepth 16384

noncomputable section

namespace Cert.Proof.PI

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The proof data of the region: the arrays as the host part leaves them, the ten inputs kept at their blocks, the
    scratch buffers at any contents between the points. Of the output window nothing is said here (`fgt` below). -/
def dats (_ : Fin 1) (c : Dev nD) : Dat τ (Elt F) Unit ℕ (UR sig nD τ) ℕ cfg0 c where
  A w := Gen.V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => Classical.arbitrary _
  Φ _ := Pipeline.ΦA spec0 c
  q _ := fullShare
  owed _ := 0

/-- The output window is the forgotten one. -/
def fgt : Fin cfg0.W → Bool := fun w => w.val == 10

theorem A_eq (c : Dev nD) (w : Fin cfg0.W) : (dats m 0 c).A w = Gen.V m c (Pipeline.arrRef spec0 w) := by
  dsimp only [dats]

theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  Gen.before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  Gen.before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  Gen.before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  Gen.before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  Gen.before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  Gen.before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  Gen.before0_6_of m (dats m 0 c) (A_eq m c 6) (after0_6 m c) t d
theorem after0_7 (c : Dev nD) (t : Fin cfg0.N) : (dats m 0 c).after 7 t = iblk m c 7 t := by dsimp only [dats]
theorem before0_7 (c : Dev nD) (t : Fin cfg0.N) (d) : (dats m 0 c).before 7 t d = iblk m c 7 t :=
  Gen.before0_7_of m (dats m 0 c) (A_eq m c 7) (after0_7 m c) t d
theorem after0_8 (c : Dev nD) (t : Fin cfg0.N) : (dats m 0 c).after 8 t = iblk m c 8 t := by dsimp only [dats]
theorem before0_8 (c : Dev nD) (t : Fin cfg0.N) (d) : (dats m 0 c).before 8 t d = iblk m c 8 t :=
  Gen.before0_8_of m (dats m 0 c) (A_eq m c 8) (after0_8 m c) t d
theorem after0_9 (c : Dev nD) (t : Fin cfg0.N) : (dats m 0 c).after 9 t = iblk m c 9 t := by dsimp only [dats]
theorem before0_9 (c : Dev nD) (t : Fin cfg0.N) (d) : (dats m 0 c).before 9 t d = iblk m c 9 t :=
  Gen.before0_9_of m (dats m 0 c) (A_eq m c 9) (after0_9 m c) t d

/-- The kernel's operands at point `t`. -/
def memsAt (t : Fin cfg0.N) : Mems := { a2 := win0_0.stage (cfg0.slots t 0), h2 := hstage0_0 ((cfg0.slots t 0).cast nbuf0_0), a3 := win0_1.stage (cfg0.slots t 1), h3 := hstage0_1 ((cfg0.slots t 1).cast nbuf0_1), a4 := win0_2.stage (cfg0.slots t 2), h4 := hstage0_2 ((cfg0.slots t 2).cast nbuf0_2), a5 := win0_3.stage (cfg0.slots t 3), h5 := hstage0_3 ((cfg0.slots t 3).cast nbuf0_3), a6 := win0_4.stage (cfg0.slots t 4), h6 := hstage0_4 ((cfg0.slots t 4).cast nbuf0_4), a7 := win0_5.stage (cfg0.slots t 5), h7 := hstage0_5 ((cfg0.slots t 5).cast nbuf0_5), a8 := win0_6.stage (cfg0.slots t 6), h8 := hstage0_6 ((cfg0.slots t 6).cast nbuf0_6), a9 := win0_7.stage (cfg0.slots t 7), h9 := hstage0_7 ((cfg0.slots t 7).cast nbuf0_7), a10 := win0_8.stage (cfg0.slots t 8), h10 := hstage0_8 ((cfg0.slots t 8).cast nbuf0_8), a11 := win0_9.stage (cfg0.slots t 9), h11 := hstage0_9 ((cfg0.slots t 9).cast nbuf0_9), a12 := win0_10.stage (cfg0.slots t 10), h12 := hstage0_10 ((cfg0.slots t 10).cast nbuf0_10), a13 := Memref.whole cc0_scratch0, h13 := Memref.isWhole_whole _, a14 := Memref.whole cc0_scratch1, h14 := Memref.isWhole_whole _, a15 := Memref.whole cc0_scratch2, h15 := Memref.isWhole_whole _, a16 := Memref.whole cc0_scratch3, h16 := Memref.isWhole_whole _ }

/-- What the body is called with at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ X, owns (c : Thread nD τ) (st0_10 t) fullShare X))

/-- What the body returns at point `t`. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ (∃ X, owns (c : Thread nD τ) (st0_10 t) fullShare X))

/-- The scratch buffers, each at some contents, and the generator's register: the invariant between the points. -/
theorem phi_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA
  rw [Gen.scopedRest0_eq]
  simp only [owns_whole]; try rfl

set_option maxHeartbeats 2000000 in
/-- The body at any point. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  simp only [before0_0, before0_1, before0_2, before0_3, before0_4, before0_5, before0_6, before0_7, before0_8, before0_9]
  rw [show (dats m 0 c).Φ t.castSucc = Pipeline.ΦA spec0 c from rfl, show (dats m 0 c).Φ t.succ = Pipeline.ΦA spec0 c from rfl,
    show (dats m 0 c).owesAt () t.succ = (dats m 0 c).owesAt () t.castSucc from rfl, phi_eq,
    after0_0, after0_1, after0_2, after0_3, after0_4, after0_5, after0_6, after0_7, after0_8, after0_9]
  iintro ⟨⟨⟨⟨%s0, S0⟩, ⟨%s1, S1⟩, ⟨%s2, S2⟩, ⟨%s3, S3⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (body (F := F) c (grid0.coords t) (memsAt t) (iblk m c 0 t) (iblk m c 1 t) (iblk m c 2 t) (iblk m c 3 t) (iblk m c 4 t) (iblk m c 5 t) (iblk m c 6 t) (iblk m c 7 t) (iblk m c 8 t) (iblk m c 9 t) _)
  unfold memsAt
  dsimp only
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [S0]; · iexists _; iexact S0
  isplitl [S1]; · iexists _; iexact S1
  isplitl [S2]; · iexists _; iexact S2
  isplitl [S3]; · iexists _; iexact S3
  iintro ⟨H0, H1, H2, H3, H4, H5, H6, H7, H8, H9, ⟨%e10, H10⟩, ⟨%e11, S0⟩, ⟨%e12, S1⟩, ⟨%e13, S2⟩, ⟨%e14, S3⟩⟩
  isplitl [S0 S1 S2 S3 Hr]
  · isplitl [S0 S1 S2 S3]
    · isplitl [S0]; · iexists _; iexact S0
      isplitl [S1]; · iexists _; iexact S1
      isplitl [S2]; · iexists _; iexact S2
      iexists _; iexact S3
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
set_option maxHeartbeats 800000 in
/-- The run: it terminates, every buffer outside the region ends as the region found it, every counter at zero. -/
theorem run_main : θ_run defs (onTc (τ := τ) (main (F := F))) (s₀ m ρ)
    (fun r => Pipeline.RDat.FramePost cfg0 (fun c => (dats m 0 c).toRForget fgt) (Gen.V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := Gen.V m) (hmain := Gen.hmain m Variants.none) (hA := A_eq m) (hΦ := fun _ _ => rfl)

/-- The frame, over any float values: every execution ends, the arguments unchanged and the counters at zero. -/
theorem frame_run : θ_run defs (onTc (τ := τ) (main (F := F))) ⟨m, fun _ => 0, ρ⟩ (fun r => (∀ c : Dev nD,
r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => ⟨
((h.1 c).2 main_arg0 (Pipeline.mem_restRefs_of main_arg0 (by decide) (by decide))).trans (Gen.V_main_arg0 m c),
    ((h.1 c).2 main_arg1 (Pipeline.mem_restRefs_of main_arg1 (by decide) (by decide))).trans (Gen.V_main_arg1 m c),
    ((h.1 c).2 main_arg2 (Pipeline.mem_restRefs_of main_arg2 (by decide) (by decide))).trans (Gen.V_main_arg2 m c),
    ((h.1 c).2 main_arg3 (Pipeline.mem_restRefs_of main_arg3 (by decide) (by decide))).trans (Gen.V_main_arg3 m c),
    ((h.1 c).2 main_arg4 (Pipeline.mem_restRefs_of main_arg4 (by decide) (by decide))).trans (Gen.V_main_arg4 m c),
    ((h.1 c).2 main_arg5 (Pipeline.mem_restRefs_of main_arg5 (by decide) (by decide))).trans (Gen.V_main_arg5 m c),
    ((h.1 c).2 main_arg6 (Pipeline.mem_restRefs_of main_arg6 (by decide) (by decide))).trans (Gen.V_main_arg6 m c),
    ((h.1 c).2 main_arg7 (Pipeline.mem_restRefs_of main_arg7 (by decide) (by decide))).trans (Gen.V_main_arg7 m c)⟩, h.2⟩) (run_main m ρ)

end Cert.Proof.PI
end
-- ==== Proof.P.Sel0.lean ====
module

public import proofs.«01_k».proof.Proof.Gen.Kernel.Frame
public import proofs.«01_k».proof.Proof.Gen.Kernel.Loops
public import proofs.«01_k».proof.Proof.P.Switch

@[expose] public section

set_option maxRecDepth 16384

noncomputable section

namespace Cert.Proof.P

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The buffers the selected branch works in: its keys, values, indicators and bias at given contents, the others at any. -/
def St48 (c : Dev nD) (A : Mems) (X6 : BufTy.Contents (Elt F) A.a6.view.ty) (X7 : BufTy.Contents (Elt F) A.a7.view.ty) (X11 : BufTy.Contents (Elt F) A.a11.view.ty) (X13 : BufTy.Contents (Elt F) A.a13.view.ty) : sProp 𝕄 :=
  iprop((A.a6.view.loc (c : Thread nD τ) ↦[A.a6.view.set]{fullShare} X6) ∗ (A.a7.view.loc (c : Thread nD τ) ↦[A.a7.view.set]{fullShare} X7) ∗ (A.a11.view.loc (c : Thread nD τ) ↦[A.a11.view.set]{fullShare} X11) ∗ (A.a13.view.loc (c : Thread nD τ) ↦[A.a13.view.set]{fullShare} X13) ∗ (∃ f, (A.a14.view.loc (c : Thread nD τ) ↦[A.a14.view.set]{fullShare} f)) ∗ (∃ f, (A.a15.view.loc (c : Thread nD τ) ↦[A.a15.view.set]{fullShare} f)) ∗ (∃ f, (A.a16.view.loc (c : Thread nD τ) ↦[A.a16.view.set]{fullShare} f)))

theorem part48 (c : Dev nD) (i : grid0.Coords) (A : Mems) (v19 : IVec S1x1024 32) (v49 : FVec F S128x1024 .bf16) (v401 : BitVec 32) (v418 : BitVec 32) (v419 : FVec F S1x1024 .f32) (v437 : FVec F S256x1024 .bf16)
   (X6 : BufTy.Contents (Elt F) A.a6.view.ty) (X7 : BufTy.Contents (Elt F) A.a7.view.ty) (X11 : BufTy.Contents (Elt F) A.a11.view.ty) (X13 : BufTy.Contents (Elt F) A.a13.view.ty)
   :
   St48 (F := F) c A X6 X7 X11 X13
   ⊢ wp frame (wpE (defs₀ (F := F)) Variants.none (c : Thread nD τ) none) Set.univ (k0_part48 (F := F) i A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 v19 v49 v401 v418 v419 v437) (fun _ => St48 c A X6 X7 X11 X13) := by
  rw [k0_part48_eq_skeleton]
  unfold k0_part48_skel St48
  iintro ⟨H6, H7, H11, H13, ⟨%f14, H14⟩, ⟨%f15, H15⟩, ⟨%f16, H16⟩⟩
  sl_exec
  sl_step
  isplitl [H6]; · iexact H6
  isplitl [H7]; · iexact H7
  isplitl [H11]; · iexact H11
  isplitl [H13]; · iexact H13
  isplitl [H14]; · iexists _; iexact H14
  isplitl [H15]; · iexists _; iexact H15
  iexists _; iexact H16
end Cert.Proof.P
end
-- ==== Proof.Claims.Frames.lean ====
module

public import proofs.«01_k».proof.Defs
public import proofs.«01_k».proof.Proof.PI.Run
public import proofs.«01_k».proof.Proof.P.Run
public import proofs.«01_k».proof.Proof.Gen.ReferenceIdeal.Run
public import proofs.«01_k».proof.Proof.Gen.FfnKernel.Frame
public import proofs.«01_k».proof.Proof.Gen.FfnKernelIdeal.Frame
public import proofs.«01_k».proof.Proof.Gen.FfnReferenceIdeal.Run
public import proofs.«01_k».proof.Proof.Gen.MemKernel.Frame
public import proofs.«01_k».proof.Proof.Gen.MemKernelIdeal.Frame
public import proofs.«01_k».proof.Proof.Gen.MemReferenceIdeal.Run
public import proofs.«01_k».proof.Proof.Gen.KvKernel.Frame
public import proofs.«01_k».proof.Proof.Gen.KvKernelIdeal.Frame
public import proofs.«01_k».proof.Proof.Gen.KvReferenceIdeal.Run
public import proofs.«01_k».proof.Proof.Gen.ProjKernel.Frame
public import proofs.«01_k».proof.Proof.Gen.ProjKernelIdeal.Frame
public import proofs.«01_k».proof.Proof.Gen.ProjReferenceIdeal.Run

/-!
# The frames, and what the idealisation replaced

Each program ends without a fault, leaves its arguments as they were and every semaphore counter at zero.
-/

@[expose] public section

namespace Cert.Proof

open Idealize.ShloMosaic Idealize.SL.Sem

/-- The attention kernel's frame. -/
theorem frame_kernel : Cert.quiescent_Kernel := fun m ρ _ => P.frame_run m ρ

/-- The idealised attention kernel's frame. -/
theorem frame_ideal : Cert.quiescent_KernelIdeal := fun m ρ _ => PI.frame_run m ρ

/-- The attention reference's frame: the program is host operations only, and it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward kernel's frame, taken from the run over any float values. -/
theorem frame_ffn_kernel : Cert.quiescent_FfnKernel := fun m ρ _ => Cert.FfnKernel.Gen.frame m ρ

/-- The idealised feed-forward kernel's frame. -/
theorem frame_ffn_ideal : Cert.quiescent_FfnKernelIdeal := fun m ρ _ => Cert.FfnKernelIdeal.Gen.frame m ρ

/-- The feed-forward reference's frame. -/
theorem frame_ffn_reference : Cert.quiescent_FfnReferenceIdeal := fun m ρ _ =>
  (θ_run Cert.FfnReferenceIdeal.defs _ _).mono (fun r h => ⟨fun c => (h c).2, sem_eq_zero_of_no_sems (by decide) r.2⟩)
    (Cert.FfnReferenceIdeal.Value.run (F := Ideal) m ρ)

/-- The memory-attention kernel's frame, taken from the run over any float values. -/
theorem frame_mem_kernel : Cert.quiescent_MemKernel := fun m ρ _ => Cert.MemKernel.Gen.frame m ρ

/-- The idealised memory-attention kernel's frame. -/
theorem frame_mem_ideal : Cert.quiescent_MemKernelIdeal := fun m ρ _ => Cert.MemKernelIdeal.Gen.frame m ρ

/-- The memory-attention reference's frame. -/
theorem frame_mem_reference : Cert.quiescent_MemReferenceIdeal := fun m ρ _ =>
  (θ_run Cert.MemReferenceIdeal.defs _ _).mono (fun r h => ⟨fun c => (h c).2, sem_eq_zero_of_no_sems (by decide) r.2⟩)
    (Cert.MemReferenceIdeal.Value.run (F := Ideal) m ρ)

/-- The memory-keys kernel's frame, taken from the run over any float values. -/
theorem frame_kv_kernel : Cert.quiescent_KvKernel := fun m ρ _ => Cert.KvKernel.Gen.frame m ρ

/-- The idealised memory-keys kernel's frame. -/
theorem frame_kv_ideal : Cert.quiescent_KvKernelIdeal := fun m ρ _ => Cert.KvKernelIdeal.Gen.frame m ρ

/-- The memory-keys reference's frame. -/
theorem frame_kv_reference : Cert.quiescent_KvReferenceIdeal := fun m ρ _ =>
  (θ_run Cert.KvReferenceIdeal.defs _ _).mono (fun r h => ⟨fun c => (h c).2.2, sem_eq_zero_of_no_sems (by decide) r.2⟩)
    (Cert.KvReferenceIdeal.Value.run (F := Ideal) m ρ)

/-- The input projections' kernel's frame, taken from the run over any float values. -/
theorem frame_proj_kernel : Cert.quiescent_ProjKernel := fun m ρ _ => Cert.ProjKernel.Gen.frame m ρ

/-- The idealised input projections' kernel's frame. -/
theorem frame_proj_ideal : Cert.quiescent_ProjKernelIdeal := fun m ρ _ => Cert.ProjKernelIdeal.Gen.frame m ρ

/-- The input projections' reference's frame. -/
theorem frame_proj_reference : Cert.quiescent_ProjReferenceIdeal := fun m ρ _ =>
  (θ_run Cert.ProjReferenceIdeal.defs _ _).mono
    (fun r h => ⟨fun c => (h c).2.2.2.2.2.2.2.2.2.2.2.2, sem_eq_zero_of_no_sems (by decide) r.2⟩)
    (Cert.ProjReferenceIdeal.Value.run (F := Ideal) m ρ)

/-- The attention kernel's mask value is minus infinity in the idealised program. -/
theorem preserves_mask : Cert.preserves_Kernel_KernelIdeal :=
  IdealRules.named_const.statement Cert.KernelIdeal.κ "mask" .f32 0xF149F2CA#32 ⊥ rfl

end Cert.Proof

end
-- ==== Proof.Ffn.Block.lean ====
/-
  WHAT ONE POINT OF THE FEED-FORWARD CALL COMPUTES, over the extended reals: each product with a strip of 256 hidden
  columns is a sum over that strip, the eleven strips add up to the sum over all 2816 hidden columns, and the row block the
  point stores is the reference's formula of its own rows of `x`.
-/
module

public import proofs.«01_k».proof.Proof.Gen.FfnKernelIdeal.Value
public import Idealize.ShloMosaic.Lib.Pointwise

@[expose] public section

noncomputable section

namespace Cert.Proof.Ffn

open Idealize.ShloMosaic Cert.FfnKernelIdeal Cert.FfnKernelIdeal.Gen

/-! ## The products as vectors -/

/-- A row block against one strip of an up or gate weight. -/
def strip (H : FVec Ideal S512x1024 .bf16) (w : FVec Ideal S1024x256 .bf16) : FVec Ideal S512x256 .f32 :=
  matmul dot_S512x1024_S1024x256_S512x256_1_0_0_1_n_n none H (shapeCast S1024x256 w shapeCasts_S1024x256_S1024x256)
    (constant S512x256 .f32 0x00000000#32)

/-- The gated strip against its rows of the down weight. -/
def gated (a b : FVec Ideal S512x256 .f32) (w : FVec Ideal S256x1024 .bf16) : FVec Ideal S512x1024 .f32 :=
  matmul dot_S512x256_S256x1024_S512x1024_1_0_0_1_n_n none
    (truncf .bf16 (mulf (divf a (addf (broadcast S512x256 (Scalar.ofBits .f32 0x3F800000#32))
      (exp (subf (broadcast S512x256 (Scalar.ofBits .f32 0x00000000#32)) a)))) b) bitsLt_bf16_f32)
    (shapeCast S256x1024 w shapeCasts_S256x1024_S256x1024) (constant S512x1024 .f32 0x00000000#32)

/-- One strip's whole contribution to the down product. -/
def contrib (H : FVec Ideal S512x1024 .bf16) (wg wu : FVec Ideal S1024x256 .bf16) (wd : FVec Ideal S256x1024 .bf16) :
    FVec Ideal S512x1024 .f32 :=
  gated (strip H wg) (strip H wu) wd

/-- The eleven strips' contributions added in the kernel's order. -/
def total (x0 : Vec Ideal S512x1024 .f32) (x1 : Vec Ideal S1x1024 .f32) (x2 x3 : Vec Ideal S1024x2816 .bf16)
    (x4 : Vec Ideal S2816x1024 .bf16) (x5 : Vec Ideal S1x1024 .f32) : FVec Ideal S512x1024 .f32 :=
  have H := k0_pay18 x0 x1 x2 x3 x4 x5
  addf (addf (addf (addf (addf (addf (addf (addf (addf (addf (addf
    (broadcast S512x1024 (Scalar.ofBits .f32 0x00000000#32))
    (contrib H (View.ld x2 r0_2) (View.ld x3 r0_2) (View.ld x4 r0_3)))
    (contrib H (View.ld x2 r0_4) (View.ld x3 r0_4) (View.ld x4 r0_5)))
    (contrib H (View.ld x2 r0_6) (View.ld x3 r0_6) (View.ld x4 r0_7)))
    (contrib H (View.ld x2 r0_8) (View.ld x3 r0_8) (View.ld x4 r0_9)))
    (contrib H (View.ld x2 r0_10) (View.ld x3 r0_10) (View.ld x4 r0_11)))
    (contrib H (View.ld x2 r0_12) (View.ld x3 r0_12) (View.ld x4 r0_13)))
    (contrib H (View.ld x2 r0_14) (View.ld x3 r0_14) (View.ld x4 r0_15)))
    (contrib H (View.ld x2 r0_16) (View.ld x3 r0_16) (View.ld x4 r0_17)))
    (contrib H (View.ld x2 r0_18) (View.ld x3 r0_18) (View.ld x4 r0_19)))
    (contrib H (View.ld x2 r0_20) (View.ld x3 r0_20) (View.ld x4 r0_21)))
    (contrib H (View.ld x2 r0_22) (View.ld x3 r0_22) (View.ld x4 r0_23))

theorem total_eq (x0 : Vec Ideal S512x1024 .f32) (x1 : Vec Ideal S1x1024 .f32) (x2 x3 : Vec Ideal S1024x2816 .bf16)
    (x4 : Vec Ideal S2816x1024 .bf16) (x5 : Vec Ideal S1x1024 .f32) :
    k0_pay15 (k0_pay18 x0 x1 x2 x3 x4 x5) (k0_pay19 x0 x1 x2 x3 x4 x5) (k0_pay20 x0 x1 x2 x3 x4 x5)
      (k0_pay21 x0 x1 x2 x3 x4 x5) (Scalar.ofBits .f32 0x00000000#32) (View.ld x4 r0_21) (View.ld x2 r0_22)
      (View.ld x3 r0_22) (View.ld x4 r0_23) = total x0 x1 x2 x3 x4 x5 := by
  unfold k0_pay15 k0_pay19 k0_pay20 k0_pay21 total contrib gated strip k0_pay12 k0_pay9 k0_pay7 k0_pay5 k0_pay3 k0_pay4 k0_pay6 k0_pay8 k0_pay10 k0_pay11 k0_pay13 k0_pay14 k0_pay18
  rfl

/-! ## The same at an index -/

theorem strip_apply (H : FVec Ideal S512x1024 .bf16) (w : FVec Ideal S1024x256 .bf16) (p : Fin 512) (n : Fin 256) :
    strip H w (ix2 p n) = ∑ l : Fin 1024, H (ix2 p l) * w (ix2 l n) := by
  pointwise [strip]

/-- The gate: `a / (1 + exp (0 - a)) · b`. -/
def act (a b : EReal) : EReal :=
  Ideal.div a (1 + Ideal.exp (0 - a)) * b

theorem gated_apply (a b : FVec Ideal S512x256 .f32) (w : FVec Ideal S256x1024 .bf16) (p : Fin 512) (j : Fin 1024) :
    gated a b w (ix2 p j) = ∑ n : Fin 256, act (a (ix2 p n)) (b (ix2 p n)) * w (ix2 n j) := by
  pointwise [gated, act]

/-! ## The formula of one row -/

/-- One over the root of a row's mean square, the small constant inside the root. -/
def nrm (u : Fin 1024 → EReal) : EReal :=
  Ideal.rsqrt (Ideal.div (∑ k : Fin 1024, u k * u k) (Ideal.ofBits .f32 0x44800000#32) + Ideal.ofBits .f32 0x358637BD#32)

/-- The normalised row, one column. -/
def hid (u g : Fin 1024 → EReal) (k : Fin 1024) : EReal := u k * nrm u * g k

/-- The normalised row against one column of a weight. -/
def hcol (u g : Fin 1024 → EReal) (W : Fin 1024 → Fin 2816 → EReal) (n : Fin 2816) : EReal :=
  ∑ l : Fin 1024, hid u g l * W l n

/-- One hidden column's term of the down product. -/
def term (u g : Fin 1024 → EReal) (Wg Wu : Fin 1024 → Fin 2816 → EReal) (Wd : Fin 2816 → Fin 1024 → EReal)
    (j : Fin 1024) (n : Fin 2816) : EReal :=
  act (hcol u g Wg n) (hcol u g Wu n) * Wd n j

/-- The down product: all 2816 hidden columns. -/
def down (u g : Fin 1024 → EReal) (Wg Wu : Fin 1024 → Fin 2816 → EReal) (Wd : Fin 2816 → Fin 1024 → EReal)
    (j : Fin 1024) : EReal :=
  ∑ n : Fin 2816, term u g Wg Wu Wd j n

/-- The result's entry: the row plus half of the down product normalised with the second gain. -/
def entry (u g : Fin 1024 → EReal) (Wg Wu : Fin 1024 → Fin 2816 → EReal) (Wd : Fin 2816 → Fin 1024 → EReal)
    (g2 : Fin 1024 → EReal) (j : Fin 1024) : EReal :=
  u j + Ideal.ofBits .f32 0x3F000000#32 * (down u g Wg Wu Wd j * nrm (down u g Wg Wu Wd) * g2 j)

/-! ## Eleven strips make the whole sum -/

theorem sum_strips (f : Fin 2816 → EReal) :
    ∑ n : Fin 2816, f n = ∑ c : Fin 11, ∑ k : Fin 256, f ⟨256 * c.val + k.val, by omega⟩ := by
  rw [← Fintype.sum_prod_type']
  refine (Fintype.sum_equiv (finProdFinEquiv (m := 11) (n := 256)) _ _ fun x => ?_).symm
  congr 1
  apply Fin.ext
  show 256 * x.1.val + x.2.val = x.2.val + 256 * x.1.val
  omega

theorem sum_eleven (g : Fin 11 → EReal) :
    ∑ c : Fin 11, g c = g 0 + g 1 + g 2 + g 3 + g 4 + g 5 + g 6 + g 7 + g 8 + g 9 + g 10 := by
  rw [Fin.sum_univ_castSucc, Fin.sum_univ_castSucc, Fin.sum_univ_castSucc, Fin.sum_univ_eight]
  rfl

section block
variable (x0 : Vec Ideal S512x1024 .f32) (x1 : Vec Ideal S1x1024 .f32) (x2 x3 : Vec Ideal S1024x2816 .bf16)
    (x4 : Vec Ideal S2816x1024 .bf16) (x5 : Vec Ideal S1x1024 .f32)

theorem hid_apply (p : Fin 512) (k : Fin 1024) :
    k0_pay18 x0 x1 x2 x3 x4 x5 (ix2 p k) = hid (fun k => x0 (ix2 p k)) (fun k => x1 (ix2 0 k)) k := by
  pointwise [k0_pay18, k0_pay2, hid, nrm]

theorem contrib_apply (off : Nat) (hoff : off + 256 ≤ 2816) (h1 : ∀ a, (![0, off] : Fin 2 → Nat) a + S1024x256.size a ≤ S1024x2816.size a)
    (h2 : ∀ a, (![off, 0] : Fin 2 → Nat) a + S256x1024.size a ≤ S2816x1024.size a) (p : Fin 512) (j : Fin 1024) :
    contrib (k0_pay18 x0 x1 x2 x3 x4 x5) (View.ld x2 (Rect.unit (s := S1024x2816) ![0, off] S1024x256.size h1))
      (View.ld x3 (Rect.unit (s := S1024x2816) ![0, off] S1024x256.size h1))
      (View.ld x4 (Rect.unit (s := S2816x1024) ![off, 0] S256x1024.size h2)) (ix2 p j)
      = ∑ n : Fin 256, term (fun k => x0 (ix2 p k)) (fun k => x1 (ix2 0 k)) (fun l n => x2 (ix2 l n)) (fun l n => x3 (ix2 l n))
          (fun n j => x4 (ix2 n j)) j ⟨off + n.val, by omega⟩ := by
  unfold contrib
  rw [gated_apply]
  refine Finset.sum_congr rfl fun n _ => ?_
  rw [strip_apply, strip_apply]
  simp only [hid_apply]
  pointwise [term, hcol]

theorem total_apply (p : Fin 512) (j : Fin 1024) :
    total x0 x1 x2 x3 x4 x5 (ix2 p j)
      = down (fun k => x0 (ix2 p k)) (fun k => x1 (ix2 0 k)) (fun l n => x2 (ix2 l n)) (fun l n => x3 (ix2 l n))
          (fun n j => x4 (ix2 n j)) j := by
  unfold total down
  rw [sum_strips]
  simp only [addf_apply, Ideal.addf_def]
  rw [contrib_apply x0 x1 x2 x3 x4 x5 0 (by omega), contrib_apply x0 x1 x2 x3 x4 x5 256 (by omega),
    contrib_apply x0 x1 x2 x3 x4 x5 512 (by omega), contrib_apply x0 x1 x2 x3 x4 x5 768 (by omega),
    contrib_apply x0 x1 x2 x3 x4 x5 1024 (by omega), contrib_apply x0 x1 x2 x3 x4 x5 1280 (by omega),
    contrib_apply x0 x1 x2 x3 x4 x5 1536 (by omega), contrib_apply x0 x1 x2 x3 x4 x5 1792 (by omega),
    contrib_apply x0 x1 x2 x3 x4 x5 2048 (by omega), contrib_apply x0 x1 x2 x3 x4 x5 2304 (by omega),
    contrib_apply x0 x1 x2 x3 x4 x5 2560 (by omega)]
  have z : broadcast S512x1024 (Scalar.ofBits (F := Ideal) .f32 0x00000000#32) (ix2 p j) = (0 : EReal) := by pointwise
  rw [z, zero_add]
  rw [sum_eleven]
  rfl

theorem out_apply (p : Fin 512) (j : Fin 1024) :
    out0_6 x0 x1 x2 x3 x4 x5 (ix2 p j)
      = entry (fun k => x0 (ix2 p k)) (fun k => x1 (ix2 0 k)) (fun l n => x2 (ix2 l n)) (fun l n => x3 (ix2 l n))
          (fun n j => x4 (ix2 n j)) (fun k => x5 (ix2 0 k)) j := by
  have hp : (r0_0 : Rect S512x1024).emb (ix2 p j) = ix2 p j := by
    funext a; apply Fin.ext
    match a with
    | ⟨0, _⟩ => show 0 + 1 * p.val = p.val; omega
    | ⟨1, _⟩ => show 0 + 1 * j.val = j.val; omega
  have hcan : out0_6 x0 x1 x2 x3 x4 x5 (ix2 p j) = out0_6 x0 x1 x2 x3 x4 x5 ((r0_0 : Rect S512x1024).emb (ix2 p j)) := by rw [hp]
  rw [hcan]
  unfold out0_6
  rw [View.canon_cons_emb]
  unfold k0_pay17
  simp only [total_eq]
  pointwise [k0_pay1, k0_pay16, entry]
  simp only [total_apply]
  rfl

end block

end Cert.Proof.Ffn
-- ==== Proof.Ffn.Run.lean ====
/-
  THE FEED-FORWARD CALL'S RUN, READ: every row of the result is the formula of that row of `x` and the weights.
-/
module

public import proofs.«01_k».proof.Proof.Ffn.Block

@[expose] public section

noncomputable section

namespace Cert.Proof.Ffn

open Idealize.ShloMosaic Idealize.ShloMosaic.TcCoe Idealize.SL.Sem Cert.FfnKernelIdeal Cert.FfnKernelIdeal.Gen

variable (m : (ℓ : Loc nD τ sig) → Buf (Elt Ideal) ℓ) (ρ : Dev nD → PrngReg)

/-- The result array: row by row the formula, of the arguments as launched. -/
def result (c : Dev nD) : Buf (Elt Ideal) ((c : Thread nD τ).loc main_v5) := fun i =>
  entry (fun k => m ((c : Thread nD τ).loc main_arg0) (ix2 (i 0) k)) (fun k => m ((c : Thread nD τ).loc main_arg1) (ix1 k))
    (fun l n => m ((c : Thread nD τ).loc main_arg2) (ix2 l n)) (fun l n => m ((c : Thread nD τ).loc main_arg3) (ix2 l n))
    (fun n j => m ((c : Thread nD τ).loc main_arg4) (ix2 n j)) (fun k => m ((c : Thread nD τ).loc main_arg5) (ix1 k)) (i 1)

/-! ## What the windows' arrays hold when the call starts -/

theorem gain_in (c : Dev nD) (k : Fin 1024) :
    (V m c main_v0 : S1x1024.Idx → EReal) (ix2 0 k) = m ((c : Thread nD τ).loc main_arg1) (ix1 k) := by
  unfold V; after_results_simp
  pointwise

theorem gate_in (c : Dev nD) (i : S1024x2816.Idx) :
    (V m c main_v1 : S1024x2816.Idx → EReal) i = m ((c : Thread nD τ).loc main_arg2) i := by
  unfold V; after_results_simp
  pointwise

theorem up_in (c : Dev nD) (i : S1024x2816.Idx) :
    (V m c main_v2 : S1024x2816.Idx → EReal) i = m ((c : Thread nD τ).loc main_arg3) i := by
  unfold V; after_results_simp
  pointwise

theorem down_in (c : Dev nD) (i : S2816x1024.Idx) :
    (V m c main_v3 : S2816x1024.Idx → EReal) i = m ((c : Thread nD τ).loc main_arg4) i := by
  unfold V; after_results_simp
  pointwise

theorem post_in (c : Dev nD) (k : Fin 1024) :
    (V m c main_v4 : S1x1024.Idx → EReal) (ix2 0 k) = m ((c : Thread nD τ).loc main_arg5) (ix1 k) := by
  unfold V; after_results_simp
  pointwise

/-! ## The blocks -/

/-- Where each window is at a point: `x` and the result at the point's row block, the weights and gains whole. -/
theorem idx_facts : ∀ t : Fin grid0.N,
    (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0) := by decide +kernel

theorem blk0 (c : Dev nD) (t : Fin cfg0.N) (p : Fin 512) (k : Fin 1024) (hr : 512 * t.val + p.val < 16384) :
    (iblk m c 0 t : S512x1024.Idx → EReal) (ix2 p k)
      = m ((c : Thread nD τ).loc main_arg0) (ix2 ⟨512 * t.val + p.val, hr⟩ k) := by
  rw [← V_main_arg0 m c]
  unfold iblk
  rw [View.read_apply]
  show V m c main_arg0 _ = V m c main_arg0 _
  congr 1
  funext a
  apply Fin.ext
  match a with
  | ⟨0, _⟩ => show win0_0.index t 0 * 512 + 1 * p.val = 512 * t.val + p.val; rw [(idx_facts t).1.1]; omega
  | ⟨1, _⟩ => show win0_0.index t 1 * 1024 + 1 * k.val = k.val; rw [(idx_facts t).1.2]; omega

theorem blk1 (c : Dev nD) (t : Fin cfg0.N) (k : Fin 1024) :
    (iblk m c 1 t : S1x1024.Idx → EReal) (ix2 0 k) = m ((c : Thread nD τ).loc main_arg1) (ix1 k) := by
  rw [← gain_in m c k]
  unfold iblk
  rw [View.read_apply]
  show V m c main_v0 _ = V m c main_v0 _
  congr 1
  funext a
  apply Fin.ext
  match a with
  | ⟨0, _⟩ => show win0_1.index t 0 * 1 + 1 * 0 = 0; rw [(idx_facts t).2.1.1]
  | ⟨1, _⟩ => show win0_1.index t 1 * 1024 + 1 * k.val = k.val; rw [(idx_facts t).2.1.2]; omega

theorem blk2 (c : Dev nD) (t : Fin cfg0.N) (l : Fin 1024) (n : Fin 2816) :
    (iblk m c 2 t : S1024x2816.Idx → EReal) (ix2 l n) = m ((c : Thread nD τ).loc main_arg2) (ix2 l n) := by
  rw [← gate_in m c (ix2 l n)]
  unfold iblk
  rw [View.read_apply]
  show V m c main_v1 _ = V m c main_v1 _
  congr 1
  funext a
  apply Fin.ext
  match a with
  | ⟨0, _⟩ => show win0_2.index t 0 * 1024 + 1 * l.val = l.val; rw [(idx_facts t).2.2.1.1]; omega
  | ⟨1, _⟩ => show win0_2.index t 1 * 2816 + 1 * n.val = n.val; rw [(idx_facts t).2.2.1.2]; omega

theorem blk3 (c : Dev nD) (t : Fin cfg0.N) (l : Fin 1024) (n : Fin 2816) :
    (iblk m c 3 t : S1024x2816.Idx → EReal) (ix2 l n) = m ((c : Thread nD τ).loc main_arg3) (ix2 l n) := by
  rw [← up_in m c (ix2 l n)]
  unfold iblk
  rw [View.read_apply]
  show V m c main_v2 _ = V m c main_v2 _
  congr 1
  funext a
  apply Fin.ext
  match a with
  | ⟨0, _⟩ => show win0_3.index t 0 * 1024 + 1 * l.val = l.val; rw [(idx_facts t).2.2.2.1.1]; omega
  | ⟨1, _⟩ => show win0_3.index t 1 * 2816 + 1 * n.val = n.val; rw [(idx_facts t).2.2.2.1.2]; omega

theorem blk4 (c : Dev nD) (t : Fin cfg0.N) (n : Fin 2816) (j : Fin 1024) :
    (iblk m c 4 t : S2816x1024.Idx → EReal) (ix2 n j) = m ((c : Thread nD τ).loc main_arg4) (ix2 n j) := by
  rw [← down_in m c (ix2 n j)]
  unfold iblk
  rw [View.read_apply]
  show V m c main_v3 _ = V m c main_v3 _
  congr 1
  funext a
  apply Fin.ext
  match a with
  | ⟨0, _⟩ => show win0_4.index t 0 * 2816 + 1 * n.val = n.val; rw [(idx_facts t).2.2.2.2.1.1]; omega
  | ⟨1, _⟩ => show win0_4.index t 1 * 1024 + 1 * j.val = j.val; rw [(idx_facts t).2.2.2.2.1.2]; omega

theorem blk5 (c : Dev nD) (t : Fin cfg0.N) (k : Fin 1024) :
    (iblk m c 5 t : S1x1024.Idx → EReal) (ix2 0 k) = m ((c : Thread nD τ).loc main_arg5) (ix1 k) := by
  rw [← post_in m c k]
  unfold iblk
  rw [View.read_apply]
  show V m c main_v4 _ = V m c main_v4 _
  congr 1
  funext a
  apply Fin.ext
  match a with
  | ⟨0, _⟩ => show win0_5.index t 0 * 1 + 1 * 0 = 0; rw [(idx_facts t).2.2.2.2.2.1.1]
  | ⟨1, _⟩ => show win0_5.index t 1 * 1024 + 1 * k.val = k.val; rw [(idx_facts t).2.2.2.2.2.1.2]; omega

/-- What a point writes back is its row block of `result`. -/
theorem written (c : Dev nD) (t : Fin cfg0.N) (hf : (cfg0.win 6).flush t = true) :
    (dats m 0 c).flushed 6 t = ((cfg0.win 6).blk t).view.read (Elt Ideal) (result m c) := by
  have hN : cfg0.N = 32 := N_0
  have ht := t.isLt
  rw [Value.flushed6]
  funext y
  obtain ⟨p, j, rfl⟩ : ∃ (p : Fin 512) (j : Fin 1024), y = ix2 p j := ⟨y 0, y 1, eq_ix2 y⟩
  have hr : 512 * t.val + p.val < 16384 := by omega
  rw [View.read_apply]
  have e : ((cfg0.win 6).blk t).view.emb (ix2 p j) = ix2 (⟨512 * t.val + p.val, hr⟩ : Fin 16384) j := by
    funext a
    apply Fin.ext
    match a with
    | ⟨0, _⟩ => show win0_6.index t 0 * 512 + 1 * p.val = 512 * t.val + p.val; rw [(idx_facts t).2.2.2.2.2.2.1]; omega
    | ⟨1, _⟩ => show win0_6.index t 1 * 1024 + 1 * j.val = j.val; rw [(idx_facts t).2.2.2.2.2.2.2]; omega
  rw [e]
  show out0_6 _ _ _ _ _ _ (ix2 p j) = _
  rw [out_apply]
  simp only [blk0 m c t p _ hr, blk1, blk2, blk3, blk4, blk5]
  rfl

/-- So the call leaves `result`: every row is in some point's block. -/
theorem final (c : Dev nD) : (dats m 0 c).arrAt 6 cfg0.N = result m c :=
  (dats m 0 c).arrAt_eq_of_cover 6 (result m c) (written m c) fun i => by
    have hN : cfg0.N = 32 := N_0
    have h0 : (i 0 : Nat) < 16384 := (i 0).isLt
    have h1 : (i 1 : Nat) < 1024 := (i 1).isLt
    have hq : (i 0 : Nat) / 512 < cfg0.N := by omega
    refine ⟨⟨(i 0 : Nat) / 512, hq⟩, (flush0_6 _), ?_⟩
    show i ∈ ((View.whole main_v5).slice (win0_6.rect ⟨(i 0 : Nat) / 512, hq⟩)).set
    rw [View.set_slice_whole, Rect.mem_set_unit]
    have hi := (idx_facts ⟨(i 0 : Nat) / 512, hq⟩).2.2.2.2.2.2
    intro a
    match a with
    | ⟨0, _⟩ => show win0_6.index ⟨(i 0 : Nat) / 512, hq⟩ 0 * 512 ≤ (i 0 : Nat) ∧ (i 0 : Nat) < win0_6.index ⟨(i 0 : Nat) / 512, hq⟩ 0 * 512 + 512
                rw [hi.1]; show (i 0 : Nat) / 512 * 512 ≤ (i 0 : Nat) ∧ (i 0 : Nat) < (i 0 : Nat) / 512 * 512 + 512; omega
    | ⟨1, _⟩ => show win0_6.index ⟨(i 0 : Nat) / 512, hq⟩ 1 * 1024 ≤ (i 1 : Nat) ∧ (i 1 : Nat) < win0_6.index ⟨(i 0 : Nat) / 512, hq⟩ 1 * 1024 + 1024
                rw [hi.2]; omega

end Cert.Proof.Ffn
-- ==== Proof.Ffn.Algebra.lean ====
/-
  THE FEED-FORWARD REFERENCE, READ, and the two programs' results equal. The reference's gate is `a · (1 / (1 + exp (-a)))`,
  the kernel's `a / (1 + exp (0 - a))`: equal at every extended real, since `1 + exp` of anything is not zero.
-/
module

public import proofs.«01_k».proof.Proof.Ffn.Run
public import proofs.«01_k».proof.Proof.Gen.FfnReferenceIdeal.Run
public import proofs.«01_k».proof.Defs
public import Idealize.ShloMosaic.Lib.IdealHost

@[expose] public section

noncomputable section

namespace Cert.Proof.Ffn

open Idealize.ShloMosaic Idealize.ShloMosaic.TcCoe Idealize.SL.Sem Cert.FfnReferenceIdeal Cert.FfnReferenceIdeal.Gen

theorem one_add_exp_ne (a : EReal) : 1 + Ideal.exp a ≠ 0 := by
  have h : (0 : EReal) ≤ Ideal.exp a := by
    induction a using EReal.rec with
    | bot => exact le_refl _
    | top => exact le_top
    | coe r => exact EReal.coe_nonneg.mpr (Real.exp_pos r).le
  have h1 : (0 : EReal) < 1 + Ideal.exp a := lt_of_lt_of_le zero_lt_one (le_add_of_nonneg_right h)
  exact h1.ne'

theorem act_eq (a b : EReal) : a * Ideal.div 1 (1 + Ideal.exp (-a)) * b = act a b := by
  unfold act
  rw [Ideal.mul_one_div (one_add_exp_ne _), zero_sub]

/-- The normalised rows. -/
def rHid (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The normalised rows against an up or gate weight. -/
def rCol (h : FVec Ideal S16384x1024 .f32) (w : FVec Ideal S1024x2816 .f32) : FVec Ideal S16384x2816 .f32 :=
  Host.dotGeneral dot_S16384x1024_S1024x2816_S16384x2816_1_0_0_1_n_n none h w

/-- The gated hidden columns against the down weight. -/
def rDown (a b : FVec Ideal S16384x2816 .f32) (w : FVec Ideal S2816x1024 .f32) : FVec Ideal S16384x1024 .f32 :=
  Host.dotGeneral dot_S16384x2816_S2816x1024_S16384x1024_1_0_0_1_n_n none
    (mulf (mulf a (Host.divf (broadcastInDim S16384x2816 ![] bcast_S_S16384x2816 (constant S_ .f32 0x3F800000#32)) (addf (broadcastInDim S16384x2816 ![] bcast_S_S16384x2816 (constant S_ .f32 0x3F800000#32)) (Host.exp (Host.negf a))))) b) w

theorem rHid_apply (x : FVec Ideal S16384x1024 .f32) (g : FVec Ideal S1024 .f32) (r : Fin 16384) (k : Fin 1024) :
    rHid x g (ix2 r k) = hid (fun k => x (ix2 r k)) (fun k => g (ix1 k)) k := by
  pointwise [rHid, hid, nrm]

theorem rCol_apply (h : FVec Ideal S16384x1024 .f32) (w : FVec Ideal S1024x2816 .f32) (r : Fin 16384) (n : Fin 2816) :
    rCol h w (ix2 r n) = ∑ l : Fin 1024, h (ix2 r l) * w (ix2 l n) := by
  pointwise [rCol]

theorem rDown_apply (a b : FVec Ideal S16384x2816 .f32) (w : FVec Ideal S2816x1024 .f32) (r : Fin 16384) (j : Fin 1024) :
    rDown a b w (ix2 r j) = ∑ n : Fin 2816, act (a (ix2 r n)) (b (ix2 r n)) * w (ix2 n j) := by
  pointwise [rDown]
  simp only [act_eq]

theorem down_apply (x : FVec Ideal S16384x1024 .f32) (g : FVec Ideal S1024 .f32) (wg wu : FVec Ideal S1024x2816 .f32)
    (wd : FVec Ideal S2816x1024 .f32) (r : Fin 16384) (j : Fin 1024) :
    rDown (rCol (rHid x g) wg) (rCol (rHid x g) wu) wd (ix2 r j)
      = down (fun k => x (ix2 r k)) (fun k => g (ix1 k)) (fun l n => wg (ix2 l n)) (fun l n => wu (ix2 l n))
          (fun n j => wd (ix2 n j)) j := by
  rw [rDown_apply]
  simp only [rCol_apply, rHid_apply]
  rfl

variable (m : (ℓ : Loc nD τ sig) → Buf (Elt Ideal) ℓ)

theorem res_eq (c : Dev nD) :
    Value.res_main_v33 m c = addf (m ((c.tc : Thread nD τ).loc main_arg0))
      (mulf (broadcastInDim S16384x1024 ![] bcast_S_S16384x1024 (constant S_ .f32 0x3F000000#32))
        (rHid (rDown (rCol (rHid (m ((c.tc : Thread nD τ).loc main_arg0)) (m ((c.tc : Thread nD τ).loc main_arg1))) (m ((c.tc : Thread nD τ).loc main_arg2)))
          (rCol (rHid (m ((c.tc : Thread nD τ).loc main_arg0)) (m ((c.tc : Thread nD τ).loc main_arg1))) (m ((c.tc : Thread nD τ).loc main_arg3)))
          (m ((c.tc : Thread nD τ).loc main_arg4))) (m ((c.tc : Thread nD τ).loc main_arg5)))) := rfl

theorem res_apply (c : Dev nD) (r : Fin 16384) (j : Fin 1024) :
    (Value.res_main_v33 m c : S16384x1024.Idx → EReal) (ix2 r j)
      = entry (fun k => m ((c.tc : Thread nD τ).loc main_arg0) (ix2 r k)) (fun k => m ((c.tc : Thread nD τ).loc main_arg1) (ix1 k))
          (fun l n => m ((c.tc : Thread nD τ).loc main_arg2) (ix2 l n)) (fun l n => m ((c.tc : Thread nD τ).loc main_arg3) (ix2 l n))
          (fun n j => m ((c.tc : Thread nD τ).loc main_arg4) (ix2 n j)) (fun k => m ((c.tc : Thread nD τ).loc main_arg5) (ix1 k)) j := by
  rw [res_eq]
  pointwise
  rw [rHid_apply]
  simp only [down_apply]
  rfl

/-- The feed-forward kernel computes its reference, over the extended reals. -/
theorem algebraic_ffn : Cert.algebraic_FfnKernelIdeal_FfnReferenceIdeal := by
  intro m ρ m' ρ' _ hagree
  refine ⟨fun c => result m c, ?_, ?_⟩
  · exact (θ_run Cert.FfnKernelIdeal.defs _ _).mono (fun _ h c => ⟨(h c).1.trans (final m c), (h c).2⟩)
      (Cert.FfnKernelIdeal.Value.run_blocks (F := Ideal) m ρ)
  · refine (θ_run Cert.FfnReferenceIdeal.defs _ _).mono (fun _ h c => ⟨(h c).1.trans ?_, (h c).2⟩)
      (Cert.FfnReferenceIdeal.Value.run (F := Ideal) m' ρ')
    obtain ⟨h0, h1, h2, h3, h4, h5⟩ := hagree c
    funext i
    obtain ⟨r, j, rfl⟩ : ∃ (r : Fin 16384) (j : Fin 1024), i = ix2 r j := ⟨i 0, i 1, eq_ix2 i⟩
    refine (res_apply m' c r j).trans ?_
    unfold result
    simp only [h0, h1, h2, h3, h4, h5]
    rfl

end Cert.Proof.Ffn
-- ==== Proof.Mem.Block.lean ====
/-
  WHAT ONE POINT OF THE MEMORY-ATTENTION CALL COMPUTES, as vectors: its four row parts are one function of their own rows of
  `x`, the sparse attention's output and the recurrence's output.
-/
module

public import proofs.«01_k».proof.Proof.Gen.MemKernelIdeal.Value
public import Idealize.ShloMosaic.Lib.Pointwise

@[expose] public section

noncomputable section

namespace Cert.Proof.Mem

open Idealize.ShloMosaic Cert.MemKernelIdeal Cert.MemKernelIdeal.Gen

/-- The sparse attention's rows, normalised. -/
def onV (v : Vec Ideal S1x256x512 .f32) (g : Vec Ideal S1x512 .f32) : FVec Ideal S256x512 .bf16 :=
  have x : FVec Ideal S256x512 .f32 := shapeCast S256x512 v shapeCasts_S1x256x512_S256x512
  truncf .bf16 (mulf (mulf x (broadcastTo S256x512 (rsqrt (addf (divf (shapeCast S256x1
    (multiReduction .add [1] S256 (mulf x x) 0x00000000#32 reduces_S256x512_S256 (.inl rfl) rfl) shapeCasts_S256_S256x1)
    (broadcast S256x1 (Scalar.ofBits .f32 0x44000000#32))) (broadcast S256x1 (Scalar.ofBits .f32 0x358637BD#32))))
    broadcasts_S256x1_S256x512)) (broadcastTo S256x512 (shapeCast S1x512 g shapeCasts_S1x512_S1x512) broadcasts_S1x512_S256x512))
    bitsLt_bf16_f32

/-- The two head groups against their rows of the output weight. -/
def mixV (on : Vec Ideal S1x256x512 .f32) (rk : Vec Ideal S1x256x512 .f32) (ng : Vec Ideal S1x512 .f32)
    (w1 w2 : FVec Ideal S512x1024 .bf16) : FVec Ideal S256x1024 .f32 :=
  addf (matmul dot_S256x512_S512x1024_S256x1024_1_0_0_1_n_n none (onV on ng)
      (shapeCast S512x1024 w1 shapeCasts_S512x1024_S512x1024) (constant S256x1024 .f32 0x00000000#32))
    (matmul dot_S256x512_S512x1024_S256x1024_1_0_0_1_n_n none
      (truncf .bf16 (shapeCast S256x512 rk shapeCasts_S1x256x512_S256x512) bitsLt_bf16_f32)
      (shapeCast S512x1024 w2 shapeCasts_S512x1024_S512x1024) (constant S256x1024 .f32 0x00000000#32))

/-- Rows of 1024 columns, normalised. -/
def normV (x : FVec Ideal S256x1024 .f32) (g : Vec Ideal S1x1024 .f32) : FVec Ideal S256x1024 .f32 :=
  mulf (mulf x (broadcastTo S256x1024 (rsqrt (addf (divf (shapeCast S256x1
    (multiReduction .add [1] S256 (mulf x x) 0x00000000#32 reduces_S256x1024_S256 (.inl rfl) rfl) shapeCasts_S256_S256x1)
    (broadcast S256x1 (Scalar.ofBits .f32 0x44800000#32))) (broadcast S256x1 (Scalar.ofBits .f32 0x358637BD#32))))
    broadcasts_S256x1_S256x1024)) (broadcastTo S256x1024 (shapeCast S1x1024 g shapeCasts_S1x1024_S1x1024) broadcasts_S1x1024_S256x1024)

/-- The mixed rows added to `x`. -/
def resV (x : Vec Ideal S1x256x1024 .f32) (mix : FVec Ideal S256x1024 .f32) (g : Vec Ideal S1x1024 .f32) :
    FVec Ideal S256x1024 .f32 :=
  addf (shapeCast S256x1024 x shapeCasts_S1x256x1024_S256x1024) (normV mix g)

/-- The queries, scaled by a sixteenth. -/
def qV (x : FVec Ideal S256x1024 .f32) (g : Vec Ideal S1x1024 .f32) (w : FVec Ideal S1024x1024 .bf16) :
    FVec Ideal S256x1024 .bf16 :=
  truncf .bf16 (mulf (matmul dot_S256x1024_S1024x1024_S256x1024_1_0_0_1_n_n none (truncf .bf16 (normV x g) bitsLt_bf16_f32)
    (shapeCast S1024x1024 w shapeCasts_S1024x1024_S1024x1024) (constant S256x1024 .f32 0x00000000#32))
    (broadcast S256x1024 (Scalar.ofBits .f32 0x3D800000#32))) bitsLt_bf16_f32

/-- One head's scores. -/
def scoreV (q : FVec Ideal S256x256 .bf16) (kt : FVec Ideal S1x256x256 .bf16) : FVec Ideal S256x256 .f32 :=
  matmul dot_S256x256_S256x256_S256x256_1_0_0_1_n_n none q (shapeCast S256x256 kt shapeCasts_S1x256x256_S256x256)
    (constant S256x256 .f32 0x00000000#32)

/-- The scores' exponentials, each row's greatest score taken off. -/
def expV (s : FVec Ideal S256x256 .f32) : FVec Ideal S256x256 .f32 :=
  exp (subf s (broadcastTo S256x256 (shapeCast S256x1
    (multiReduction .maximumf [1] S256 s 0xFF800000#32 reduces_S256x256_S256 (.inl rfl) rfl) shapeCasts_S256_S256x1)
    broadcasts_S256x1_S256x256))

/-- The exponentials over their sum, against one head's values. -/
def headV (e : FVec Ideal S256x256 .f32) (v : FVec Ideal S1x256x256 .bf16) : FVec Ideal S256x256 .f32 :=
  matmul dot_S256x256_S256x256_S256x256_1_0_0_1_n_n none
    (truncf .bf16 (divf e (broadcastTo S256x256 (shapeCast S256x1
      (multiReduction .add [1] S256 e 0x00000000#32 reduces_S256x256_S256 (.inl rfl) rfl) shapeCasts_S256_S256x1)
      broadcasts_S256x1_S256x256)) bitsLt_bf16_f32)
    (shapeCast S256x256 v shapeCasts_S1x256x256_S256x256) (constant S256x256 .f32 0x00000000#32)

/-- The four heads side by side. -/
def headsV (q : FVec Ideal S256x1024 .bf16) (k0 k1 k2 k3 v0 v1 v2 v3 : FVec Ideal S1x256x256 .bf16) : FVec Ideal S256x1024 .f32 :=
  concatenate S256x1024 1
    [⟨S256x256, headV (expV (scoreV (extractStridedSlice S256x256 ![0, 0] q slices_S256x1024_o0_0_S256x256) k0)) v0⟩,
     ⟨S256x256, headV (expV (scoreV (extractStridedSlice S256x256 ![0, 256] q slices_S256x1024_o0_256_S256x256) k1)) v1⟩,
     ⟨S256x256, headV (expV (scoreV (extractStridedSlice S256x256 ![0, 512] q slices_S256x1024_o0_512_S256x256) k2)) v2⟩,
     ⟨S256x256, headV (expV (scoreV (extractStridedSlice S256x256 ![0, 768] q slices_S256x1024_o0_768_S256x256) k3)) v3⟩]
    concatenates_S256x256_S256x256_S256x256_S256x256_S256x1024_d1

/-- The heads against the memory's output weight. -/
def attV (h : FVec Ideal S256x1024 .f32) (w : FVec Ideal S1024x1024 .bf16) : FVec Ideal S256x1024 .f32 :=
  matmul dot_S256x1024_S1024x1024_S256x1024_1_0_0_1_n_n none (truncf .bf16 h bitsLt_bf16_f32)
    (shapeCast S1024x1024 w shapeCasts_S1024x1024_S1024x1024) (constant S256x1024 .f32 0x00000000#32)

/-- One part's stored rows. -/
def lastV (x att : FVec Ideal S256x1024 .f32) (g : Vec Ideal S1x1024 .f32) : FVec Ideal S1x256x1024 .f32 :=
  shapeCast S1x256x1024 (addf x (normV att g)) shapeCasts_S256x1024_S1x256x1024

section block
variable (x0 : Vec Ideal S1x1024x1024 .f32) (x1 x2 : Vec Ideal S1x1024x512 .f32) (x3 : Vec Ideal S1x512 .f32)
  (x4 x5 : Vec Ideal S512x1024 .bf16) (x6 x7 : Vec Ideal S1x1024 .f32) (x8 : Vec Ideal S1024x1024 .bf16)
  (x9 : Vec Ideal S1x1024x256 .bf16) (x10 : Vec Ideal S1x256x1024 .bf16) (x11 : Vec Ideal S1024x1024 .bf16) (x12 : Vec Ideal S1x1024 .f32)

/-- One part, from its own rows and the whole weights, keys and values. -/
def partV (x : Vec Ideal S1x256x1024 .f32) (on rk : Vec Ideal S1x256x512 .f32) : FVec Ideal S1x256x1024 .f32 :=
  have r := resV x (mixV on rk (View.ld x3 r0_1) (View.ld x4 r0_5) (View.ld x5 r0_5)) (View.ld x6 r0_7)
  lastV r (attV (headsV (qV r (View.ld x7 r0_7) (View.ld x8 r0_11)) (View.ld x9 r0_12) (View.ld x9 r0_14) (View.ld x9 r0_16)
    (View.ld x9 r0_18) (View.ld x10 r0_13) (View.ld x10 r0_15) (View.ld x10 r0_17) (View.ld x10 r0_19)) (View.ld x11 r0_11))
    (View.ld x12 r0_7)

theorem out_eq : out0_13 x0 x1 x2 x3 x4 x5 x6 x7 x8 x9 x10 x11 x12
    = View.canon [⟨r0_10, partV x3 x4 x5 x6 x7 x8 x9 x10 x11 x12 (View.ld x0 r0_10) (View.ld x1 r0_4) (View.ld x2 r0_4)⟩,
      ⟨r0_9, partV x3 x4 x5 x6 x7 x8 x9 x10 x11 x12 (View.ld x0 r0_9) (View.ld x1 r0_3) (View.ld x2 r0_3)⟩,
      ⟨r0_8, partV x3 x4 x5 x6 x7 x8 x9 x10 x11 x12 (View.ld x0 r0_8) (View.ld x1 r0_2) (View.ld x2 r0_2)⟩,
      ⟨r0_6, partV x3 x4 x5 x6 x7 x8 x9 x10 x11 x12 (View.ld x0 r0_6) (View.ld x1 r0_0) (View.ld x2 r0_0)⟩] := by
  rfl

end block

end Cert.Proof.Mem
-- ==== Proof.Mem.Rows.lean ====
/-
  THE MEMORY ATTENTION'S FORMULA OF ONE ROW, and the vectors of a row part read at an index.
-/
module

public import proofs.«01_k».proof.Proof.Mem.Block
public import Idealize.ShloMosaic.Lib.Pipeline.ValueKit.Tiles

@[expose] public section

noncomputable section

namespace Cert.Proof.Mem

open Idealize.ShloMosaic Cert.MemKernelIdeal Cert.MemKernelIdeal.Gen

/-- One over the root of a row's mean square, the small constant inside the root. -/
def nrm {n : Nat} (c : BitVec 32) (u : Fin n → EReal) : EReal :=
  Ideal.rsqrt (Ideal.div (∑ k, u k * u k) (Ideal.ofBits .f32 c) + Ideal.ofBits .f32 0x358637BD#32)

/-- A normalised row with its gain. -/
def unit {n : Nat} (c : BitVec 32) (u g : Fin n → EReal) (k : Fin n) : EReal := u k * nrm c u * g k

/-- The two head groups against the output weight. -/
def mix (on ng rk : Fin 512 → EReal) (W1 W2 : Fin 512 → Fin 1024 → EReal) (j : Fin 1024) : EReal :=
  (∑ l : Fin 512, unit 0x44000000#32 on ng l * W1 l j) + ∑ l : Fin 512, rk l * W2 l j

/-- A row of `x` plus the normalised mixed row. -/
def res (x m g : Fin 1024 → EReal) (j : Fin 1024) : EReal := x j + unit 0x44800000#32 m g j

/-- A normalised row against a weight. -/
def proj (r g : Fin 1024 → EReal) (W : Fin 1024 → Fin 1024 → EReal) (n : Fin 1024) : EReal :=
  ∑ l : Fin 1024, unit 0x44800000#32 r g l * W l n

theorem onV_apply (v : Vec Ideal S1x256x512 .f32) (g : Vec Ideal S1x512 .f32) (p : Fin 256) (k : Fin 512) :
    onV v g (ix2 p k) = unit 0x44000000#32 (fun k => v (ix3 0 p k)) (fun k => g (ix2 0 k)) k := by
  pointwise [onV, unit, nrm]

theorem mixV_apply (on rk : Vec Ideal S1x256x512 .f32) (ng : Vec Ideal S1x512 .f32) (w1 w2 : FVec Ideal S512x1024 .bf16)
    (p : Fin 256) (j : Fin 1024) :
    mixV on rk ng w1 w2 (ix2 p j) = mix (fun k => on (ix3 0 p k)) (fun k => ng (ix2 0 k)) (fun k => rk (ix3 0 p k))
      (fun l j => w1 (ix2 l j)) (fun l j => w2 (ix2 l j)) j := by
  pointwise [mixV, mix]
  simp only [onV_apply]

theorem normV_apply (x : FVec Ideal S256x1024 .f32) (g : Vec Ideal S1x1024 .f32) (p : Fin 256) (k : Fin 1024) :
    normV x g (ix2 p k) = unit 0x44800000#32 (fun k => x (ix2 p k)) (fun k => g (ix2 0 k)) k := by
  pointwise [normV, unit, nrm]

theorem resV_apply (x : Vec Ideal S1x256x1024 .f32) (m : FVec Ideal S256x1024 .f32) (g : Vec Ideal S1x1024 .f32)
    (p : Fin 256) (j : Fin 1024) :
    resV x m g (ix2 p j) = res (fun k => x (ix3 0 p k)) (fun k => m (ix2 p k)) (fun k => g (ix2 0 k)) j := by
  pointwise [resV, res]
  simp only [normV_apply]

theorem qV_apply (x : FVec Ideal S256x1024 .f32) (g : Vec Ideal S1x1024 .f32) (w : FVec Ideal S1024x1024 .bf16)
    (p : Fin 256) (n : Fin 1024) :
    qV x g w (ix2 p n) = proj (fun k => x (ix2 p k)) (fun k => g (ix2 0 k)) (fun l n => w (ix2 l n)) n
      * Ideal.ofBits .f32 0x3D800000#32 := by
  pointwise [qV, proj]
  simp only [normV_apply]

theorem scoreV_apply (q : FVec Ideal S256x256 .bf16) (kt : FVec Ideal S1x256x256 .bf16) (p k : Fin 256) :
    scoreV q kt (ix2 p k) = ∑ d : Fin 256, q (ix2 p d) * kt (ix3 0 d k) := by
  pointwise [scoreV]

/-- One score's exponential, the row's greatest score taken off. -/
def ex (s : Fin 256 → EReal) (k : Fin 256) : EReal :=
  Ideal.exp (s k - Finset.fold max (Ideal.ofBits .f32 0xFF800000#32) s Finset.univ)

theorem expV_apply (s : FVec Ideal S256x256 .f32) (p k : Fin 256) : expV s (ix2 p k) = ex (fun k => s (ix2 p k)) k := by
  pointwise [expV, ex]

theorem headV_apply (e : FVec Ideal S256x256 .f32) (v : FVec Ideal S1x256x256 .bf16) (p d : Fin 256) :
    headV e v (ix2 p d) = ∑ k : Fin 256, Ideal.div (e (ix2 p k)) (∑ k : Fin 256, e (ix2 p k)) * v (ix3 0 k d) := by
  pointwise [headV]

theorem attV_apply (h : FVec Ideal S256x1024 .f32) (w : FVec Ideal S1024x1024 .bf16) (p : Fin 256) (j : Fin 1024) :
    attV h w (ix2 p j) = ∑ n : Fin 1024, h (ix2 p n) * w (ix2 n j) := by
  pointwise [attV]

theorem lastV_apply (x att : FVec Ideal S256x1024 .f32) (g : Vec Ideal S1x1024 .f32) (z : Fin 1) (p : Fin 256) (j : Fin 1024) :
    lastV x att g (ix3 z p j) = x (ix2 p j) + unit 0x44800000#32 (fun k => att (ix2 p k)) (fun k => g (ix2 0 k)) j := by
  pointwise [lastV]
  simp only [normV_apply]

/-! ## The heads -/

/-- The column `d` of the head that column `n` lies in. -/
def hcol (n : Fin 1024) (d : Fin 256) : Fin 1024 := ⟨256 * (n.val / 256) + d.val, by omega⟩

/-- The score of a key, of the head that column `n` lies in. -/
def score (q : Fin 1024 → EReal) (K : Fin 256 → Fin 1024 → EReal) (n : Fin 1024) (k : Fin 256) : EReal :=
  (∑ d : Fin 256, q (hcol n d) * K k (hcol n d)) * Ideal.ofBits .f32 0x3D800000#32

/-- The attention's column `n`: the softmax of its head's scores against the values' column. -/
def head (q : Fin 1024 → EReal) (K V : Fin 256 → Fin 1024 → EReal) (n : Fin 1024) : EReal :=
  ∑ k : Fin 256, Ideal.div (ex (score q K n) k) (∑ k : Fin 256, ex (score q K n) k) * V k n

theorem sixteenth : ∃ r : ℝ, 0 ≤ r ∧ Ideal.ofBits .f32 0x3D800000#32 = (r : EReal) := by
  refine ⟨1 / 16, by norm_num, ?_⟩
  have h1 : (1031798784 >>> 23 % 256 : Nat) = 123 := by decide
  have h2 : ¬ BitVec.extractLsb' 31 1 1031798784#32 = 1#1 := by decide
  norm_num [Ideal.ofBits, Ideal.ieee]
  simp only [h1, h2, if_false]
  have h3 : (1031798784 : ℤ) >>> (23 : ℕ) % 256 = 123 := by decide
  simp only [h3]
  norm_num

/-- The scale may be applied to the queries or to the scores. -/
theorem scale_sum (a b : Fin 256 → EReal) :
    ∑ d : Fin 256, a d * Ideal.ofBits .f32 0x3D800000#32 * b d = (∑ d : Fin 256, a d * b d) * Ideal.ofBits .f32 0x3D800000#32 := by
  obtain ⟨r, hr, he⟩ := sixteenth
  rw [he]
  have h0 : (0 : EReal) ≤ (r : EReal) := EReal.coe_nonneg.mpr hr
  induction (Finset.univ : Finset (Fin 256)) using Finset.induction_on with
  | empty => simp
  | insert i s hi ih =>
    rw [Finset.sum_insert hi, Finset.sum_insert hi, EReal.right_distrib_of_nonneg_of_ne_top h0 (EReal.coe_ne_top r), ih]
    congr 1
    exact mul_right_comm _ _ _

theorem head_block (q : FVec Ideal S256x1024 .bf16) (x9 : Vec Ideal S1x1024x256 .bf16) (x10 : Vec Ideal S1x256x1024 .bf16)
    (Q : Fin 256 → Fin 1024 → EReal) (hq : ∀ p n, q (ix2 p n) = Q p n * Ideal.ofBits .f32 0x3D800000#32) (hi : Nat) (hhi : hi < 4)
    (hs : S256x1024.Slices ![0, 256 * hi] S256x256)
    (h1 : ∀ a, (![0, 256 * hi, 0] : Fin 3 → Nat) a + S1x256x256.size a ≤ S1x1024x256.size a)
    (h2 : ∀ a, (![0, 0, 256 * hi] : Fin 3 → Nat) a + S1x256x256.size a ≤ S1x256x1024.size a)
    (p d : Fin 256) (n : Fin 1024) (hn : n.val = 256 * hi + d.val) :
    headV (expV (scoreV (extractStridedSlice S256x256 ![0, 256 * hi] q hs)
        (View.ld x9 (Rect.unit (s := S1x1024x256) ![0, 256 * hi, 0] S1x256x256.size h1))))
        (View.ld x10 (Rect.unit (s := S1x256x1024) ![0, 0, 256 * hi] S1x256x256.size h2)) (ix2 p d)
      = head (Q p) (fun k n => x9 (ix3 0 n k)) (fun k n => x10 (ix3 0 k n)) n := by
  have hs' : (fun k => scoreV (extractStridedSlice S256x256 ![0, 256 * hi] q hs)
        (View.ld x9 (Rect.unit (s := S1x1024x256) ![0, 256 * hi, 0] S1x256x256.size h1)) (ix2 p k))
      = score (Q p) (fun k n => x9 (ix3 0 n k)) n := by
    funext k
    rw [scoreV_apply]
    unfold score
    rw [← scale_sum]
    refine Finset.sum_congr rfl fun e _ => ?_
    have hc : hcol n e = ⟨256 * hi + e.val, by omega⟩ := by
      apply Fin.ext
      show 256 * (n.val / 256) + e.val = 256 * hi + e.val
      omega
    rw [hc, ← hq]
    pointwise
  rw [headV_apply]
  unfold head
  refine Finset.sum_congr rfl fun k _ => ?_
  simp only [expV_apply, hs']
  congr 1
  have hn' : n = ⟨256 * hi + d.val, by omega⟩ := Fin.ext hn
  rw [hn']
  pointwise

theorem headsV_apply (q : FVec Ideal S256x1024 .bf16) (x9 : Vec Ideal S1x1024x256 .bf16) (x10 : Vec Ideal S1x256x1024 .bf16)
    (Q : Fin 256 → Fin 1024 → EReal) (hq : ∀ p n, q (ix2 p n) = Q p n * Ideal.ofBits .f32 0x3D800000#32) (p : Fin 256) (n : Fin 1024) :
    headsV q (View.ld x9 r0_12) (View.ld x9 r0_14) (View.ld x9 r0_16) (View.ld x9 r0_18)
        (View.ld x10 r0_13) (View.ld x10 r0_15) (View.ld x10 r0_17) (View.ld x10 r0_19) (ix2 p n)
      = head (Q p) (fun k n => x9 (ix3 0 n k)) (fun k n => x10 (ix3 0 k n)) n := by
  pointwise [headsV]
  split
  · exact head_block q x9 x10 Q hq 0 (by omega) _ _ _ p _ n (by show n.val = 256 * 0 + n.val; omega)
  · split
    · exact head_block q x9 x10 Q hq 1 (by omega) _ _ _ p _ n (by show n.val = 256 * 1 + (n.val - 256); omega)
    · split
      · exact head_block q x9 x10 Q hq 2 (by omega) _ _ _ p _ n (by show n.val = 256 * 2 + (n.val - 256 - 256); omega)
      · exact head_block q x9 x10 Q hq 3 (by omega) _ _ _ p _ n (by show n.val = 256 * 3 + (n.val - 256 - 256 - 256); omega)

/-! ## One row of the result -/

/-- The memory attention's row before its last norm. -/
def att (q : Fin 1024 → EReal) (K V : Fin 256 → Fin 1024 → EReal) (Wo : Fin 1024 → Fin 1024 → EReal) (j : Fin 1024) : EReal :=
  ∑ n : Fin 1024, head q K V n * Wo n j

/-- One row of the result: the mixed row's residual `r`, plus the normalised attention that `r` makes over the memory. -/
def entry (x : Fin 1024 → EReal) (on ng rk : Fin 512 → EReal) (W1 W2 : Fin 512 → Fin 1024 → EReal) (g1 g2 : Fin 1024 → EReal)
    (Wq : Fin 1024 → Fin 1024 → EReal) (K V : Fin 256 → Fin 1024 → EReal) (Wo : Fin 1024 → Fin 1024 → EReal)
    (g3 : Fin 1024 → EReal) (j : Fin 1024) : EReal :=
  res (res x (mix on ng rk W1 W2) g1) (att (proj (res x (mix on ng rk W1 W2) g1) g2 Wq) K V Wo) g3 j

section block
variable (x0 : Vec Ideal S1x1024x1024 .f32) (x1 x2 : Vec Ideal S1x1024x512 .f32) (x3 : Vec Ideal S1x512 .f32)
  (x4 x5 : Vec Ideal S512x1024 .bf16) (x6 x7 : Vec Ideal S1x1024 .f32) (x8 : Vec Ideal S1024x1024 .bf16)
  (x9 : Vec Ideal S1x1024x256 .bf16) (x10 : Vec Ideal S1x256x1024 .bf16) (x11 : Vec Ideal S1024x1024 .bf16) (x12 : Vec Ideal S1x1024 .f32)

theorem ld1 (x : Vec Ideal S1x512 .f32) : View.ld x r0_1 = x := by
  funext i; obtain ⟨a, b, rfl⟩ : ∃ a b, i = ix2 a b := ⟨i 0, i 1, eq_ix2 i⟩; obtain rfl : a = 0 := Subsingleton.elim (α := Fin 1) a 0; pointwise

theorem ld5 (x : Vec Ideal S512x1024 .bf16) : View.ld x r0_5 = x := by
  funext i; obtain ⟨a, b, rfl⟩ : ∃ a b, i = ix2 a b := ⟨i 0, i 1, eq_ix2 i⟩; pointwise

theorem ld7 (x : Vec Ideal S1x1024 .f32) : View.ld x r0_7 = x := by
  funext i; obtain ⟨a, b, rfl⟩ : ∃ a b, i = ix2 a b := ⟨i 0, i 1, eq_ix2 i⟩; obtain rfl : a = 0 := Subsingleton.elim (α := Fin 1) a 0; pointwise

theorem ld11 (x : Vec Ideal S1024x1024 .bf16) : View.ld x r0_11 = x := by
  funext i; obtain ⟨a, b, rfl⟩ : ∃ a b, i = ix2 a b := ⟨i 0, i 1, eq_ix2 i⟩; pointwise

/-- The formula at a row of the block. -/
def blockEntry (r : Fin 1024) (j : Fin 1024) : EReal :=
  entry (fun k => x0 (ix3 0 r k)) (fun k => x1 (ix3 0 r k)) (fun k => x3 (ix2 0 k)) (fun k => x2 (ix3 0 r k))
    (fun l j => x4 (ix2 l j)) (fun l j => x5 (ix2 l j)) (fun k => x6 (ix2 0 k)) (fun k => x7 (ix2 0 k)) (fun l n => x8 (ix2 l n))
    (fun k n => x9 (ix3 0 n k)) (fun k n => x10 (ix3 0 k n)) (fun n j => x11 (ix2 n j)) (fun k => x12 (ix2 0 k)) j

theorem partV_apply (x : Vec Ideal S1x256x1024 .f32) (on rk : Vec Ideal S1x256x512 .f32) (z : Fin 1) (p : Fin 256) (j : Fin 1024) :
    partV x3 x4 x5 x6 x7 x8 x9 x10 x11 x12 x on rk (ix3 z p j)
      = entry (fun k => x (ix3 0 p k)) (fun k => on (ix3 0 p k)) (fun k => x3 (ix2 0 k)) (fun k => rk (ix3 0 p k))
        (fun l j => x4 (ix2 l j)) (fun l j => x5 (ix2 l j)) (fun k => x6 (ix2 0 k)) (fun k => x7 (ix2 0 k)) (fun l n => x8 (ix2 l n))
        (fun k n => x9 (ix3 0 n k)) (fun k n => x10 (ix3 0 k n)) (fun n j => x11 (ix2 n j)) (fun k => x12 (ix2 0 k)) j := by
  unfold partV
  simp only [ld1, ld5, ld7, ld11]
  rw [lastV_apply]
  simp only [attV_apply]
  have hh := headsV_apply (qV (resV x (mixV on rk x3 x4 x5) x6) x7 x8) x9 x10 _ (fun p n => qV_apply _ x7 x8 p n) p
  simp only [hh, resV_apply, mixV_apply]
  rfl

theorem rows_at (off : Nat) (hoff : off + 256 ≤ 1024) (h0 : ∀ a, (![0, off, 0] : Fin 3 → Nat) a + S1x256x1024.size a ≤ S1x1024x1024.size a)
    (h1 : ∀ a, (![0, off, 0] : Fin 3 → Nat) a + S1x256x512.size a ≤ S1x1024x512.size a) (r j : Fin 1024) :
    View.RectAt (Val := Elt Ideal) (e := .f32) (ix3 (0 : Fin 1) r j) (Rect.unit (s := S1x1024x1024) ![0, off, 0] S1x256x1024.size h0)
      (partV x3 x4 x5 x6 x7 x8 x9 x10 x11 x12 (View.ld x0 (Rect.unit (s := S1x1024x1024) ![0, off, 0] S1x256x1024.size h0))
        (View.ld x1 (Rect.unit (s := S1x1024x512) ![0, off, 0] S1x256x512.size h1))
        (View.ld x2 (Rect.unit (s := S1x1024x512) ![0, off, 0] S1x256x512.size h1)))
      (blockEntry x0 x1 x2 x3 x4 x5 x6 x7 x8 x9 x10 x11 x12 r j) := by
  intro y hy
  obtain ⟨z, p, q, rfl⟩ : ∃ (z : Fin 1) (p : Fin 256) (q : Fin 1024), y = ix3 z p q := ⟨y 0, y 1, y 2, eq_ix3 y⟩
  have e1 : off + 1 * p.val = r.val := congrArg (fun i : S1x1024x1024.Idx => (i 1).val) hy
  have e2 : 0 + 1 * q.val = j.val := congrArg (fun i : S1x1024x1024.Idx => (i 2).val) hy
  have hr : r = ⟨off + p.val, by omega⟩ := Fin.ext (by simpa using e1.symm)
  have hj : j = q := Fin.ext (by omega)
  rw [partV_apply, hr, hj]
  unfold blockEntry
  pointwise

theorem out_apply (r j : Fin 1024) :
    out0_13 x0 x1 x2 x3 x4 x5 x6 x7 x8 x9 x10 x11 x12 (ix3 0 r j) = blockEntry x0 x1 x2 x3 x4 x5 x6 x7 x8 x9 x10 x11 x12 r j := by
  rw [out_eq]
  refine View.canon_eq_of_allAt _ _ _ (cover0_13 _ _ _ _ _)
    (View.allAt_cons _ _ _ ?_ (View.allAt_cons _ _ _ ?_ (View.allAt_cons _ _ _ ?_ (View.allAt_cons _ _ _ ?_ (View.allAt_nil _ _)))))
  · exact rows_at x0 x1 x2 x3 x4 x5 x6 x7 x8 x9 x10 x11 x12 768 (by omega) _ _ r j
  · exact rows_at x0 x1 x2 x3 x4 x5 x6 x7 x8 x9 x10 x11 x12 512 (by omega) _ _ r j
  · exact rows_at x0 x1 x2 x3 x4 x5 x6 x7 x8 x9 x10 x11 x12 256 (by omega) _ _ r j
  · exact rows_at x0 x1 x2 x3 x4 x5 x6 x7 x8 x9 x10 x11 x12 0 (by omega) _ _ r j

end block

end Cert.Proof.Mem
-- ==== Proof.Mem.Run.lean ====
/-
  THE MEMORY-ATTENTION CALL'S RUN, READ: every row of the result is the formula of that row and of its batch's keys and values.
-/
module

public import proofs.«01_k».proof.Proof.Mem.Rows

@[expose] public section

noncomputable section

namespace Cert.Proof.Mem

open Idealize.ShloMosaic Idealize.ShloMosaic.TcCoe Idealize.SL.Sem Cert.MemKernelIdeal Cert.MemKernelIdeal.Gen

variable (m : (ℓ : Loc nD τ sig) → Buf (Elt Ideal) ℓ) (ρ : Dev nD → PrngReg)

/-- The result array: row by row the formula, of the arguments as launched. -/
def result (c : Dev nD) : Buf (Elt Ideal) ((c : Thread nD τ).loc main_v12) := fun i =>
  entry (fun k => m ((c : Thread nD τ).loc main_arg0) (ix3 (i 0) (i 1) k)) (fun k => m ((c : Thread nD τ).loc main_arg1) (ix3 (i 0) (i 1) k))
    (fun k => m ((c : Thread nD τ).loc main_arg3) (ix1 k)) (fun k => m ((c : Thread nD τ).loc main_arg2) (ix3 (i 0) (i 1) k))
    (fun l j => m ((c : Thread nD τ).loc main_arg4) (ix2 ⟨l.val, by omega⟩ j))
    (fun l j => m ((c : Thread nD τ).loc main_arg4) (ix2 ⟨512 + l.val, by omega⟩ j))
    (fun k => m ((c : Thread nD τ).loc main_arg5) (ix1 k)) (fun k => m ((c : Thread nD τ).loc main_arg6) (ix1 k))
    (fun l n => m ((c : Thread nD τ).loc main_arg7) (ix2 l n)) (fun k n => m ((c : Thread nD τ).loc main_arg8) (ix3 (i 0) k n))
    (fun k n => m ((c : Thread nD τ).loc main_arg9) (ix3 (i 0) k n)) (fun n j => m ((c : Thread nD τ).loc main_arg10) (ix2 n j))
    (fun k => m ((c : Thread nD τ).loc main_arg11) (ix1 k)) (i 2)

/-! ## What the windows' arrays hold when the call starts -/

theorem in3 (c : Dev nD) (k : Fin 512) :
    (V m c main_v4 : S1x512.Idx → EReal) (ix2 0 k) = m ((c : Thread nD τ).loc main_arg3) (ix1 k) := by
  unfold V; after_results_simp
  pointwise

theorem in4 (c : Dev nD) (l : Fin 512) (j : Fin 1024) :
    (V m c main_v5 : S512x1024.Idx → EReal) (ix2 l j) = m ((c : Thread nD τ).loc main_arg4) (ix2 ⟨l.val, by omega⟩ j) := by
  unfold V; after_results_simp
  pointwise

theorem in5 (c : Dev nD) (l : Fin 512) (j : Fin 1024) :
    (V m c main_v6 : S512x1024.Idx → EReal) (ix2 l j) = m ((c : Thread nD τ).loc main_arg4) (ix2 ⟨512 + l.val, by omega⟩ j) := by
  unfold V; after_results_simp
  pointwise

theorem in6 (c : Dev nD) (k : Fin 1024) :
    (V m c main_v7 : S1x1024.Idx → EReal) (ix2 0 k) = m ((c : Thread nD τ).loc main_arg5) (ix1 k) := by
  unfold V; after_results_simp
  pointwise

theorem in7 (c : Dev nD) (k : Fin 1024) :
    (V m c main_v8 : S1x1024.Idx → EReal) (ix2 0 k) = m ((c : Thread nD τ).loc main_arg6) (ix1 k) := by
  unfold V; after_results_simp
  pointwise

theorem in8 (c : Dev nD) (l n : Fin 1024) :
    (V m c main_v9 : S1024x1024.Idx → EReal) (ix2 l n) = m ((c : Thread nD τ).loc main_arg7) (ix2 l n) := by
  unfold V; after_results_simp
  pointwise

theorem in9 (c : Dev nD) (b : Fin 2) (n : Fin 1024) (k : Fin 256) :
    (V m c main_v1 : S2x1024x256.Idx → EReal) (ix3 b n k) = m ((c : Thread nD τ).loc main_arg8) (ix3 b k n) := by
  unfold V; after_results_simp
  pointwise

theorem in10 (c : Dev nD) (b : Fin 2) (k : Fin 256) (n : Fin 1024) :
    (V m c main_v2 : S2x256x1024.Idx → EReal) (ix3 b k n) = m ((c : Thread nD τ).loc main_arg9) (ix3 b k n) := by
  unfold V; after_results_simp
  pointwise

theorem in11 (c : Dev nD) (l n : Fin 1024) :
    (V m c main_v10 : S1024x1024.Idx → EReal) (ix2 l n) = m ((c : Thread nD τ).loc main_arg10) (ix2 l n) := by
  unfold V; after_results_simp
  pointwise

theorem in12 (c : Dev nD) (k : Fin 1024) :
    (V m c main_v11 : S1x1024.Idx → EReal) (ix2 0 k) = m ((c : Thread nD τ).loc main_arg11) (ix1 k) := by
  unfold V; after_results_simp
  pointwise

/-! ## The blocks -/

/-- Where each window is at a point: the rows at the point's batch and row block, the keys and values at its batch, the rest
    whole. -/
theorem idx_facts : ∀ t : Fin grid0.N,
    (win0_0.index t 0 = t.val / 8 ∧ win0_0.index t 1 = t.val % 8 ∧ win0_0.index t 2 = 0)
    ∧ (win0_1.index t 0 = t.val / 8 ∧ win0_1.index t 1 = t.val % 8 ∧ win0_1.index t 2 = 0)
    ∧ (win0_2.index t 0 = t.val / 8 ∧ win0_2.index t 1 = t.val % 8 ∧ win0_2.index t 2 = 0)
    ∧ (win0_3.index t 0 = 0 ∧ win0_3.index t 1 = 0)
    ∧ (win0_4.index t 0 = 0 ∧ win0_4.index t 1 = 0)
    ∧ (win0_5.index t 0 = 0 ∧ win0_5.index t 1 = 0)
    ∧ (win0_6.index t 0 = 0 ∧ win0_6.index t 1 = 0)
    ∧ (win0_7.index t 0 = 0 ∧ win0_7.index t 1 = 0)
    ∧ (win0_8.index t 0 = 0 ∧ win0_8.index t 1 = 0)
    ∧ (win0_9.index t 0 = t.val / 8 ∧ win0_9.index t 1 = 0 ∧ win0_9.index t 2 = 0)
    ∧ (win0_10.index t 0 = t.val / 8 ∧ win0_10.index t 1 = 0 ∧ win0_10.index t 2 = 0)
    ∧ (win0_11.index t 0 = 0 ∧ win0_11.index t 1 = 0)
    ∧ (win0_12.index t 0 = 0 ∧ win0_12.index t 1 = 0)
    ∧ (win0_13.index t 0 = t.val / 8 ∧ win0_13.index t 1 = t.val % 8 ∧ win0_13.index t 2 = 0) := by decide +kernel

theorem blk0 (c : Dev nD) (t : Fin cfg0.N) (z : Fin 1) (p : Fin 1024) (k : Fin 1024) (hb : t.val / 8 < 2) (hr : 1024 * (t.val % 8) + p.val < 8192) :
    (iblk m c 0 t : S1x1024x1024.Idx → EReal) (ix3 z p k)
      = m ((c : Thread nD τ).loc main_arg0) (ix3 ⟨t.val / 8, hb⟩ ⟨1024 * (t.val % 8) + p.val, hr⟩ k) := by
  rw [← V_main_arg0 m c]
  unfold iblk
  rw [View.read_apply]
  show V m c main_arg0 _ = V m c main_arg0 _
  congr 1
  obtain ⟨e0, e1, e2⟩ := (idx_facts t).1
  have hz := z.isLt
  funext a
  apply Fin.ext
  match a with
  | ⟨0, _⟩ => show win0_0.index t 0 * 1 + 1 * z.val = t.val / 8; omega
  | ⟨1, _⟩ => show win0_0.index t 1 * 1024 + 1 * p.val = 1024 * (t.val % 8) + p.val; omega
  | ⟨2, _⟩ => show win0_0.index t 2 * 1024 + 1 * k.val = k.val; omega

theorem blk1 (c : Dev nD) (t : Fin cfg0.N) (z : Fin 1) (p : Fin 1024) (k : Fin 512) (hb : t.val / 8 < 2) (hr : 1024 * (t.val % 8) + p.val < 8192) :
    (iblk m c 1 t : S1x1024x512.Idx → EReal) (ix3 z p k)
      = m ((c : Thread nD τ).loc main_arg1) (ix3 ⟨t.val / 8, hb⟩ ⟨1024 * (t.val % 8) + p.val, hr⟩ k) := by
  rw [← V_main_arg1 m c]
  unfold iblk
  rw [View.read_apply]
  show V m c main_arg1 _ = V m c main_arg1 _
  congr 1
  obtain ⟨e0, e1, e2⟩ := (idx_facts t).2.1
  have hz := z.isLt
  funext a
  apply Fin.ext
  match a with
  | ⟨0, _⟩ => show win0_1.index t 0 * 1 + 1 * z.val = t.val / 8; omega
  | ⟨1, _⟩ => show win0_1.index t 1 * 1024 + 1 * p.val = 1024 * (t.val % 8) + p.val; omega
  | ⟨2, _⟩ => show win0_1.index t 2 * 512 + 1 * k.val = k.val; omega

theorem blk2 (c : Dev nD) (t : Fin cfg0.N) (z : Fin 1) (p : Fin 1024) (k : Fin 512) (hb : t.val / 8 < 2) (hr : 1024 * (t.val % 8) + p.val < 8192) :
    (iblk m c 2 t : S1x1024x512.Idx → EReal) (ix3 z p k)
      = m ((c : Thread nD τ).loc main_arg2) (ix3 ⟨t.val / 8, hb⟩ ⟨1024 * (t.val % 8) + p.val, hr⟩ k) := by
  rw [← V_main_arg2 m c]
  unfold iblk
  rw [View.read_apply]
  show V m c main_arg2 _ = V m c main_arg2 _
  congr 1
  obtain ⟨e0, e1, e2⟩ := (idx_facts t).2.2.1
  have hz := z.isLt
  funext a
  apply Fin.ext
  match a with
  | ⟨0, _⟩ => show win0_2.index t 0 * 1 + 1 * z.val = t.val / 8; omega
  | ⟨1, _⟩ => show win0_2.index t 1 * 1024 + 1 * p.val = 1024 * (t.val % 8) + p.val; omega
  | ⟨2, _⟩ => show win0_2.index t 2 * 512 + 1 * k.val = k.val; omega

theorem blk3 (c : Dev nD) (t : Fin cfg0.N) (k : Fin 512) :
    (iblk m c 3 t : S1x512.Idx → EReal) (ix2 0 k) = m ((c : Thread nD τ).loc main_arg3) (ix1 k) := by
  rw [← in3 m c k]
  unfold iblk
  rw [View.read_apply]
  show V m c main_v4 _ = V m c main_v4 _
  congr 1
  obtain ⟨e0, e1⟩ := (idx_facts t).2.2.2.1
  funext a
  apply Fin.ext
  match a with
  | ⟨0, _⟩ => show win0_3.index t 0 * 1 + 1 * 0 = 0; omega
  | ⟨1, _⟩ => show win0_3.index t 1 * 512 + 1 * k.val = k.val; omega

theorem blk4 (c : Dev nD) (t : Fin cfg0.N) (l : Fin 512) (j : Fin 1024) :
    (iblk m c 4 t : S512x1024.Idx → EReal) (ix2 l j) = m ((c : Thread nD τ).loc main_arg4) (ix2 ⟨l.val, by omega⟩ j) := by
  rw [← in4 m c l j]
  unfold iblk
  rw [View.read_apply]
  show V m c main_v5 _ = V m c main_v5 _
  congr 1
  obtain ⟨e0, e1⟩ := (idx_facts t).2.2.2.2.1
  funext a
  apply Fin.ext
  match a with
  | ⟨0, _⟩ => show win0_4.index t 0 * 512 + 1 * l.val = l.val; omega
  | ⟨1, _⟩ => show win0_4.index t 1 * 1024 + 1 * j.val = j.val; omega

theorem blk5 (c : Dev nD) (t : Fin cfg0.N) (l : Fin 512) (j : Fin 1024) :
    (iblk m c 5 t : S512x1024.Idx → EReal) (ix2 l j) = m ((c : Thread nD τ).loc main_arg4) (ix2 ⟨512 + l.val, by omega⟩ j) := by
  rw [← in5 m c l j]
  unfold iblk
  rw [View.read_apply]
  show V m c main_v6 _ = V m c main_v6 _
  congr 1
  obtain ⟨e0, e1⟩ := (idx_facts t).2.2.2.2.2.1
  funext a
  apply Fin.ext
  match a with
  | ⟨0, _⟩ => show win0_5.index t 0 * 512 + 1 * l.val = l.val; omega
  | ⟨1, _⟩ => show win0_5.index t 1 * 1024 + 1 * j.val = j.val; omega

theorem blk6 (c : Dev nD) (t : Fin cfg0.N) (k : Fin 1024) :
    (iblk m c 6 t : S1x1024.Idx → EReal) (ix2 0 k) = m ((c : Thread nD τ).loc main_arg5) (ix1 k) := by
  rw [← in6 m c k]
  unfold iblk
  rw [View.read_apply]
  show V m c main_v7 _ = V m c main_v7 _
  congr 1
  obtain ⟨e0, e1⟩ := (idx_facts t).2.2.2.2.2.2.1
  funext a
  apply Fin.ext
  match a with
  | ⟨0, _⟩ => show win0_6.index t 0 * 1 + 1 * 0 = 0; omega
  | ⟨1, _⟩ => show win0_6.index t 1 * 1024 + 1 * k.val = k.val; omega

theorem blk7 (c : Dev nD) (t : Fin cfg0.N) (k : Fin 1024) :
    (iblk m c 7 t : S1x1024.Idx → EReal) (ix2 0 k) = m ((c : Thread nD τ).loc main_arg6) (ix1 k) := by
  rw [← in7 m c k]
  unfold iblk
  rw [View.read_apply]
  show V m c main_v8 _ = V m c main_v8 _
  congr 1
  obtain ⟨e0, e1⟩ := (idx_facts t).2.2.2.2.2.2.2.1
  funext a
  apply Fin.ext
  match a with
  | ⟨0, _⟩ => show win0_7.index t 0 * 1 + 1 * 0 = 0; omega
  | ⟨1, _⟩ => show win0_7.index t 1 * 1024 + 1 * k.val = k.val; omega

theorem blk8 (c : Dev nD) (t : Fin cfg0.N) (l n : Fin 1024) :
    (iblk m c 8 t : S1024x1024.Idx → EReal) (ix2 l n) = m ((c : Thread nD τ).loc main_arg7) (ix2 l n) := by
  rw [← in8 m c l n]
  unfold iblk
  rw [View.read_apply]
  show V m c main_v9 _ = V m c main_v9 _
  congr 1
  obtain ⟨e0, e1⟩ := (idx_facts t).2.2.2.2.2.2.2.2.1
  funext a
  apply Fin.ext
  match a with
  | ⟨0, _⟩ => show win0_8.index t 0 * 1024 + 1 * l.val = l.val; omega
  | ⟨1, _⟩ => show win0_8.index t 1 * 1024 + 1 * n.val = n.val; omega

theorem blk9 (c : Dev nD) (t : Fin cfg0.N) (z : Fin 1) (n : Fin 1024) (k : Fin 256) (hb : t.val / 8 < 2) :
    (iblk m c 9 t : S1x1024x256.Idx → EReal) (ix3 z n k) = m ((c : Thread nD τ).loc main_arg8) (ix3 ⟨t.val / 8, hb⟩ k n) := by
  rw [← in9 m c ⟨t.val / 8, hb⟩ n k]
  unfold iblk
  rw [View.read_apply]
  show V m c main_v1 _ = V m c main_v1 _
  congr 1
  obtain ⟨e0, e1, e2⟩ := (idx_facts t).2.2.2.2.2.2.2.2.2.1
  have hz := z.isLt
  funext a
  apply Fin.ext
  match a with
  | ⟨0, _⟩ => show win0_9.index t 0 * 1 + 1 * z.val = t.val / 8; omega
  | ⟨1, _⟩ => show win0_9.index t 1 * 1024 + 1 * n.val = n.val; omega
  | ⟨2, _⟩ => show win0_9.index t 2 * 256 + 1 * k.val = k.val; omega

theorem blk10 (c : Dev nD) (t : Fin cfg0.N) (z : Fin 1) (k : Fin 256) (n : Fin 1024) (hb : t.val / 8 < 2) :
    (iblk m c 10 t : S1x256x1024.Idx → EReal) (ix3 z k n) = m ((c : Thread nD τ).loc main_arg9) (ix3 ⟨t.val / 8, hb⟩ k n) := by
  rw [← in10 m c ⟨t.val / 8, hb⟩ k n]
  unfold iblk
  rw [View.read_apply]
  show V m c main_v2 _ = V m c main_v2 _
  congr 1
  obtain ⟨e0, e1, e2⟩ := (idx_facts t).2.2.2.2.2.2.2.2.2.2.1
  have hz := z.isLt
  funext a
  apply Fin.ext
  match a with
  | ⟨0, _⟩ => show win0_10.index t 0 * 1 + 1 * z.val = t.val / 8; omega
  | ⟨1, _⟩ => show win0_10.index t 1 * 256 + 1 * k.val = k.val; omega
  | ⟨2, _⟩ => show win0_10.index t 2 * 1024 + 1 * n.val = n.val; omega

theorem blk11 (c : Dev nD) (t : Fin cfg0.N) (l n : Fin 1024) :
    (iblk m c 11 t : S1024x1024.Idx → EReal) (ix2 l n) = m ((c : Thread nD τ).loc main_arg10) (ix2 l n) := by
  rw [← in11 m c l n]
  unfold iblk
  rw [View.read_apply]
  show V m c main_v10 _ = V m c main_v10 _
  congr 1
  obtain ⟨e0, e1⟩ := (idx_facts t).2.2.2.2.2.2.2.2.2.2.2.1
  funext a
  apply Fin.ext
  match a with
  | ⟨0, _⟩ => show win0_11.index t 0 * 1024 + 1 * l.val = l.val; omega
  | ⟨1, _⟩ => show win0_11.index t 1 * 1024 + 1 * n.val = n.val; omega

theorem blk12 (c : Dev nD) (t : Fin cfg0.N) (k : Fin 1024) :
    (iblk m c 12 t : S1x1024.Idx → EReal) (ix2 0 k) = m ((c : Thread nD τ).loc main_arg11) (ix1 k) := by
  rw [← in12 m c k]
  unfold iblk
  rw [View.read_apply]
  show V m c main_v11 _ = V m c main_v11 _
  congr 1
  obtain ⟨e0, e1⟩ := (idx_facts t).2.2.2.2.2.2.2.2.2.2.2.2.1
  funext a
  apply Fin.ext
  match a with
  | ⟨0, _⟩ => show win0_12.index t 0 * 1 + 1 * 0 = 0; omega
  | ⟨1, _⟩ => show win0_12.index t 1 * 1024 + 1 * k.val = k.val; omega

/-- What a point writes back is its row block of `result`. -/
theorem written (c : Dev nD) (t : Fin cfg0.N) (hf : (cfg0.win 13).flush t = true) :
    (dats m 0 c).flushed 13 t = ((cfg0.win 13).blk t).view.read (Elt Ideal) (result m c) := by
  have hN : cfg0.N = 16 := N_0
  have ht := t.isLt
  rw [Value.flushed13]
  funext y
  obtain ⟨z, p, j, rfl⟩ : ∃ (z : Fin 1) (p j : Fin 1024), y = ix3 z p j := ⟨y 0, y 1, y 2, eq_ix3 y⟩
  obtain rfl : z = 0 := Subsingleton.elim (α := Fin 1) z 0
  have hb : t.val / 8 < 2 := by omega
  have hr : 1024 * (t.val % 8) + p.val < 8192 := by omega
  rw [View.read_apply]
  obtain ⟨e0, e1, e2⟩ := (idx_facts t).2.2.2.2.2.2.2.2.2.2.2.2.2
  have e : ((cfg0.win 13).blk t).view.emb (ix3 (0 : Fin 1) p j) = ix3 (⟨t.val / 8, hb⟩ : Fin 2) (⟨1024 * (t.val % 8) + p.val, hr⟩ : Fin 8192) j := by
    funext a
    apply Fin.ext
    match a with
    | ⟨0, _⟩ => show win0_13.index t 0 * 1 + 1 * 0 = t.val / 8; omega
    | ⟨1, _⟩ => show win0_13.index t 1 * 1024 + 1 * p.val = 1024 * (t.val % 8) + p.val; omega
    | ⟨2, _⟩ => show win0_13.index t 2 * 1024 + 1 * j.val = j.val; omega
  rw [e]
  show out0_13 _ _ _ _ _ _ _ _ _ _ _ _ _ (ix3 (0 : Fin 1) p j) = _
  rw [out_apply]
  unfold blockEntry
  simp only [blk0 m c t _ p _ hb hr, blk1 m c t _ p _ hb hr, blk2 m c t _ p _ hb hr, blk3, blk4, blk5, blk6, blk7, blk8,
    blk9 m c t _ _ _ hb, blk10 m c t _ _ _ hb, blk11, blk12]
  rfl

/-- So the call leaves `result`: every row is in some point's block. -/
theorem final (c : Dev nD) : (dats m 0 c).arrAt 13 cfg0.N = result m c :=
  (dats m 0 c).arrAt_eq_of_cover 13 (result m c) (written m c) fun i => by
    have hN : cfg0.N = 16 := N_0
    have h0 : (i 0 : Nat) < 2 := (i 0).isLt
    have h1 : (i 1 : Nat) < 8192 := (i 1).isLt
    have h2 : (i 2 : Nat) < 1024 := (i 2).isLt
    have hq : (i 0 : Nat) * 8 + (i 1 : Nat) / 1024 < cfg0.N := by omega
    refine ⟨⟨(i 0 : Nat) * 8 + (i 1 : Nat) / 1024, hq⟩, (flush0_13 _), ?_⟩
    show i ∈ ((View.whole main_v12).slice (win0_13.rect ⟨(i 0 : Nat) * 8 + (i 1 : Nat) / 1024, hq⟩)).set
    rw [View.set_slice_whole, Rect.mem_set_unit]
    obtain ⟨e0, e1, e2⟩ := (idx_facts ⟨(i 0 : Nat) * 8 + (i 1 : Nat) / 1024, hq⟩).2.2.2.2.2.2.2.2.2.2.2.2.2
    dsimp only at e0 e1 e2
    intro a
    match a with
    | ⟨0, _⟩ => show win0_13.index _ 0 * 1 ≤ (i 0 : Nat) ∧ (i 0 : Nat) < win0_13.index _ 0 * 1 + 1
                rw [e0]; omega
    | ⟨1, _⟩ => show win0_13.index _ 1 * 1024 ≤ (i 1 : Nat) ∧ (i 1 : Nat) < win0_13.index _ 1 * 1024 + 1024
                rw [e1]; omega
    | ⟨2, _⟩ => show win0_13.index _ 2 * 1024 ≤ (i 2 : Nat) ∧ (i 2 : Nat) < win0_13.index _ 2 * 1024 + 1024
                rw [e2]; omega

end Cert.Proof.Mem
-- ==== Proof.Mem.Algebra.lean ====
/-
  THE MEMORY-ATTENTION REFERENCE, READ, and the two programs' results equal. The reference joins the two head groups and
  multiplies once; the kernel multiplies each by its half of the weight. The reference scales the scores, the kernel the queries.
-/
module

public import proofs.«01_k».proof.Proof.Mem.Run
public import proofs.«01_k».proof.Proof.Gen.MemReferenceIdeal.Run
public import proofs.«01_k».proof.Defs
public import Idealize.ShloMosaic.Lib.IdealHost

@[expose] public section

noncomputable section

namespace Cert.Proof.Mem

open Idealize.ShloMosaic Idealize.ShloMosaic.TcCoe Idealize.SL.Sem Cert.MemReferenceIdeal Cert.MemReferenceIdeal.Gen

/-- Rows of 512 columns, normalised. -/
def rNorm5 (x : FVec Ideal S2x8192x512 .f32) (g : FVec Ideal S512 .f32) : FVec Ideal S2x8192x512 .f32 :=
  mulf (mulf x (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf x x) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32)))))) (broadcastInDim S2x8192x512 ![0, 1, 2] bcast_S1x1x512_S2x8192x512_0_1_2 (broadcastInDim S1x1x512 ![2] bcast_S512_S1x1x512_2 g))

/-- Rows of 1024 columns, normalised. -/
def rNorm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- Rows of 1024 columns against a weight. -/
def rDot (x : FVec Ideal S2x8192x1024 .f32) (w : FVec Ideal S1024x1024 .f32) : FVec Ideal S2x8192x1024 .f32 :=
  Host.dotGeneral dot_S2x8192x1024_S1024x1024_S2x8192x1024_2_0_01_1_n_n none x w

/-- The two head groups side by side, the first normalised. -/
def rCat (on : FVec Ideal S2x8192x512 .f32) (ng : FVec Ideal S512 .f32) (rk : FVec Ideal S2x8192x512 .f32) : FVec Ideal S2x8192x1024 .f32 :=
  concatenate S2x8192x1024 2 [⟨S2x8192x512, rNorm5 on ng⟩, ⟨S2x8192x512, rk⟩] concatenates_S2x8192x512_S2x8192x512_S2x8192x1024_d2

/-- The heads' scores. -/
def rScore (q : FVec Ideal S2x8192x1024 .f32) (k : FVec Ideal S2x256x1024 .f32) : FVec Ideal S2x4x8192x256 .f32 :=
  mulf (Host.dotGeneral dot_S2x8192x4x256_S2x256x4x256_S2x4x8192x256_3_3_1_1_02_02 none (shapeCast S2x8192x4x256 q shapeCasts_S2x8192x1024_S2x8192x4x256) (shapeCast S2x256x4x256 k shapeCasts_S2x256x1024_S2x256x4x256)) (broadcastInDim S2x4x8192x256 ![] bcast_S_S2x4x8192x256 (constant S_ .f32 0x3D800000#32))

/-- Each query's greatest score. -/
def rMax (s : FVec Ideal S2x4x8192x256 .f32) : FVec Ideal S2x4x8192 .f32 :=
  Host.reduce FloatOps.maximumf s (constant S_ .f32 0xFF800000#32) reducesTo_S2x4x8192x256_S2x4x8192_d3 h_S_

/-- The scores' exponentials, the greatest score taken off. -/
def rExp (s : FVec Ideal S2x4x8192x256 .f32) (mx : FVec Ideal S2x4x8192 .f32) : FVec Ideal S2x4x8192x256 .f32 :=
  Host.exp (subf s (broadcastInDim S2x4x8192x256 ![0, 1, 2, 3] bcast_S2x4x8192x1_S2x4x8192x256_0_1_2_3 (broadcastInDim S2x4x8192x1 ![0, 1, 2] bcast_S2x4x8192_S2x4x8192x1_0_1_2 (maximumf (broadcastInDim S2x4x8192 ![] bcast_S_S2x4x8192 (constant S_ .f32 0xFF800000#32)) mx))))

/-- The exponentials over their sums against the values, heads side by side. -/
def rHeads (e : FVec Ideal S2x4x8192x256 .f32) (v : FVec Ideal S2x256x1024 .f32) : FVec Ideal S2x8192x1024 .f32 :=
  shapeCast S2x8192x1024 (transpose S2x8192x4x256 [0, 3, 1, 2] (Host.dotGeneral dot_S2x256x4x256_S2x4x8192x256_S2x4x256x8192_1_3_3_2_02_01 none (shapeCast S2x256x4x256 v shapeCasts_S2x256x1024_S2x256x4x256) (Host.divf e (broadcastInDim S2x4x8192x256 ![0, 1, 2, 3] bcast_S2x4x8192x1_S2x4x8192x256_0_1_2_3 (broadcastInDim S2x4x8192x1 ![0, 1, 2] bcast_S2x4x8192_S2x4x8192x1_0_1_2 (Host.reduceAdd e (constant S_ .f32 0x00000000#32) reducesTo_S2x4x8192x256_S2x4x8192_d3 h_S_))))) transposes_S2x4x256x8192_S2x8192x4x256_0_3_1_2) shapeCasts_S2x8192x4x256_S2x8192x1024

theorem rNorm5_apply (x : FVec Ideal S2x8192x512 .f32) (g : FVec Ideal S512 .f32) (b : Fin 2) (t : Fin 8192) (k : Fin 512) :
    rNorm5 x g (ix3 b t k) = unit 0x44000000#32 (fun k => x (ix3 b t k)) (fun k => g (ix1 k)) k := by
  pointwise [rNorm5, unit, nrm]

theorem rNorm_apply (x : FVec Ideal S2x8192x1024 .f32) (g : FVec Ideal S1024 .f32) (b : Fin 2) (t : Fin 8192) (k : Fin 1024) :
    rNorm x g (ix3 b t k) = unit 0x44800000#32 (fun k => x (ix3 b t k)) (fun k => g (ix1 k)) k := by
  pointwise [rNorm, unit, nrm]

theorem rDot_apply (x : FVec Ideal S2x8192x1024 .f32) (w : FVec Ideal S1024x1024 .f32) (b : Fin 2) (t : Fin 8192) (j : Fin 1024) :
    rDot x w (ix3 b t j) = ∑ l : Fin 1024, x (ix3 b t l) * w (ix2 l j) := by
  pointwise [rDot]

theorem rMix_apply (on : FVec Ideal S2x8192x512 .f32) (ng : FVec Ideal S512 .f32) (rk : FVec Ideal S2x8192x512 .f32)
    (w : FVec Ideal S1024x1024 .f32) (b : Fin 2) (t : Fin 8192) (j : Fin 1024) :
    rDot (rCat on ng rk) w (ix3 b t j) = mix (fun k => on (ix3 b t k)) (fun k => ng (ix1 k)) (fun k => rk (ix3 b t k))
      (fun l j => w (ix2 ⟨l.val, by omega⟩ j)) (fun l j => w (ix2 ⟨512 + l.val, by omega⟩ j)) j := by
  pointwise [rDot, rCat, mix]
  simp only [rNorm5_apply]

theorem rScore_apply (q : FVec Ideal S2x8192x1024 .f32) (k : FVec Ideal S2x256x1024 .f32) (b : Fin 2) (t : Fin 8192) (h : Fin 4) (s : Fin 256) :
    rScore q k (ix4 b h t s) = (∑ d : Fin 256, q (ix3 b t ⟨h.val * 256 + d.val, by omega⟩) * k (ix3 b s ⟨h.val * 256 + d.val, by omega⟩))
      * Ideal.ofBits .f32 0x3D800000#32 := by
  pointwise [rScore]

theorem rMax_apply (x : FVec Ideal S2x4x8192x256 .f32) (b : Fin 2) (t : Fin 8192) (h : Fin 4) :
    rMax x (ix3 b h t) = Finset.fold max (Ideal.ofBits .f32 0xFF800000#32) (fun s => x (ix4 b h t s)) Finset.univ := by
  unfold rMax
  rw [Host.reduce_eq_fold]
  rw [Shape.ReducesTo.fold_fiber_r4_a3]
  rfl

/-- A greatest score started at least is the greatest score. -/
theorem max_least (x : EReal) : max (Ideal.ofBits .f32 0xFF800000#32) x = x := by
  have h : Ideal.ofBits .f32 0xFF800000#32 = (⊥ : EReal) := by
    simp [Ideal.ofBits, Ideal.ieee]
  rw [h]; exact max_eq_right bot_le

theorem rExp_apply (x : FVec Ideal S2x4x8192x256 .f32) (mx : FVec Ideal S2x4x8192 .f32) (b : Fin 2) (t : Fin 8192) (h : Fin 4) (s : Fin 256) :
    rExp x mx (ix4 b h t s) = Ideal.exp (x (ix4 b h t s) - mx (ix3 b h t)) := by
  pointwise [rExp]
  simp only [max_least]

theorem rHeads_apply (e : FVec Ideal S2x4x8192x256 .f32) (v : FVec Ideal S2x256x1024 .f32) (b : Fin 2) (t : Fin 8192) (n : Fin 1024) :
    rHeads e v (ix3 b t n) = ∑ k : Fin 256, v (ix3 b k n) * Ideal.div (e (ix4 b ⟨n.val / 256, by omega⟩ t k)) (∑ k : Fin 256, e (ix4 b ⟨n.val / 256, by omega⟩ t k)) := by
  pointwise [rHeads]

/-- The residual: the row plus the normalised mix. -/
def rRes (x : FVec Ideal S2x8192x1024 .f32) (on : FVec Ideal S2x8192x512 .f32) (rk : FVec Ideal S2x8192x512 .f32) (ng : FVec Ideal S512 .f32)
    (w : FVec Ideal S1024x1024 .f32) (g1 : FVec Ideal S1024 .f32) : FVec Ideal S2x8192x1024 .f32 :=
  addf x (rNorm (rDot (rCat on ng rk) w) g1)

/-- The memory attention of a residual, before its last norm. -/
def rAtt (r : FVec Ideal S2x8192x1024 .f32) (g2 : FVec Ideal S1024 .f32) (wq : FVec Ideal S1024x1024 .f32) (k v : FVec Ideal S2x256x1024 .f32)
    (wo : FVec Ideal S1024x1024 .f32) : FVec Ideal S2x8192x1024 .f32 :=
  rDot (rHeads (rExp (rScore (rDot (rNorm r g2) wq) k) (rMax (rScore (rDot (rNorm r g2) wq) k))) v) wo

/-- The reference's result. -/
def rOut (x : FVec Ideal S2x8192x1024 .f32) (on : FVec Ideal S2x8192x512 .f32) (rk : FVec Ideal S2x8192x512 .f32) (ng : FVec Ideal S512 .f32)
    (w : FVec Ideal S1024x1024 .f32) (g1 g2 : FVec Ideal S1024 .f32) (wq : FVec Ideal S1024x1024 .f32) (k v : FVec Ideal S2x256x1024 .f32)
    (wo : FVec Ideal S1024x1024 .f32) (g3 : FVec Ideal S1024 .f32) : FVec Ideal S2x8192x1024 .f32 :=
  addf (rRes x on rk ng w g1) (rNorm (rAtt (rRes x on rk ng w g1) g2 wq k v wo) g3)

theorem rRes_apply (x : FVec Ideal S2x8192x1024 .f32) (on : FVec Ideal S2x8192x512 .f32) (rk : FVec Ideal S2x8192x512 .f32) (ng : FVec Ideal S512 .f32)
    (w : FVec Ideal S1024x1024 .f32) (g1 : FVec Ideal S1024 .f32) (b : Fin 2) (t : Fin 8192) (j : Fin 1024) :
    rRes x on rk ng w g1 (ix3 b t j) = res (fun k => x (ix3 b t k)) (mix (fun k => on (ix3 b t k)) (fun k => ng (ix1 k)) (fun k => rk (ix3 b t k))
      (fun l j => w (ix2 ⟨l.val, by omega⟩ j)) (fun l j => w (ix2 ⟨512 + l.val, by omega⟩ j))) (fun k => g1 (ix1 k)) j := by
  show x (ix3 b t j) + rNorm _ g1 (ix3 b t j) = _
  rw [rNorm_apply]
  simp only [rMix_apply]
  rfl

/-- The reference's column of a head, as the kernel's. -/
theorem rScore_head (q : FVec Ideal S2x8192x1024 .f32) (k : FVec Ideal S2x256x1024 .f32) (b : Fin 2) (t : Fin 8192) (n : Fin 1024) (s : Fin 256) :
    rScore q k (ix4 b ⟨n.val / 256, by omega⟩ t s) = score (fun n => q (ix3 b t n)) (fun s n => k (ix3 b s n)) n s := by
  rw [rScore_apply]
  unfold score
  congr 1
  refine Finset.sum_congr rfl fun d _ => ?_
  have e : hcol n d = ⟨n.val / 256 * 256 + d.val, by omega⟩ := Fin.ext (by show 256 * (n.val / 256) + d.val = n.val / 256 * 256 + d.val; omega)
  rw [e]

theorem rHeads_head (q : FVec Ideal S2x8192x1024 .f32) (k v : FVec Ideal S2x256x1024 .f32) (b : Fin 2) (t : Fin 8192) (n : Fin 1024) :
    rHeads (rExp (rScore q k) (rMax (rScore q k))) v (ix3 b t n)
      = head (fun n => q (ix3 b t n)) (fun s n => k (ix3 b s n)) (fun s n => v (ix3 b s n)) n := by
  rw [rHeads_apply]
  unfold head
  refine Finset.sum_congr rfl fun s _ => ?_
  rw [mul_comm]
  simp only [rExp_apply, rMax_apply, rScore_head]
  rfl

theorem rAtt_apply (r : FVec Ideal S2x8192x1024 .f32) (g2 : FVec Ideal S1024 .f32) (wq : FVec Ideal S1024x1024 .f32) (k v : FVec Ideal S2x256x1024 .f32)
    (wo : FVec Ideal S1024x1024 .f32) (b : Fin 2) (t : Fin 8192) (j : Fin 1024) :
    rAtt r g2 wq k v wo (ix3 b t j) = att (proj (fun n => r (ix3 b t n)) (fun k => g2 (ix1 k)) (fun l n => wq (ix2 l n)))
      (fun s n => k (ix3 b s n)) (fun s n => v (ix3 b s n)) (fun n j => wo (ix2 n j)) j := by
  unfold rAtt
  rw [rDot_apply]
  unfold att
  refine Finset.sum_congr rfl fun n _ => ?_
  rw [rHeads_head]
  simp only [rDot_apply, rNorm_apply]
  rfl

theorem rOut_apply (x : FVec Ideal S2x8192x1024 .f32) (on : FVec Ideal S2x8192x512 .f32) (rk : FVec Ideal S2x8192x512 .f32) (ng : FVec Ideal S512 .f32)
    (w : FVec Ideal S1024x1024 .f32) (g1 g2 : FVec Ideal S1024 .f32) (wq : FVec Ideal S1024x1024 .f32) (k v : FVec Ideal S2x256x1024 .f32)
    (wo : FVec Ideal S1024x1024 .f32) (g3 : FVec Ideal S1024 .f32) (b : Fin 2) (t : Fin 8192) (j : Fin 1024) :
    rOut x on rk ng w g1 g2 wq k v wo g3 (ix3 b t j)
      = entry (fun k => x (ix3 b t k)) (fun k => on (ix3 b t k)) (fun k => ng (ix1 k)) (fun k => rk (ix3 b t k))
        (fun l j => w (ix2 ⟨l.val, by omega⟩ j)) (fun l j => w (ix2 ⟨512 + l.val, by omega⟩ j)) (fun k => g1 (ix1 k)) (fun k => g2 (ix1 k))
        (fun l n => wq (ix2 l n)) (fun s n => k (ix3 b s n)) (fun s n => v (ix3 b s n)) (fun n j => wo (ix2 n j)) (fun k => g3 (ix1 k)) j := by
  show rRes x on rk ng w g1 (ix3 b t j) + rNorm _ g3 (ix3 b t j) = _
  rw [rNorm_apply]
  simp only [rAtt_apply, rRes_apply]
  rfl

section reference
variable (V0 : Valuation τ sig (Elt Ideal))

/-- The reference's residual, and its result before the last norm, in these terms. -/
theorem mixed_eq : Value.res_main_v14 V0 = rDot (rCat (V0 (Proc.devRef .tc main_arg1)) (V0 (Proc.devRef .tc main_arg3)) (V0 (Proc.devRef .tc main_arg2))) (V0 (Proc.devRef .tc main_arg4)) := rfl

theorem res_eq : Value.res_main_v28 V0 = rRes (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) := by
  unfold Value.res_main_v28
  rw [mixed_eq]
  rfl

theorem score_eq : Value.res_main_v48 V0 = rScore (rDot (rNorm (Value.res_main_v28 V0) (V0 (Proc.devRef .tc main_arg6))) (V0 (Proc.devRef .tc main_arg7))) (V0 (Proc.devRef .tc main_arg8)) := rfl

theorem exp_eq : Value.res_main_v55 V0 = rExp (Value.res_main_v48 V0) (rMax (Value.res_main_v48 V0)) := rfl

theorem heads_eq : Value.res_main_v63 V0 = rDot (rHeads (Value.res_main_v55 V0) (V0 (Proc.devRef .tc main_arg9))) (V0 (Proc.devRef .tc main_arg10)) := rfl

theorem att_eq : Value.res_main_v63 V0 = rAtt (Value.res_main_v28 V0) (V0 (Proc.devRef .tc main_arg6)) (V0 (Proc.devRef .tc main_arg7)) (V0 (Proc.devRef .tc main_arg8)) (V0 (Proc.devRef .tc main_arg9)) (V0 (Proc.devRef .tc main_arg10)) := by
  rw [heads_eq, exp_eq, score_eq]
  rfl

end reference

/-- The two programs' results are the same array. -/
theorem algebraic_mem : Cert.algebraic_MemKernelIdeal_MemReferenceIdeal := by
  intro m ρ m' ρ' _ hagree
  refine ⟨fun c => result m c, ?_, ?_⟩
  · exact (θ_run Cert.MemKernelIdeal.defs _ _).mono (fun _ h c => ⟨(h c).1.trans (final m c), (h c).2⟩)
      (Cert.MemKernelIdeal.Value.run_blocks (F := Ideal) m ρ)
  · refine (θ_run Cert.MemReferenceIdeal.defs _ _).mono (fun _ h c => ⟨(h c).1.trans ?_, (h c).2⟩)
      (Cert.MemReferenceIdeal.Value.run (F := Ideal) m' ρ')
    obtain ⟨h0, h1, h2, h3, h4, h5, h6, h7, h8, h9, h10, h11⟩ := hagree c
    rw [att_eq, res_eq]
    funext i
    obtain ⟨b, t, j, rfl⟩ : ∃ (b : Fin 2) (t : Fin 8192) (j : Fin 1024), i = ix3 b t j := ⟨i 0, i 1, i 2, eq_ix3 i⟩
    refine (rOut_apply (m' ((c.tc : Thread nD τ).loc main_arg0)) (m' ((c.tc : Thread nD τ).loc main_arg1)) (m' ((c.tc : Thread nD τ).loc main_arg2))
      (m' ((c.tc : Thread nD τ).loc main_arg3)) (m' ((c.tc : Thread nD τ).loc main_arg4)) (m' ((c.tc : Thread nD τ).loc main_arg5))
      (m' ((c.tc : Thread nD τ).loc main_arg6)) (m' ((c.tc : Thread nD τ).loc main_arg7)) (m' ((c.tc : Thread nD τ).loc main_arg8))
      (m' ((c.tc : Thread nD τ).loc main_arg9)) (m' ((c.tc : Thread nD τ).loc main_arg10)) (m' ((c.tc : Thread nD τ).loc main_arg11)) b t j).trans ?_
    unfold result
    simp only [h0, h1, h2, h3, h4, h5, h6, h7, h8, h9, h10, h11]
    rfl

end Cert.Proof.Mem
-- ==== Proof.Kv.Rows.lean ====
/-
  ONE BATCH OF THE MEMORY'S KEYS AND VALUES, ENTRY BY ENTRY. The body normalises the memory's rows and multiplies them by the key
  weight and the value weight; the keys are stored transposed.
-/
module

public import proofs.«01_k».proof.Proof.Mem.Rows
public import proofs.«01_k».proof.Proof.Gen.KvKernelIdeal.Value
public import Idealize.ShloMosaic.Lib.Pointwise
public import Idealize.ShloMosaic.Lib.Pipeline.ValueKit.Tiles

@[expose] public section

noncomputable section

namespace Cert.Proof.Kv

open Idealize.ShloMosaic Idealize.ShloMosaic.TcCoe Idealize.SL.Sem Cert.KvKernelIdeal Cert.KvKernelIdeal.Gen
open Cert.Proof.Mem (unit nrm proj)

theorem rows_apply (x0 : Vec Ideal S1x256x1024 .f32) (x1 : Vec Ideal S1x1024 .f32) (p : Fin 256) (k : Fin 1024) :
    k0_pay1 x0 x1 (ix2 p k) = unit 0x44800000#32 (fun k => x0 (ix3 0 p k)) (fun k => x1 (ix2 0 k)) k := by
  pointwise [k0_pay1, unit, nrm]

/-- A row of rows times a weight, whole. -/
def prodV (u : FVec Ideal S256x1024 .bf16) (w : FVec Ideal S1024x1024 .bf16) : FVec Ideal S256x1024 .f32 :=
  matmul dot_S256x1024_S1024x1024_S256x1024_1_0_0_1_n_n none u w (constant S256x1024 .f32 0x00000000#32)

theorem prodV_apply (u : FVec Ideal S256x1024 .bf16) (w : FVec Ideal S1024x1024 .bf16) (p : Fin 256) (j : Fin 1024) :
    prodV u w (ix2 p j) = ∑ l : Fin 1024, u (ix2 p l) * w (ix2 l j) := by
  pointwise [prodV]

/-- The keys' block: the product transposed. -/
def keyV (y : FVec Ideal S256x1024 .f32) : FVec Ideal S1x1024x256 .bf16 :=
  shapeCast S1x1024x256 (truncf .bf16 (transpose S1024x256 [1, 0] y transposes_S256x1024_p1_0_S1024x256) bitsLt_bf16_f32) shapeCasts_S1024x256_S1x1024x256

/-- The values' block. -/
def valV (y : FVec Ideal S256x1024 .f32) : FVec Ideal S1x256x1024 .bf16 :=
  shapeCast S1x256x1024 (truncf .bf16 y bitsLt_bf16_f32) shapeCasts_S256x1024_S1x256x1024

theorem keyV_apply (y : FVec Ideal S256x1024 .f32) (z : Fin 1) (n : Fin 1024) (p : Fin 256) : keyV y (ix3 z n p) = y (ix2 p n) := by
  pointwise [keyV]

theorem valV_apply (y : FVec Ideal S256x1024 .f32) (z : Fin 1) (p : Fin 256) (n : Fin 1024) : valV y (ix3 z p n) = y (ix2 p n) := by
  pointwise [valV]

variable (x0 : Vec Ideal S1x256x1024 .f32) (x1 : Vec Ideal S1x1024 .f32) (x2 x3 : Vec Ideal S1024x1024 .bf16)

theorem ld0 (x : Vec Ideal S1x256x1024 .f32) : View.ld x r0_0 = x := by
  funext i; obtain ⟨a, b, d, rfl⟩ : ∃ a b d, i = ix3 a b d := ⟨i 0, i 1, i 2, eq_ix3 i⟩; obtain rfl : a = 0 := Subsingleton.elim (α := Fin 1) a 0; pointwise

theorem ld1 (x : Vec Ideal S1x1024 .f32) : View.ld x r0_1 = x := by
  funext i; obtain ⟨a, b, rfl⟩ : ∃ a b, i = ix2 a b := ⟨i 0, i 1, eq_ix2 i⟩; obtain rfl : a = 0 := Subsingleton.elim (α := Fin 1) a 0; pointwise

theorem ld2 (x : Vec Ideal S1024x1024 .bf16) : View.ld x r0_2 = x := by
  funext i; obtain ⟨a, b, rfl⟩ : ∃ a b, i = ix2 a b := ⟨i 0, i 1, eq_ix2 i⟩; pointwise

theorem key_eq : k0_pay2 x0 x1 x2 = keyV (prodV (k0_pay1 x0 x1) x2) := by
  unfold k0_pay2
  rw [shapeCast_self]
  rfl

theorem val_eq : k0_pay3 x0 x1 x3 = valV (prodV (k0_pay1 x0 x1) x3) := by
  unfold k0_pay3
  rw [shapeCast_self]
  rfl

/-- The keys' entry: column `n` of row `p`'s projection. -/
theorem out_key (z : Fin 1) (n : Fin 1024) (p : Fin 256) :
    out0_4 x0 x1 x2 x3 (ix3 z n p) = proj (fun k => x0 (ix3 0 p k)) (fun k => x1 (ix2 0 k)) (fun l j => x2 (ix2 l j)) n := by
  obtain rfl : z = 0 := Subsingleton.elim (α := Fin 1) z 0
  have e : r0_3.emb (ix3 (0 : Fin 1) n p) = ix3 (0 : Fin 1) n p := by
    funext a; apply Fin.ext
    match a with
    | ⟨0, _⟩ => rfl
    | ⟨1, _⟩ => show 0 + 1 * n.val = n.val; omega
    | ⟨2, _⟩ => show 0 + 1 * p.val = p.val; omega
  have h : out0_4 x0 x1 x2 x3 (ix3 (0 : Fin 1) n p) = out0_4 x0 x1 x2 x3 (r0_3.emb (ix3 (0 : Fin 1) n p)) := by rw [e]
  rw [h]
  unfold out0_4
  rw [View.canon_cons_emb, ld0, ld1, ld2, key_eq]
  rw [keyV_apply, prodV_apply]
  simp only [rows_apply]
  rfl

/-- The values' entry. -/
theorem out_val (z : Fin 1) (p : Fin 256) (n : Fin 1024) :
    out0_5 x0 x1 x2 x3 (ix3 z p n) = proj (fun k => x0 (ix3 0 p k)) (fun k => x1 (ix2 0 k)) (fun l j => x3 (ix2 l j)) n := by
  obtain rfl : z = 0 := Subsingleton.elim (α := Fin 1) z 0
  have e : r0_0.emb (ix3 (0 : Fin 1) p n) = ix3 (0 : Fin 1) p n := by
    funext a; apply Fin.ext
    match a with
    | ⟨0, _⟩ => rfl
    | ⟨1, _⟩ => show 0 + 1 * p.val = p.val; omega
    | ⟨2, _⟩ => show 0 + 1 * n.val = n.val; omega
  have h : out0_5 x0 x1 x2 x3 (ix3 (0 : Fin 1) p n) = out0_5 x0 x1 x2 x3 (r0_0.emb (ix3 (0 : Fin 1) p n)) := by rw [e]
  rw [h]
  unfold out0_5
  rw [View.canon_cons_emb, ld0, ld1, ld2, val_eq]
  rw [valV_apply, prodV_apply]
  simp only [rows_apply]
  rfl

end Cert.Proof.Kv
-- ==== Proof.Kv.Algebra.lean ====
/-
  THE MEMORY'S KEYS AND VALUES: what the call leaves, the reference read, and the two programs' results equal.
-/
module

public import proofs.«01_k».proof.Proof.Kv.Rows
public import proofs.«01_k».proof.Proof.Gen.KvReferenceIdeal.Run
public import proofs.«01_k».proof.Defs
public import Idealize.ShloMosaic.Lib.IdealHost

@[expose] public section

noncomputable section

namespace Cert.Proof.Kv

open Idealize.ShloMosaic Idealize.ShloMosaic.TcCoe Idealize.SL.Sem
open Cert.Proof.Mem (unit nrm proj)

section kernel
open Cert.KvKernelIdeal Cert.KvKernelIdeal.Gen

variable (m : (ℓ : Loc nD τ sig) → Buf (Elt Ideal) ℓ) (ρ : Dev nD → PrngReg)

/-- A row of the memory against a weight: what both results are made of. -/
def row (c : Dev nD) (w : S1024x1024.Idx → EReal) (b : Fin 2) (p : Fin 256) (n : Fin 1024) : EReal :=
  proj (fun k => m ((c : Thread nD τ).loc main_arg0) (ix3 b p k)) (fun k => m ((c : Thread nD τ).loc main_arg1) (ix1 k)) (fun l j => w (ix2 l j)) n

/-- The keys' array, transposed. -/
def keys (c : Dev nD) : Buf (Elt Ideal) ((c : Thread nD τ).loc main_v3_0) := fun i =>
  row m c (m ((c : Thread nD τ).loc main_arg2)) (i 0) (i 2) (i 1)

/-- The values' array. -/
def vals (c : Dev nD) : Buf (Elt Ideal) ((c : Thread nD τ).loc main_v3_1) := fun i =>
  row m c (m ((c : Thread nD τ).loc main_arg3)) (i 0) (i 1) (i 2)

theorem in1 (c : Dev nD) (k : Fin 1024) :
    (V m c main_v0 : S1x1024.Idx → EReal) (ix2 0 k) = m ((c : Thread nD τ).loc main_arg1) (ix1 k) := by
  unfold V; after_results_simp
  pointwise

theorem in2 (c : Dev nD) (l n : Fin 1024) :
    (V m c main_v1 : S1024x1024.Idx → EReal) (ix2 l n) = m ((c : Thread nD τ).loc main_arg2) (ix2 l n) := by
  unfold V; after_results_simp
  pointwise

theorem in3 (c : Dev nD) (l n : Fin 1024) :
    (V m c main_v2 : S1024x1024.Idx → EReal) (ix2 l n) = m ((c : Thread nD τ).loc main_arg3) (ix2 l n) := by
  unfold V; after_results_simp
  pointwise

/-- The memory and both results go batch by batch, the rest stays. -/
theorem idx_facts : ∀ t : Fin grid0.N,
    (win0_0.index t 0 = t.val ∧ win0_0.index t 1 = 0 ∧ win0_0.index t 2 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0 ∧ win0_4.index t 2 = 0)
    ∧ (win0_5.index t 0 = t.val ∧ win0_5.index t 1 = 0 ∧ win0_5.index t 2 = 0) := by decide +kernel

theorem blk0 (c : Dev nD) (t : Fin cfg0.N) (z : Fin 1) (p : Fin 256) (k : Fin 1024) (hb : t.val < 2) :
    (iblk m c 0 t : S1x256x1024.Idx → EReal) (ix3 z p k) = m ((c : Thread nD τ).loc main_arg0) (ix3 ⟨t.val, hb⟩ p k) := by
  rw [← V_main_arg0 m c]
  unfold iblk
  rw [View.read_apply]
  show V m c main_arg0 _ = V m c main_arg0 _
  congr 1
  obtain ⟨e0, e1, e2⟩ := (idx_facts t).1
  have hz := z.isLt
  funext a
  apply Fin.ext
  match a with
  | ⟨0, _⟩ => show win0_0.index t 0 * 1 + 1 * z.val = t.val; omega
  | ⟨1, _⟩ => show win0_0.index t 1 * 256 + 1 * p.val = p.val; omega
  | ⟨2, _⟩ => show win0_0.index t 2 * 1024 + 1 * k.val = k.val; omega

theorem blk1 (c : Dev nD) (t : Fin cfg0.N) (k : Fin 1024) :
    (iblk m c 1 t : S1x1024.Idx → EReal) (ix2 0 k) = m ((c : Thread nD τ).loc main_arg1) (ix1 k) := by
  rw [← in1 m c k]
  unfold iblk
  rw [View.read_apply]
  show V m c main_v0 _ = V m c main_v0 _
  congr 1
  obtain ⟨e0, e1⟩ := (idx_facts t).2.1
  funext a
  apply Fin.ext
  match a with
  | ⟨0, _⟩ => show win0_1.index t 0 * 1 + 1 * 0 = 0; omega
  | ⟨1, _⟩ => show win0_1.index t 1 * 1024 + 1 * k.val = k.val; omega

theorem blk2 (c : Dev nD) (t : Fin cfg0.N) (l n : Fin 1024) :
    (iblk m c 2 t : S1024x1024.Idx → EReal) (ix2 l n) = m ((c : Thread nD τ).loc main_arg2) (ix2 l n) := by
  rw [← in2 m c l n]
  unfold iblk
  rw [View.read_apply]
  show V m c main_v1 _ = V m c main_v1 _
  congr 1
  obtain ⟨e0, e1⟩ := (idx_facts t).2.2.1
  funext a
  apply Fin.ext
  match a with
  | ⟨0, _⟩ => show win0_2.index t 0 * 1024 + 1 * l.val = l.val; omega
  | ⟨1, _⟩ => show win0_2.index t 1 * 1024 + 1 * n.val = n.val; omega

theorem blk3 (c : Dev nD) (t : Fin cfg0.N) (l n : Fin 1024) :
    (iblk m c 3 t : S1024x1024.Idx → EReal) (ix2 l n) = m ((c : Thread nD τ).loc main_arg3) (ix2 l n) := by
  rw [← in3 m c l n]
  unfold iblk
  rw [View.read_apply]
  show V m c main_v2 _ = V m c main_v2 _
  congr 1
  obtain ⟨e0, e1⟩ := (idx_facts t).2.2.2.1
  funext a
  apply Fin.ext
  match a with
  | ⟨0, _⟩ => show win0_3.index t 0 * 1024 + 1 * l.val = l.val; omega
  | ⟨1, _⟩ => show win0_3.index t 1 * 1024 + 1 * n.val = n.val; omega

/-- What a point writes back of the keys. -/
theorem written4 (c : Dev nD) (t : Fin cfg0.N) (hf : (cfg0.win 4).flush t = true) :
    (dats m 0 c).flushed 4 t = ((cfg0.win 4).blk t).view.read (Elt Ideal) (keys m c) := by
  have hN : cfg0.N = 2 := N_0
  have hb : t.val < 2 := by have := t.isLt; omega
  rw [Value.flushed4]
  funext y
  obtain ⟨z, n, p, rfl⟩ : ∃ (z : Fin 1) (n : Fin 1024) (p : Fin 256), y = ix3 z n p := ⟨y 0, y 1, y 2, eq_ix3 y⟩
  rw [View.read_apply]
  obtain ⟨e0, e1, e2⟩ := (idx_facts t).2.2.2.2.1
  have hz := z.isLt
  have e : ((cfg0.win 4).blk t).view.emb (ix3 z n p) = ix3 (⟨t.val, hb⟩ : Fin 2) n p := by
    funext a
    apply Fin.ext
    match a with
    | ⟨0, _⟩ => show win0_4.index t 0 * 1 + 1 * z.val = t.val; omega
    | ⟨1, _⟩ => show win0_4.index t 1 * 1024 + 1 * n.val = n.val; omega
    | ⟨2, _⟩ => show win0_4.index t 2 * 256 + 1 * p.val = p.val; omega
  rw [e]
  show out0_4 _ _ _ _ (ix3 z n p) = _
  rw [out_key]
  simp only [blk0 m c t _ p _ hb, blk1, blk2]
  rfl

/-- And of the values. -/
theorem written5 (c : Dev nD) (t : Fin cfg0.N) (hf : (cfg0.win 5).flush t = true) :
    (dats m 0 c).flushed 5 t = ((cfg0.win 5).blk t).view.read (Elt Ideal) (vals m c) := by
  have hN : cfg0.N = 2 := N_0
  have hb : t.val < 2 := by have := t.isLt; omega
  rw [Value.flushed5]
  funext y
  obtain ⟨z, p, n, rfl⟩ : ∃ (z : Fin 1) (p : Fin 256) (n : Fin 1024), y = ix3 z p n := ⟨y 0, y 1, y 2, eq_ix3 y⟩
  rw [View.read_apply]
  obtain ⟨e0, e1, e2⟩ := (idx_facts t).2.2.2.2.2
  have hz := z.isLt
  have e : ((cfg0.win 5).blk t).view.emb (ix3 z p n) = ix3 (⟨t.val, hb⟩ : Fin 2) p n := by
    funext a
    apply Fin.ext
    match a with
    | ⟨0, _⟩ => show win0_5.index t 0 * 1 + 1 * z.val = t.val; omega
    | ⟨1, _⟩ => show win0_5.index t 1 * 256 + 1 * p.val = p.val; omega
    | ⟨2, _⟩ => show win0_5.index t 2 * 1024 + 1 * n.val = n.val; omega
  rw [e]
  show out0_5 _ _ _ _ (ix3 z p n) = _
  rw [out_val]
  simp only [blk0 m c t _ p _ hb, blk1, blk3]
  rfl

theorem final4 (c : Dev nD) : (dats m 0 c).arrAt 4 cfg0.N = keys m c :=
  (dats m 0 c).arrAt_eq_of_cover 4 (keys m c) (written4 m c) fun i => by
    have hN : cfg0.N = 2 := N_0
    have h0 : (i 0 : Nat) < 2 := (i 0).isLt
    have h1 : (i 1 : Nat) < 1024 := (i 1).isLt
    have h2 : (i 2 : Nat) < 256 := (i 2).isLt
    have hq : (i 0 : Nat) < cfg0.N := by omega
    refine ⟨⟨(i 0 : Nat), hq⟩, (flush0_4 _), ?_⟩
    show i ∈ ((View.whole main_v3_0).slice (win0_4.rect ⟨(i 0 : Nat), hq⟩)).set
    rw [View.set_slice_whole, Rect.mem_set_unit]
    obtain ⟨e0, e1, e2⟩ := (idx_facts ⟨(i 0 : Nat), hq⟩).2.2.2.2.1
    dsimp only at e0 e1 e2
    intro a
    match a with
    | ⟨0, _⟩ => show win0_4.index _ 0 * 1 ≤ (i 0 : Nat) ∧ (i 0 : Nat) < win0_4.index _ 0 * 1 + 1
                rw [e0]; omega
    | ⟨1, _⟩ => show win0_4.index _ 1 * 1024 ≤ (i 1 : Nat) ∧ (i 1 : Nat) < win0_4.index _ 1 * 1024 + 1024
                rw [e1]; omega
    | ⟨2, _⟩ => show win0_4.index _ 2 * 256 ≤ (i 2 : Nat) ∧ (i 2 : Nat) < win0_4.index _ 2 * 256 + 256
                rw [e2]; omega

theorem final5 (c : Dev nD) : (dats m 0 c).arrAt 5 cfg0.N = vals m c :=
  (dats m 0 c).arrAt_eq_of_cover 5 (vals m c) (written5 m c) fun i => by
    have hN : cfg0.N = 2 := N_0
    have h0 : (i 0 : Nat) < 2 := (i 0).isLt
    have h1 : (i 1 : Nat) < 256 := (i 1).isLt
    have h2 : (i 2 : Nat) < 1024 := (i 2).isLt
    have hq : (i 0 : Nat) < cfg0.N := by omega
    refine ⟨⟨(i 0 : Nat), hq⟩, (flush0_5 _), ?_⟩
    show i ∈ ((View.whole main_v3_1).slice (win0_5.rect ⟨(i 0 : Nat), hq⟩)).set
    rw [View.set_slice_whole, Rect.mem_set_unit]
    obtain ⟨e0, e1, e2⟩ := (idx_facts ⟨(i 0 : Nat), hq⟩).2.2.2.2.2
    dsimp only at e0 e1 e2
    intro a
    match a with
    | ⟨0, _⟩ => show win0_5.index _ 0 * 1 ≤ (i 0 : Nat) ∧ (i 0 : Nat) < win0_5.index _ 0 * 1 + 1
                rw [e0]; omega
    | ⟨1, _⟩ => show win0_5.index _ 1 * 256 ≤ (i 1 : Nat) ∧ (i 1 : Nat) < win0_5.index _ 1 * 256 + 256
                rw [e1]; omega
    | ⟨2, _⟩ => show win0_5.index _ 2 * 1024 ≤ (i 2 : Nat) ∧ (i 2 : Nat) < win0_5.index _ 2 * 1024 + 1024
                rw [e2]; omega

end kernel

section reference
open Cert.KvReferenceIdeal Cert.KvReferenceIdeal.Gen

/-- The memory's rows, normalised. -/
def rNorm (x : FVec Ideal S2x256x1024 .f32) (g : FVec Ideal S1024 .f32) : FVec Ideal S2x256x1024 .f32 :=
  mulf (mulf x (broadcastInDim S2x256x1024 ![0, 1, 2] bcast_S2x256x1_S2x256x1024_0_1_2 (Host.rsqrt (addf (Host.divf (broadcastInDim S2x256x1 ![0, 1] bcast_S2x256_S2x256x1_0_1 (Host.reduceAdd (mulf x x) (constant S_ .f32 0x00000000#32) reducesTo_S2x256x1024_S2x256_d2 h_S_)) (broadcastInDim S2x256x1 ![] bcast_S_S2x256x1 (constant S_ .f32 0x44800000#32))) (broadcastInDim S2x256x1 ![] bcast_S_S2x256x1 (constant S_ .f32 0x358637BD#32)))))) (broadcastInDim S2x256x1024 ![0, 1, 2] bcast_S1x1x1024_S2x256x1024_0_1_2 (broadcastInDim S1x1x1024 ![2] bcast_S1024_S1x1x1024_2 g))

/-- The normalised rows against a weight. -/
def rProj (x : FVec Ideal S2x256x1024 .f32) (g : FVec Ideal S1024 .f32) (w : FVec Ideal S1024x1024 .f32) : FVec Ideal S2x256x1024 .f32 :=
  Host.dotGeneral dot_S2x256x1024_S1024x1024_S2x256x1024_2_0_01_1_n_n none (rNorm x g) w

/-- The keys. -/
def rKeys (y : FVec Ideal S2x256x1024 .f32) : FVec Ideal S2x1024x256 .bf16 :=
  truncf .bf16 (transpose S2x1024x256 [0, 2, 1] y transposes_S2x256x1024_S2x1024x256_0_2_1) bitsLt_bf16_f32

/-- The values. -/
def rVals (y : FVec Ideal S2x256x1024 .f32) : FVec Ideal S2x256x1024 .bf16 := truncf .bf16 y bitsLt_bf16_f32

theorem rNorm_apply (x : FVec Ideal S2x256x1024 .f32) (g : FVec Ideal S1024 .f32) (b : Fin 2) (p : Fin 256) (k : Fin 1024) :
    rNorm x g (ix3 b p k) = unit 0x44800000#32 (fun k => x (ix3 b p k)) (fun k => g (ix1 k)) k := by
  pointwise [rNorm, unit, nrm]

theorem rProj_apply (x : FVec Ideal S2x256x1024 .f32) (g : FVec Ideal S1024 .f32) (w : FVec Ideal S1024x1024 .f32) (b : Fin 2) (p : Fin 256) (n : Fin 1024) :
    rProj x g w (ix3 b p n) = proj (fun k => x (ix3 b p k)) (fun k => g (ix1 k)) (fun l j => w (ix2 l j)) n := by
  pointwise [rProj, proj]
  simp only [rNorm_apply]

theorem rKeys_apply (y : FVec Ideal S2x256x1024 .f32) (b : Fin 2) (n : Fin 1024) (p : Fin 256) : rKeys y (ix3 b n p) = y (ix3 b p n) := by
  pointwise [rKeys]

theorem rVals_apply (y : FVec Ideal S2x256x1024 .f32) (b : Fin 2) (p : Fin 256) (n : Fin 1024) : rVals y (ix3 b p n) = y (ix3 b p n) := by
  pointwise [rVals]

/-- The two programs' results are the same arrays. -/
theorem algebraic_kv : Cert.algebraic_KvKernelIdeal_KvReferenceIdeal := by
  intro m ρ m' ρ' _ hagree
  refine ⟨fun c => keys m c, fun c => vals m c, ?_, ?_⟩
  · exact (θ_run Cert.KvKernelIdeal.defs _ _).mono (fun _ h c => ⟨(h c).1.trans (final4 m c), (h c).2.1.trans (final5 m c), (h c).2.2⟩)
      (Cert.KvKernelIdeal.Value.run_blocks (F := Ideal) m ρ)
  · refine (θ_run Cert.KvReferenceIdeal.defs _ _).mono (fun _ h c => ⟨(h c).1.trans ?_, (h c).2.1.trans ?_, (h c).2.2⟩)
      (Cert.KvReferenceIdeal.Value.run (F := Ideal) m' ρ')
    · obtain ⟨h0, h1, h2, h3⟩ := hagree c
      funext i
      obtain ⟨b, n, p, rfl⟩ : ∃ (b : Fin 2) (n : Fin 1024) (p : Fin 256), i = ix3 b n p := ⟨i 0, i 1, i 2, eq_ix3 i⟩
      refine (rKeys_apply (rProj (m' ((c.tc : Thread nD τ).loc main_arg0)) (m' ((c.tc : Thread nD τ).loc main_arg1)) (m' ((c.tc : Thread nD τ).loc main_arg2))) b n p).trans ?_
      rw [rProj_apply]
      unfold keys row
      simp only [h0, h1, h2]
      rfl
    · obtain ⟨h0, h1, h2, h3⟩ := hagree c
      funext i
      obtain ⟨b, p, n, rfl⟩ : ∃ (b : Fin 2) (p : Fin 256) (n : Fin 1024), i = ix3 b p n := ⟨i 0, i 1, i 2, eq_ix3 i⟩
      refine (rVals_apply (rProj (m' ((c.tc : Thread nD τ).loc main_arg0)) (m' ((c.tc : Thread nD τ).loc main_arg1)) (m' ((c.tc : Thread nD τ).loc main_arg3))) b p n).trans ?_
      rw [rProj_apply]
      unfold vals row
      simp only [h0, h1, h3]
      rfl

end reference

end Cert.Proof.Kv
-- ==== Proof.Proj.Rows.lean ====
/-
  ONE BLOCK OF THE INPUT PROJECTIONS, ENTRY BY ENTRY. The body normalises 512 rows, multiplies them by all the columns at once and cuts
  the product up: queries and two keys turned by the rotary tables, values transposed, gates, and the recurrence's columns mixed with the
  row before (the first row's comes from a scratch the body carries from block to block).
-/
module

public import proofs.«01_k».proof.Proof.Mem.Rows
public import proofs.«01_k».proof.Proof.Gen.ProjKernelIdeal.Value
public import Idealize.ShloMosaic.Lib.Pointwise
public import Idealize.ShloMosaic.Lib.Pipeline.ValueKit.Tiles

@[expose] public section

noncomputable section

namespace Cert.Proof.Proj

open Idealize.ShloMosaic Idealize.ShloMosaic.TcCoe Idealize.SL.Sem Cert.ProjKernelIdeal Cert.ProjKernelIdeal.Gen
open Cert.Proof.Mem (unit nrm)

/-- One column of a normalised row against the weight. -/
def dotRow (r g w : Fin 1024 → EReal) : EReal := ∑ l : Fin 1024, unit 0x44800000#32 r g l * w l

theorem rows_apply (x0 : Vec Ideal S1x512x1024 .f32) (x1 : Vec Ideal S1x1024 .f32) (x2 : Vec Ideal S1024x3200 .bf16) (p : Fin 512) (n : Fin 3200) :
    k0_pay3 x0 x1 x2 (ix2 p n) = dotRow (fun k => x0 (ix3 0 p k)) (fun k => x1 (ix2 0 k)) (fun l => x2 (ix2 l n)) := by
  pointwise [k0_pay3, dotRow, unit, nrm]

variable (y : FVec Ideal S512x3200 .f32) (z : Fin 1) (p : Fin 512)

theorem kc_apply (n : Fin 128) : k0_pay12 y (ix3 z p n) = y (ix2 p ⟨512 + n.val, by omega⟩) := by pointwise [k0_pay12]
theorem vc_apply (n : Fin 128) : k0_pay13 y (ix3 z p n) = y (ix2 p ⟨640 + n.val, by omega⟩) := by pointwise [k0_pay13]
theorem vs_apply (n : Fin 128) : k0_pay19 y (ix3 z n p) = y (ix2 p ⟨896 + n.val, by omega⟩) := by pointwise [k0_pay19]
theorem vw_apply (n : Fin 128) : k0_pay27 y (ix3 z n p) = y (ix2 p ⟨1152 + n.val, by omega⟩) := by pointwise [k0_pay27]

/-- A gate. -/
def gate (u : EReal) : EReal := Ideal.div (Ideal.ofBits .f32 0x3F800000#32) (Ideal.ofBits .f32 0x3F800000#32 + Ideal.exp (-u))

theorem gate_apply (n : Fin 32) : k0_pay28 y (ix3 z n p) = gate (y (ix2 p ⟨1280 + n.val, by omega⟩)) := by
  pointwise [k0_pay28, gate]
  rw [sub_eq_add_neg, zero_add]

/-- The recurrence's columns, mixed with the row before. -/
def mixRow (y : FVec Ideal S512x3200 .f32) (before mu : Vec Ideal S1x1792 .f32) (p : Fin 512) (n : Fin 1792) : EReal :=
  y (ix2 p ⟨1408 + n.val, by omega⟩)
    + ((if p.val = 0 then before (ix2 0 n) else y (ix2 ⟨p.val - 1, by omega⟩ ⟨1408 + n.val, by omega⟩)) - y (ix2 p ⟨1408 + n.val, by omega⟩))
      * mu (ix2 0 n)

theorem first_row : ∀ p : Fin 512, IntOp.cmpi CmpIPredicate.eq (BitVec.ofNat 32 p.val) 0#32 = if p.val = 0 then 1#1 else 0#1 := by
  decide +kernel

theorem mix_apply (before mu : Vec Ideal S1x1792 .f32) (n : Fin 1792) :
    k0_pay31 (k0_pay29 y) (iota .tc S512x1792 32 [0] iota_S512x1792_d0_w32) 0#32 before mu (ix2 p n) = mixRow y before mu p n := by
  pointwise [k0_pay31, k0_pay29, mixRow]
  rw [first_row]
  by_cases h : p.val = 0
  · rw [if_pos h, if_pos h]
    rfl
  · rw [if_neg h, if_neg h]
    have e : (⟨(p.val + 512 - 1) % 512, by omega⟩ : Fin 512) = ⟨p.val - 1, by omega⟩ := Fin.ext (by show (p.val + 512 - 1) % 512 = p.val - 1; omega)
    rw [e]
    rfl

theorem r_apply (w : FVec Ideal S512x1792 .f32) (i : IVec S512x1792 32) (b : BitVec 32) (before mu : Vec Ideal S1x1792 .f32) (n : Fin 512) :
    k0_pay32 w i b before mu (ix3 z p n) = k0_pay31 w i b before mu (ix2 p ⟨n.val, by omega⟩) := by pointwise [k0_pay32]
theorem k_apply (w : FVec Ideal S512x1792 .f32) (i : IVec S512x1792 32) (b : BitVec 32) (before mu : Vec Ideal S1x1792 .f32) (n : Fin 512) :
    k0_pay33 w i b before mu (ix3 z p n) = k0_pay31 w i b before mu (ix2 p ⟨512 + n.val, by omega⟩) := by pointwise [k0_pay33]
theorem v_apply (w : FVec Ideal S512x1792 .f32) (i : IVec S512x1792 32) (b : BitVec 32) (before mu : Vec Ideal S1x1792 .f32) (n : Fin 512) :
    k0_pay34 w i b before mu (ix3 z p n) = k0_pay31 w i b before mu (ix2 p ⟨1024 + n.val, by omega⟩) := by pointwise [k0_pay34]
theorem lo_apply (w : FVec Ideal S512x1792 .f32) (i : IVec S512x1792 32) (b : BitVec 32) (before mu : Vec Ideal S1x1792 .f32) (n : Fin 256) :
    k0_pay1 (k0_pay35 w i b before mu) (ix3 z p n) = k0_pay31 w i b before mu (ix2 p ⟨1536 + n.val, by omega⟩) := by pointwise [k0_pay1, k0_pay35]

theorem carry_apply (n : Fin 1792) (q : Fin 8) : k0_pay30 (k0_pay29 y) (ix2 q n) = y (ix2 511 ⟨1408 + n.val, by omega⟩) := by
  pointwise [k0_pay30, k0_pay29]

/-! ## The rotary turn -/

/-- The turn of an entry: the first half of a head by `c` and minus `s` of its partner, the second by `s` of its partner and `c`. -/
def turn {N : Nat} (y : Fin N → EReal) (c s : Fin 32 → EReal) (n : Fin N) : EReal :=
  if n.val % 64 < 32 then
    y n * c ⟨n.val % 32, by omega⟩ - y ⟨(n.val + 32) % N, Nat.mod_lt _ (by have := n.isLt; omega)⟩ * s ⟨n.val % 32, by omega⟩
  else
    y ⟨n.val - 32, by have := n.isLt; omega⟩ * s ⟨n.val % 32, by omega⟩ + y n * c ⟨n.val % 32, by omega⟩

/-- The turn as the body computes it: rows of both tables are four copies, the sine's first halves negated. -/
def turn4 {N : Nat} (y : Fin N → EReal) (c s : Fin 128 → EReal) (n a b : Fin N) : EReal :=
  y n * c ⟨n.val % 128, by omega⟩ + (if n.val % 64 < 32 then y a else y b) * s ⟨n.val % 128, by omega⟩

theorem turn4_eq {N : Nat} (y : Fin N → EReal) (c4 s4 : Fin 128 → EReal) (c s : Fin 32 → EReal) (hN : 64 ∣ N)
    (hc : ∀ k : Fin 128, c4 k = c ⟨k.val % 32, by omega⟩)
    (hs : ∀ k : Fin 128, s4 k = if k.val % 64 < 32 then -s ⟨k.val % 32, by omega⟩ else s ⟨k.val % 32, by omega⟩) (n a b : Fin N)
    (ha : a.val = (n.val + 32) % N) (hb : b.val = (n.val + N - 32) % N) : turn4 y c4 s4 n a b = turn y c s n := by
  unfold turn4 turn
  rw [hc, hs]
  have e : (⟨n.val % 128 % 32, by omega⟩ : Fin 32) = ⟨n.val % 32, by omega⟩ := Fin.ext (by show n.val % 128 % 32 = n.val % 32; omega)
  have h64 : n.val % 128 % 64 = n.val % 64 := by omega
  dsimp only
  rw [h64, e]
  by_cases h : n.val % 64 < 32
  · rw [if_pos h, if_pos h, if_pos h]
    have ea : a = ⟨(n.val + 32) % N, Nat.mod_lt _ (by have := n.isLt; omega)⟩ := Fin.ext ha
    rw [ea, mul_neg, ← sub_eq_add_neg]
  · rw [if_neg h, if_neg h, if_neg h]
    have eb : b = ⟨n.val - 32, by have := n.isLt; omega⟩ := Fin.ext (by
      show b.val = n.val - 32
      have hn := n.isLt
      rw [hb, show n.val + N - 32 = (n.val - 32) + N by omega, Nat.add_mod_right, Nat.mod_eq_of_lt (by omega)])
    rw [eb, add_comm]

theorem half_lane : ∀ n : Fin 512, (IntOp.cmpi CmpIPredicate.slt
    (Scalar.select
      (IntOp.andi
        (IntOp.xori (IntOp.cmpi CmpIPredicate.slt (IntOp.remsi ArithUnit.vector (BitVec.ofNat 32 n.val) 64#32) 0#32)
          (Scalar.cmpi CmpIPredicate.slt 64#32 0#32))
        (IntOp.cmpi CmpIPredicate.ne (IntOp.remsi ArithUnit.vector (BitVec.ofNat 32 n.val) 64#32) 0#32))
      (IntOp.addi (IntOp.remsi ArithUnit.vector (BitVec.ofNat 32 n.val) 64#32) 64#32)
      (IntOp.remsi ArithUnit.vector (BitVec.ofNat 32 n.val) 64#32)) 32#32) = if n.val % 64 < 32 then 1#1 else 0#1 := by
  decide +kernel

/-- Four copies side by side, read at a column. -/
theorem copies (f : Fin 128 → EReal) (n : Fin 512) :
    (if h : n.val < 128 then f ⟨n.val, h⟩
      else if h : n.val - 128 < 128 then f ⟨n.val - 128, h⟩
        else if h : n.val - 128 - 128 < 128 then f ⟨n.val - 128 - 128, h⟩ else f ⟨n.val - 128 - 128 - 128, by omega⟩)
      = f ⟨n.val % 128, by omega⟩ := by
  split_ifs <;> (congr 1; apply Fin.ext; dsimp only; omega)

theorem sel_apply (P : Prop) [Decidable P] (a b : EReal) : Scalar.select (if P then 1#1 else 0#1) a b = if P then a else b := by
  by_cases h : P
  · rw [if_pos h, if_pos h]; rfl
  · rw [if_neg h, if_neg h]; rfl

theorem q_apply (x0 : Vec Ideal S1x512x1024 .f32) (x1 : Vec Ideal S1x1024 .f32) (x2 : Vec Ideal S1024x3200 .bf16)
    (x4 x5 : Vec Ideal S512x128 .f32) (n : Fin 512) :
    k0_pay11 (k0_pay7 x5) (k0_pay8 x0 x1 x2 x4) (iota .tc S512x512 32 [1] iota_S512x512_d1_w32) (k0_pay9 x0 x1 x2) (k0_pay10 x0 x1 x2)
      64#32 0#1 1#32 (ix3 z p n)
      = turn4 (fun n : Fin 512 => k0_pay3 x0 x1 x2 (ix2 p ⟨n.val, by omega⟩)) (fun k => x4 (ix2 p k)) (fun k => x5 (ix2 p k)) n
          ⟨(n.val + 512 - 480) % 512, by omega⟩ ⟨(n.val + 512 - 32) % 512, by omega⟩ * Ideal.ofBits .f32 0x3E38AA3B#32 := by
  pointwise [k0_pay11, k0_pay7, k0_pay8, k0_pay9, k0_pay10, k0_pay6, k0_pay5, k0_pay4]
  rw [half_lane n, sel_apply, copies (fun k => x4 (ix2 p k)) n, copies (fun k => x5 (ix2 p k)) n]
  rfl

theorem sel_period : Scalar.select (Scalar.cmpi CmpIPredicate.eq 64#32 0#32) 1#32 64#32 = 64#32 := by decide

theorem ks_apply (x4 x5 : Vec Ideal S512x128 .f32) (n : Fin 128) :
    k0_pay18 (k0_pay5 x5) (k0_pay15 y (k0_pay4 x4)) (iota .tc S512x128 32 [1] iota_S512x128_d1_w32) (k0_pay16 y) (k0_pay17 y) 64#32 0#32 (ix3 z p n)
      = turn4 (fun n : Fin 128 => y (ix2 p ⟨768 + n.val, by omega⟩)) (fun k => x4 (ix2 p k)) (fun k => x5 (ix2 p k)) n
          ⟨(n.val + 128 - 96) % 128, by omega⟩ ⟨(n.val + 128 - 32) % 128, by omega⟩ := by
  pointwise [k0_pay18, k0_pay15, k0_pay16, k0_pay17, k0_pay14, k0_pay5, k0_pay4]
  simp only [sel_period]
  have := half_lane ⟨n.val, by omega⟩
  dsimp only at this
  rw [this, sel_apply]
  unfold turn4
  simp only [Nat.mod_eq_of_lt n.isLt]

theorem kw_apply (x4 x5 : Vec Ideal S512x128 .f32) (n : Fin 128) :
    k0_pay26 (k0_pay5 x5) (k0_pay21 y (k0_pay4 x4)) (k0_pay22 y) (k0_pay23 y) 64#32 k0_pay24 k0_pay25 (ix3 z p n)
      = turn4 (fun n : Fin 128 => y (ix2 p ⟨1024 + n.val, by omega⟩)) (fun k => x4 (ix2 p k)) (fun k => x5 (ix2 p k)) n
          ⟨(n.val + 128 - 96) % 128, by omega⟩ ⟨(n.val + 128 - 32) % 128, by omega⟩ := by
  pointwise [k0_pay26, k0_pay21, k0_pay22, k0_pay23, k0_pay24, k0_pay25, k0_pay20, k0_pay5, k0_pay4]
  simp only [sel_period]
  have := half_lane ⟨n.val, by omega⟩
  dsimp only at this
  rw [this, sel_apply]
  unfold turn4
  simp only [Nat.mod_eq_of_lt n.isLt]

end Cert.Proof.Proj
-- ==== Proof.Proj.Run.lean ====
/-
  THE INPUT PROJECTIONS' CALL: what each grid point leaves in its blocks, and the twelve arrays the call ends with.
-/
module

public import proofs.«01_k».proof.Proof.Proj.Rows
public import Idealize.ShloMosaic.Lib.Pipeline.ValueKit
public import Idealize.ShloMosaic.Lib.Pipeline.ReadBack
public import Idealize.ShloMosaic.Lib.Pipeline.FrameBody

@[expose] public section

noncomputable section

namespace Cert.Proof.Proj

open Idealize.ShloMosaic Idealize.ShloMosaic.TcCoe Idealize.SL.Sem

/-! ## The results, entry by entry, from the projected rows -/

/-- A projected row's column. -/
def row (x : Fin 2 → Fin 8192 → Fin 1024 → EReal) (g : Fin 1024 → EReal) (w : Fin 1024 → Fin 3096 → EReal) (b : Fin 2) (q : Fin 8192) (n : Fin 3096) : EReal :=
  dotRow (x b q) g (fun l => w l n)

/-- The recurrence's columns mixed with the row before, nothing before the first. -/
def shift (P : Fin 8192 → Fin 3096 → EReal) (mu : Fin 1792 → EReal) (q : Fin 8192) (n : Fin 1792) : EReal :=
  P q ⟨1304 + n.val, by omega⟩
    + ((if q.val = 0 then 0 else P ⟨q.val - 1, by omega⟩ ⟨1304 + n.val, by omega⟩) - P q ⟨1304 + n.val, by omega⟩) * mu n

/-- The gates' rows: 24 gates and 8 rows of padding. -/
def gates (P : Fin 3096 → EReal) (n : Fin 32) : EReal := if h : n.val < 24 then gate (P ⟨1280 + n.val, by omega⟩) else gate 0

open Cert.ProjKernelIdeal Cert.ProjKernelIdeal.Gen

variable (m : (ℓ : Loc nD τ sig) → Buf (Elt Ideal) ℓ)

/-- The weight. -/
def wt (c : Dev nD) (l : Fin 1024) (n : Fin 3096) : EReal := m ((c : Thread nD τ).loc main_arg2) (ix2 l n)

theorem wt_at (c : Dev nD) (l : Fin 1024) (a b : Fin 3096) (h : a.val = b.val) : wt m c l a = wt m c l b := congrArg (wt m c l) (Fin.ext h)

/-- The rotary tables. -/
def cs (c : Dev nD) (q : Fin 8192) (k : Fin 32) : EReal := m ((c : Thread nD τ).loc main_arg4) (ix2 q k)
def sn (c : Dev nD) (q : Fin 8192) (k : Fin 32) : EReal := m ((c : Thread nD τ).loc main_arg5) (ix2 q k)

/-- The projected rows of the call's arguments. -/
def prow (c : Dev nD) (b : Fin 2) (q : Fin 8192) (n : Fin 3096) : EReal :=
  row (fun b q k => m ((c : Thread nD τ).loc main_arg0) (ix3 b q k))
    (fun k => m ((c : Thread nD τ).loc main_arg1) (ix1 k))
    (wt m c) b q n

/-! ## What the call is given -/

theorem in1 (c : Dev nD) (k : Fin 1024) : (V m c main_v11 : S1x1024.Idx → EReal) (ix2 0 k) = m ((c : Thread nD τ).loc main_arg1) (ix1 k) := by
  unfold V
  simp only [List.flatten_cons, List.flatten_nil, List.append_nil, List.cons_append, List.nil_append]
  after_results_simp
  pointwise

theorem in2 (c : Dev nD) (l : Fin 1024) (n : Fin 3200) : (V m c main_v5 : S1024x3200.Idx → EReal) (ix2 l n)
    = if h : n.val < 1304 then wt m c l ⟨n.val, by omega⟩
      else if n.val < 1408 then 0 else wt m c l ⟨n.val - 104, by omega⟩ := by
  unfold V
  simp only [List.flatten_cons, List.flatten_nil, List.append_nil, List.cons_append, List.nil_append]
  after_results_simp
  pointwise
  after_results_simp
  simp only [StableHlo.TRef.toBuf, StableHlo.TRef.ofBuf, cast_eq]
  pointwise
  have z : (FloatOps.sitofp (F := Ideal) FTy.f32 0#32 : EReal) = 0 := by
    show (((0#32 : BitVec 32).toInt : ℝ) : EReal) = 0
    simp
  unfold wt
  by_cases a : n.val < 1304 <;> by_cases b : n.val < 1408 <;>
    simp only [a, b, dite_true, dite_false, if_true, if_false] <;> split_ifs <;>
    first
    | omega
    | exact z
    | exact wt_at m c l _ _ (by dsimp only; omega)
    | exact wt_at m c l _ _ rfl

theorem in3 (c : Dev nD) (k : Fin 1792) : (V m c main_v10 : S1x1792.Idx → EReal) (ix2 0 k) = m ((c : Thread nD τ).loc main_arg3) (ix1 k) := by
  unfold V
  simp only [List.flatten_cons, List.flatten_nil, List.append_nil, List.cons_append, List.nil_append]
  after_results_simp
  pointwise

theorem in4 (c : Dev nD) (q : Fin 8192) (k : Fin 128) : (V m c main_v6 : S8192x128.Idx → EReal) (ix2 q k)
    = cs m c q ⟨k.val % 32, by omega⟩ := by
  unfold V
  simp only [List.flatten_cons, List.flatten_nil, List.append_nil, List.cons_append, List.nil_append]
  after_results_simp
  pointwise
  unfold cs
  split_ifs <;> (congr 2; apply Fin.ext; dsimp only; omega)

theorem in5 (c : Dev nD) (q : Fin 8192) (k : Fin 128) : (V m c main_v9 : S8192x128.Idx → EReal) (ix2 q k)
    = if k.val % 64 < 32 then -sn m c q ⟨k.val % 32, by omega⟩ else sn m c q ⟨k.val % 32, by omega⟩ := by
  unfold V
  simp only [List.flatten_cons, List.flatten_nil, List.append_nil, List.cons_append, List.nil_append]
  after_results_simp
  pointwise
  after_results_simp
  pointwise
  unfold sn
  by_cases hk : k.val % 64 < 32 <;> simp only [hk, if_true, if_false] <;> split_ifs <;>
    first
    | omega
    | (congr 3; apply Fin.ext; dsimp only; omega)
    | (congr 2; apply Fin.ext; dsimp only; omega)

/-! ## Where the blocks lie -/

/-- A block of rows: batch by batch, 512 rows at a time. -/
abbrev IsRow (f : Fin 3 → ℕ) (t : ℕ) : Prop := f 0 = t / 16 ∧ f 1 = t % 16 ∧ f 2 = 0

/-- A block of columns of a transposed result. -/
abbrev IsCol (f : Fin 3 → ℕ) (t : ℕ) : Prop := f 0 = t / 16 ∧ f 1 = 0 ∧ f 2 = t % 16

theorem ins : ∀ t : Fin grid0.N, IsRow (win0_0.index t) t.val ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 = t.val % 16 ∧ win0_4.index t 1 = 0) ∧ (win0_5.index t 0 = t.val % 16 ∧ win0_5.index t 1 = 0) := by decide +kernel

theorem outs : ∀ t : Fin grid0.N, IsRow (win0_6.index t) t.val ∧ IsRow (win0_7.index t) t.val ∧ IsRow (win0_8.index t) t.val
    ∧ IsRow (win0_9.index t) t.val ∧ IsCol (win0_10.index t) t.val ∧ IsRow (win0_11.index t) t.val ∧ IsCol (win0_12.index t) t.val
    ∧ IsCol (win0_13.index t) t.val ∧ IsRow (win0_14.index t) t.val ∧ IsRow (win0_15.index t) t.val ∧ IsRow (win0_16.index t) t.val
    ∧ IsRow (win0_17.index t) t.val := by decide +kernel

/-- A point's batch. -/
def bat (t : Fin cfg0.N) : Fin 2 := ⟨t.val / 16, by have hN : cfg0.N = 32 := N_0; have := t.isLt; omega⟩

/-- A point's row. -/
def rowAt (t : Fin cfg0.N) (p : Fin 512) : Fin 8192 := ⟨512 * (t.val % 16) + p.val, by omega⟩

theorem at3 {A B C : ℕ} (i : (⟨3, ![A, B, C]⟩ : Shape).Idx) (a : Fin A) (b : Fin B) (c : Fin C) (h0 : (i 0 : ℕ) = a.val)
    (h1 : (i 1 : ℕ) = b.val) (h2 : (i 2 : ℕ) = c.val) : i = ix3 a b c := by
  funext k
  apply Fin.ext
  match k with
  | ⟨0, _⟩ => exact h0
  | ⟨1, _⟩ => exact h1
  | ⟨2, _⟩ => exact h2

theorem at2 {A B : ℕ} (i : (⟨2, ![A, B]⟩ : Shape).Idx) (a : Fin A) (b : Fin B) (h0 : (i 0 : ℕ) = a.val) (h1 : (i 1 : ℕ) = b.val) : i = ix2 a b := by
  funext k
  apply Fin.ext
  match k with
  | ⟨0, _⟩ => exact h0
  | ⟨1, _⟩ => exact h1

theorem blk0 (c : Dev nD) (t : Fin cfg0.N) (z : Fin 1) (p : Fin 512) (k : Fin 1024) :
    (iblk m c 0 t : S1x512x1024.Idx → EReal) (ix3 z p k) = m ((c : Thread nD τ).loc main_arg0) (ix3 (bat t) (rowAt t p) k) := by
  rw [← V_main_arg0 m c]
  unfold iblk
  rw [View.read_apply]
  obtain ⟨e0, e1, e2⟩ := (ins t).1
  have hz := z.isLt
  exact congrArg (V m c main_arg0) (at3 _ (bat t) (rowAt t p) k (by show win0_0.index t 0 * 1 + 1 * z.val = t.val / 16; omega)
    (by show win0_0.index t 1 * 512 + 1 * p.val = 512 * (t.val % 16) + p.val; omega) (by show win0_0.index t 2 * 1024 + 1 * k.val = k.val; omega))

theorem blk1 (c : Dev nD) (t : Fin cfg0.N) (k : Fin 1024) :
    (iblk m c 1 t : S1x1024.Idx → EReal) (ix2 0 k) = m ((c : Thread nD τ).loc main_arg1) (ix1 k) := by
  rw [← in1 m c k]
  unfold iblk
  rw [View.read_apply]
  obtain ⟨e0, e1⟩ := (ins t).2.1
  exact congrArg (V m c main_v11) (at2 _ 0 k (by show win0_1.index t 0 * 1 + 1 * 0 = 0; omega) (by show win0_1.index t 1 * 1024 + 1 * k.val = k.val; omega))

theorem blk2 (c : Dev nD) (t : Fin cfg0.N) (l : Fin 1024) (n : Fin 3200) :
    (iblk m c 2 t : S1024x3200.Idx → EReal) (ix2 l n) = if h : n.val < 1304 then wt m c l ⟨n.val, by omega⟩
      else if n.val < 1408 then 0 else wt m c l ⟨n.val - 104, by omega⟩ := by
  refine Eq.trans ?_ (in2 m c l n)
  unfold iblk
  rw [View.read_apply]
  obtain ⟨e0, e1⟩ := (ins t).2.2.1
  exact congrArg (V m c main_v5) (at2 _ l n (by show win0_2.index t 0 * 1024 + 1 * l.val = l.val; omega) (by show win0_2.index t 1 * 3200 + 1 * n.val = n.val; omega))

theorem blk3 (c : Dev nD) (t : Fin cfg0.N) (k : Fin 1792) :
    (iblk m c 3 t : S1x1792.Idx → EReal) (ix2 0 k) = m ((c : Thread nD τ).loc main_arg3) (ix1 k) := by
  rw [← in3 m c k]
  unfold iblk
  rw [View.read_apply]
  obtain ⟨e0, e1⟩ := (ins t).2.2.2.1
  exact congrArg (V m c main_v10) (at2 _ 0 k (by show win0_3.index t 0 * 1 + 1 * 0 = 0; omega) (by show win0_3.index t 1 * 1792 + 1 * k.val = k.val; omega))

theorem blk4 (c : Dev nD) (t : Fin cfg0.N) (p : Fin 512) (k : Fin 128) :
    (iblk m c 4 t : S512x128.Idx → EReal) (ix2 p k) = cs m c (rowAt t p) ⟨k.val % 32, by omega⟩ := by
  rw [← in4 m c (rowAt t p) k]
  unfold iblk
  rw [View.read_apply]
  obtain ⟨e0, e1⟩ := (ins t).2.2.2.2.1
  exact congrArg (V m c main_v6) (at2 _ (rowAt t p) k (by show win0_4.index t 0 * 512 + 1 * p.val = 512 * (t.val % 16) + p.val; omega)
    (by show win0_4.index t 1 * 128 + 1 * k.val = k.val; omega))

theorem blk5 (c : Dev nD) (t : Fin cfg0.N) (p : Fin 512) (k : Fin 128) :
    (iblk m c 5 t : S512x128.Idx → EReal) (ix2 p k)
      = if k.val % 64 < 32 then -sn m c (rowAt t p) ⟨k.val % 32, by omega⟩ else sn m c (rowAt t p) ⟨k.val % 32, by omega⟩ := by
  rw [← in5 m c (rowAt t p) k]
  unfold iblk
  rw [View.read_apply]
  obtain ⟨e0, e1⟩ := (ins t).2.2.2.2.2
  exact congrArg (V m c main_v9) (at2 _ (rowAt t p) k (by show win0_5.index t 0 * 512 + 1 * p.val = 512 * (t.val % 16) + p.val; omega)
    (by show win0_5.index t 1 * 128 + 1 * k.val = k.val; omega))

/-! ## A point's product -/

/-- A point's rows against all the columns. -/
abbrev yv (c : Dev nD) (t : Fin cfg0.N) : FVec Ideal S512x3200 .f32 := k0_pay3 (iblk m c 0 t) (iblk m c 1 t) (iblk m c 2 t)

theorem yv_lo (c : Dev nD) (t : Fin cfg0.N) (p : Fin 512) (n : ℕ) (h : n < 1304) :
    yv m c t (ix2 p ⟨n, by omega⟩) = prow m c (bat t) (rowAt t p) ⟨n, by omega⟩ := by
  refine (rows_apply _ _ _ p _).trans ?_
  simp only [blk0, blk1, blk2, dif_pos h]
  rfl

theorem yv_gap (c : Dev nD) (t : Fin cfg0.N) (p : Fin 512) (n : ℕ) (h : ¬ n < 1304) (h' : n < 1408) :
    yv m c t (ix2 p ⟨n, by omega⟩) = 0 := by
  refine (rows_apply _ _ _ p _).trans ?_
  simp only [blk0, blk1, blk2, dif_neg h, if_pos h', dotRow, mul_zero, Finset.sum_const_zero]

theorem yv_hi (c : Dev nD) (t : Fin cfg0.N) (p : Fin 512) (n : Fin 1792) :
    yv m c t (ix2 p ⟨1408 + n.val, by omega⟩) = prow m c (bat t) (rowAt t p) ⟨1304 + n.val, by omega⟩ := by
  refine (rows_apply _ _ _ p _).trans ?_
  have h : ¬ 1408 + n.val < 1304 := by omega
  have h' : ¬ 1408 + n.val < 1408 := by omega
  have e : (⟨1408 + n.val - 104, by omega⟩ : Fin 3096) = ⟨1304 + n.val, by omega⟩ := Fin.ext (by show 1408 + n.val - 104 = 1304 + n.val; omega)
  simp only [blk0, blk1, blk2, dif_neg h, if_neg h', e]
  rfl

/-! ## The row carried from the block before -/

theorem carried (c : Dev nD) (t : Fin cfg0.N) :
    (outsAt0 m c t.val t.isLt).2.2.2.2.2.2.2.2.2.2.2.2 = k0_pay30 (k0_pay29 (yv m c t)) := by
  by_cases h0 : t.val % 16 = 0
  · rw [outsAt0_A m c t h0]; frame_out
  · rw [outsAt0_B m c t h0]; frame_out

/-- The first row of the emptied scratch. -/
abbrev fresh : Vec Ideal S1x1792 .f32 :=
  (View.whole cc0_scratch0).readCov [⟨Rect.unit ![0, 0] ![8, 1792] inb_S8x1792_S8x1792_0_0, (k0_pay2 : FVec Ideal S8x1792 .f32)⟩]
    (Rect.unit ![0, 0] ![1, 1792] inb_S8x1792_S1x1792_0_0).toLoadRect

/-- The first row of the scratch as a later point finds it. -/
abbrev kept (x : Vec Ideal S8x1792 .f32) : Vec Ideal S1x1792 .f32 :=
  View.ld (View.read (Elt Ideal) (View.whole cc0_scratch0) ((Memref.isWhole_whole cc0_scratch0).unread x))
    (Rect.unit ![0, 0] ![1, 1792] inb_S8x1792_S1x1792_0_0)

theorem fresh_apply (n : Fin 1792) : fresh (ix2 0 n) = (0 : EReal) := by
  refine (congrFun (View.readCov_fill (Val := Elt Ideal) (View.whole cc0_scratch0) (off := ![0, 0]) inb_S8x1792_S8x1792_0_0
    (k0_pay2 : FVec Ideal S8x1792 .f32) [] (Rect.unit ![0, 0] ![1, 1792] inb_S8x1792_S1x1792_0_0) (by decide)) (ix2 0 n)).trans ?_
  pointwise [k0_pay2]

theorem kept_apply (x : Vec Ideal S8x1792 .f32) (n : Fin 1792) : kept x (ix2 0 n) = x (ix2 0 n) := by
  unfold kept
  simp only [read_unread_whole]
  pointwise

/-- The row before a point's first. -/
def before (c : Dev nD) (t : Fin cfg0.N) : Vec Ideal S1x1792 .f32 :=
  if t.val % 16 = 0 then fresh else kept (outsAt0 m c (t.val - 1) (Nat.lt_of_le_of_lt (Nat.sub_le _ _) t.isLt)).2.2.2.2.2.2.2.2.2.2.2.2

theorem before_apply (c : Dev nD) (t : Fin cfg0.N) (n : Fin 1792) :
    before m c t (ix2 0 n) = if t.val % 16 = 0 then 0
      else prow m c (bat t) ⟨512 * (t.val % 16) - 1, by omega⟩ ⟨1304 + n.val, by omega⟩ := by
  unfold before
  by_cases h0 : t.val % 16 = 0
  · rw [if_pos h0, if_pos h0, fresh_apply]
  · rw [if_neg h0, if_neg h0, kept_apply, carried m c ⟨t.val - 1, Nat.lt_of_le_of_lt (Nat.sub_le _ _) t.isLt⟩, carry_apply, yv_hi]
    congr 1
    · apply Fin.ext; show (t.val - 1) / 16 = t.val / 16; omega
    · apply Fin.ext; show 512 * ((t.val - 1) % 16) + 511 = 512 * (t.val % 16) - 1; omega

theorem mix_eq (c : Dev nD) (t : Fin cfg0.N) (p : Fin 512) (n : Fin 1792) :
    mixRow (yv m c t) (before m c t) (iblk m c 3 t) p n
      = shift (prow m c (bat t)) (fun n => m ((c : Thread nD τ).loc main_arg3) (ix1 n)) (rowAt t p) n := by
  unfold mixRow shift
  rw [yv_hi, blk3, before_apply, yv_hi]
  have hq : (rowAt t p).val = 512 * (t.val % 16) + p.val := rfl
  by_cases hp : p.val = 0
  · by_cases h0 : t.val % 16 = 0
    · rw [if_pos hp, if_pos h0, if_pos (by omega)]
    · rw [if_pos hp, if_neg h0, if_neg (by omega)]
      have e : (⟨512 * (t.val % 16) - 1, by omega⟩ : Fin 8192) = ⟨(rowAt t p).val - 1, by omega⟩ := Fin.ext (by show 512 * (t.val % 16) - 1 = (rowAt t p).val - 1; omega)
      rw [e]
  · rw [if_neg hp, if_neg (by omega)]
    have e : rowAt t ⟨p.val - 1, by omega⟩ = ⟨(rowAt t p).val - 1, by omega⟩ := Fin.ext (by show 512 * (t.val % 16) + (p.val - 1) = (rowAt t p).val - 1; omega)
    rw [e]

end Cert.Proof.Proj
-- ==== Proof.Proj.Out.lean ====
/-
  THE INPUT PROJECTIONS' CALL: the twelve arrays it ends with, as functions of the arguments.
-/
module

public import proofs.«01_k».proof.Proof.Proj.Run

@[expose] public section

noncomputable section

namespace Cert.Proof.Proj

open Idealize.ShloMosaic Idealize.ShloMosaic.TcCoe Idealize.SL.Sem

/-- Columns from `o` on. -/
def col (P : Fin 3096 → EReal) (o N : ℕ) (h : o + N ≤ 3096) (n : Fin N) : EReal := P ⟨o + n.val, by omega⟩

/-- Columns from `o` on, turned by the row's angles. -/
def rotated (P : Fin 3096 → EReal) (o N : ℕ) (h : o + N ≤ 3096) (c s : Fin 32 → EReal) (n : Fin N) : EReal := turn (col P o N h) c s n

/-- The mixed columns from `o` on. -/
def mixed (P : Fin 8192 → Fin 3096 → EReal) (mu : Fin 1792 → EReal) (o N : ℕ) (h : o + N ≤ 1792) (q : Fin 8192) (n : Fin N) : EReal :=
  shift P mu q ⟨o + n.val, by omega⟩

open Cert.ProjKernelIdeal Cert.ProjKernelIdeal.Gen

variable (m : (ℓ : Loc nD τ sig) → Buf (Elt Ideal) ℓ)

/-- The mixing weights. -/
def mul (c : Dev nD) (n : Fin 1792) : EReal := m ((c : Thread nD τ).loc main_arg3) (ix1 n)

/-- The queries, turned and scaled. -/
def queries (c : Dev nD) : Buf (Elt Ideal) ((c : Thread nD τ).loc main_v12_0) := fun i => rotated (prow m c (i 0) (i 1)) 0 512 (by omega) (cs m c (i 1)) (sn m c (i 1)) (i 2) * Ideal.ofBits .f32 0x3E38AA3B#32
/-- The compression branch's keys and values. -/
def keysC (c : Dev nD) : Buf (Elt Ideal) ((c : Thread nD τ).loc main_v12_1) := fun i => col (prow m c (i 0) (i 1)) 512 128 (by omega) (i 2)
def valuesC (c : Dev nD) : Buf (Elt Ideal) ((c : Thread nD τ).loc main_v12_2) := fun i => col (prow m c (i 0) (i 1)) 640 128 (by omega) (i 2)
/-- The selected branch's keys, turned, and its values, transposed. -/
def keysS (c : Dev nD) : Buf (Elt Ideal) ((c : Thread nD τ).loc main_v12_3) := fun i => rotated (prow m c (i 0) (i 1)) 768 128 (by omega) (cs m c (i 1)) (sn m c (i 1)) (i 2)
def valuesS (c : Dev nD) : Buf (Elt Ideal) ((c : Thread nD τ).loc main_v12_4) := fun i => col (prow m c (i 0) (i 2)) 896 128 (by omega) (i 1)
/-- The window branch's keys, turned, and its values, transposed. -/
def keysW (c : Dev nD) : Buf (Elt Ideal) ((c : Thread nD τ).loc main_v12_5) := fun i => rotated (prow m c (i 0) (i 1)) 1024 128 (by omega) (cs m c (i 1)) (sn m c (i 1)) (i 2)
def valuesW (c : Dev nD) : Buf (Elt Ideal) ((c : Thread nD τ).loc main_v12_6) := fun i => col (prow m c (i 0) (i 2)) 1152 128 (by omega) (i 1)
/-- The gates, transposed. -/
def gatesT (c : Dev nD) : Buf (Elt Ideal) ((c : Thread nD τ).loc main_v12_7) := fun i => gates (prow m c (i 0) (i 2)) (i 1)
/-- The recurrence's inputs. -/
def mixR (c : Dev nD) : Buf (Elt Ideal) ((c : Thread nD τ).loc main_v12_8) := fun i => mixed (prow m c (i 0)) (mul m c) 0 512 (by omega) (i 1) (i 2)
def mixK (c : Dev nD) : Buf (Elt Ideal) ((c : Thread nD τ).loc main_v12_9) := fun i => mixed (prow m c (i 0)) (mul m c) 512 512 (by omega) (i 1) (i 2)
def mixV (c : Dev nD) : Buf (Elt Ideal) ((c : Thread nD τ).loc main_v12_10) := fun i => mixed (prow m c (i 0)) (mul m c) 1024 512 (by omega) (i 1) (i 2)
def mixLow (c : Dev nD) : Buf (Elt Ideal) ((c : Thread nD τ).loc main_v12_11) := fun i => mixed (prow m c (i 0)) (mul m c) 1536 256 (by omega) (i 1) (i 2)

/-! ## What a point leaves -/

theorem after6 (c : Dev nD) (t : Fin cfg0.N) : (dats m 0 c).after 6 t = k0_pay11 (k0_pay7 (iblk m c 5 t)) (k0_pay8 (iblk m c 0 t) (iblk m c 1 t) (iblk m c 2 t) (iblk m c 4 t))
    (iota .tc S512x512 32 [1] iota_S512x512_d1_w32) (k0_pay9 (iblk m c 0 t) (iblk m c 1 t) (iblk m c 2 t))
    (k0_pay10 (iblk m c 0 t) (iblk m c 1 t) (iblk m c 2 t)) 64#32 0#1 1#32 := by
  by_cases h0 : t.val % 16 = 0
  · rw [after0_6, outsAt0_A m c t h0]; frame_out
  · rw [after0_6, outsAt0_B m c t h0]; frame_out

theorem after7 (c : Dev nD) (t : Fin cfg0.N) : (dats m 0 c).after 7 t = k0_pay12 (yv m c t) := by
  by_cases h0 : t.val % 16 = 0
  · rw [after0_7, outsAt0_A m c t h0]; frame_out
  · rw [after0_7, outsAt0_B m c t h0]; frame_out

theorem after8 (c : Dev nD) (t : Fin cfg0.N) : (dats m 0 c).after 8 t = k0_pay13 (yv m c t) := by
  by_cases h0 : t.val % 16 = 0
  · rw [after0_8, outsAt0_A m c t h0]; frame_out
  · rw [after0_8, outsAt0_B m c t h0]; frame_out

theorem after9 (c : Dev nD) (t : Fin cfg0.N) : (dats m 0 c).after 9 t = k0_pay18 (k0_pay5 (iblk m c 5 t)) (k0_pay15 (yv m c t) (k0_pay4 (iblk m c 4 t)))
    (iota .tc S512x128 32 [1] iota_S512x128_d1_w32) (k0_pay16 (yv m c t)) (k0_pay17 (yv m c t)) 64#32 0#32 := by
  by_cases h0 : t.val % 16 = 0
  · rw [after0_9, outsAt0_A m c t h0]; frame_out
  · rw [after0_9, outsAt0_B m c t h0]; frame_out

theorem after10 (c : Dev nD) (t : Fin cfg0.N) : (dats m 0 c).after 10 t = k0_pay19 (yv m c t) := by
  by_cases h0 : t.val % 16 = 0
  · rw [after0_10, outsAt0_A m c t h0]; frame_out
  · rw [after0_10, outsAt0_B m c t h0]; frame_out

theorem after11 (c : Dev nD) (t : Fin cfg0.N) : (dats m 0 c).after 11 t = k0_pay26 (k0_pay5 (iblk m c 5 t)) (k0_pay21 (yv m c t) (k0_pay4 (iblk m c 4 t)))
    (k0_pay22 (yv m c t)) (k0_pay23 (yv m c t)) 64#32 k0_pay24 k0_pay25 := by
  by_cases h0 : t.val % 16 = 0
  · rw [after0_11, outsAt0_A m c t h0]; frame_out
  · rw [after0_11, outsAt0_B m c t h0]; frame_out

theorem after12 (c : Dev nD) (t : Fin cfg0.N) : (dats m 0 c).after 12 t = k0_pay27 (yv m c t) := by
  by_cases h0 : t.val % 16 = 0
  · rw [after0_12, outsAt0_A m c t h0]; frame_out
  · rw [after0_12, outsAt0_B m c t h0]; frame_out

theorem after13 (c : Dev nD) (t : Fin cfg0.N) : (dats m 0 c).after 13 t = k0_pay28 (yv m c t) := by
  by_cases h0 : t.val % 16 = 0
  · rw [after0_13, outsAt0_A m c t h0]; frame_out
  · rw [after0_13, outsAt0_B m c t h0]; frame_out

theorem after14 (c : Dev nD) (t : Fin cfg0.N) : (dats m 0 c).after 14 t = k0_pay32 (k0_pay29 (yv m c t)) (iota .tc S512x1792 32 [0] iota_S512x1792_d0_w32) 0#32 (before m c t) (iblk m c 3 t) := by
  by_cases h0 : t.val % 16 = 0
  · rw [after0_14, outsAt0_A m c t h0, before, if_pos h0]; frame_out
  · rw [after0_14, outsAt0_B m c t h0, before, if_neg h0]; frame_out; rfl

theorem after15 (c : Dev nD) (t : Fin cfg0.N) : (dats m 0 c).after 15 t = k0_pay33 (k0_pay29 (yv m c t)) (iota .tc S512x1792 32 [0] iota_S512x1792_d0_w32) 0#32 (before m c t) (iblk m c 3 t) := by
  by_cases h0 : t.val % 16 = 0
  · rw [after0_15, outsAt0_A m c t h0, before, if_pos h0]; frame_out
  · rw [after0_15, outsAt0_B m c t h0, before, if_neg h0]; frame_out; rfl

theorem after16 (c : Dev nD) (t : Fin cfg0.N) : (dats m 0 c).after 16 t = k0_pay34 (k0_pay29 (yv m c t)) (iota .tc S512x1792 32 [0] iota_S512x1792_d0_w32) 0#32 (before m c t) (iblk m c 3 t) := by
  by_cases h0 : t.val % 16 = 0
  · rw [after0_16, outsAt0_A m c t h0, before, if_pos h0]; frame_out
  · rw [after0_16, outsAt0_B m c t h0, before, if_neg h0]; frame_out; rfl

theorem after17 (c : Dev nD) (t : Fin cfg0.N) : (dats m 0 c).after 17 t = k0_pay1 (k0_pay35 (k0_pay29 (yv m c t)) (iota .tc S512x1792 32 [0] iota_S512x1792_d0_w32) 0#32 (before m c t) (iblk m c 3 t)) := by
  by_cases h0 : t.val % 16 = 0
  · rw [after0_17, outsAt0_A m c t h0, before, if_pos h0]; frame_out
  · rw [after0_17, outsAt0_B m c t h0, before, if_neg h0]; frame_out; rfl

/-- A block's entry, rows and columns, in its array. -/
theorem rowOf (f : Fin 3 → ℕ) (t : Fin cfg0.N) (h : IsRow f t.val) (N : ℕ) (z : Fin 1) (p : Fin 512) (n : Fin N) :
    f 0 * 1 + 1 * z.val = (bat t).val ∧ f 1 * 512 + 1 * p.val = (rowAt t p).val ∧ f 2 * N + 1 * n.val = n.val := by
  obtain ⟨e0, e1, e2⟩ := h
  rw [e0, e1, e2]
  have hz := z.isLt
  refine ⟨?_, ?_, ?_⟩
  · show t.val / 16 * 1 + 1 * z.val = t.val / 16; omega
  · show t.val % 16 * 512 + 1 * p.val = 512 * (t.val % 16) + p.val; omega
  · omega

theorem colOf (f : Fin 3 → ℕ) (t : Fin cfg0.N) (h : IsCol f t.val) (N : ℕ) (z : Fin 1) (n : Fin N) (p : Fin 512) :
    f 0 * 1 + 1 * z.val = (bat t).val ∧ f 1 * N + 1 * n.val = n.val ∧ f 2 * 512 + 1 * p.val = (rowAt t p).val := by
  obtain ⟨e0, e1, e2⟩ := h
  rw [e0, e1, e2]
  have hz := z.isLt
  refine ⟨?_, ?_, ?_⟩
  · show t.val / 16 * 1 + 1 * z.val = t.val / 16; omega
  · omega
  · show t.val % 16 * 512 + 1 * p.val = 512 * (t.val % 16) + p.val; omega

/-- A point's columns below the padding. -/
theorem yv_col (c : Dev nD) (t : Fin cfg0.N) (p : Fin 512) (o N : ℕ) (h : o + N ≤ 1304) (n : Fin N) :
    yv m c t (ix2 p ⟨o + n.val, by omega⟩) = col (prow m c (bat t) (rowAt t p)) o N (by omega) n := yv_lo m c t p _ (by omega)

theorem turned (c : Dev nD) (t : Fin cfg0.N) (p : Fin 512) (o N : ℕ) (h : o + N ≤ 1304) (hN : 64 ∣ N) (y : Fin N → EReal)
    (hy : ∀ n, y n = col (prow m c (bat t) (rowAt t p)) o N (by omega) n) (n a b : Fin N)
    (ha : a.val = (n.val + 32) % N) (hb : b.val = (n.val + N - 32) % N) :
    turn4 y (fun k => (iblk m c 4 t : S512x128.Idx → EReal) (ix2 p k)) (fun k => (iblk m c 5 t : S512x128.Idx → EReal) (ix2 p k)) n a b
      = rotated (prow m c (bat t) (rowAt t p)) o N (by omega) (cs m c (rowAt t p)) (sn m c (rowAt t p)) n := by
  rw [turn4_eq y _ _ (cs m c (rowAt t p)) (sn m c (rowAt t p)) hN (blk4 m c t p) (blk5 m c t p) n a b ha hb]
  have e : y = col (prow m c (bat t) (rowAt t p)) o N (by omega) := funext hy
  rw [e]
  rfl

theorem gated (c : Dev nD) (t : Fin cfg0.N) (p : Fin 512) (n : Fin 32) :
    gate (yv m c t (ix2 p ⟨1280 + n.val, by omega⟩)) = gates (prow m c (bat t) (rowAt t p)) n := by
  unfold gates
  by_cases h : n.val < 24
  · rw [dif_pos h, yv_lo m c t p (1280 + n.val) (by omega)]
  · rw [dif_neg h, yv_gap m c t p (1280 + n.val) (by omega) (by omega)]

/-! ## The arrays -/

theorem final6 (c : Dev nD) : (dats m 0 c).arrAt 6 cfg0.N = queries m c := by
  refine (dats m 0 c).arrAt_eq_of_covers 6 _ (by decide +kernel) fun t hf y => ?_
  blk_simp
  obtain ⟨z, p, n, rfl⟩ : ∃ (z : Fin 1) (p : Fin 512) (n : Fin 512), y = ix3 z p n := ⟨y 0, y 1, y 2, eq_ix3 y⟩
  have e := rowOf (win0_6.index t) t (outs t).1 512 z p n
  refine Eq.trans ?_ (congrArg (queries m c) (at3 _ (bat t) (rowAt t p) n e.1 e.2.1 e.2.2)).symm
  rw [after6]
  refine (q_apply z p _ _ _ _ _ n).trans (congrArg (· * Ideal.ofBits .f32 0x3E38AA3B#32) (turned m c t p 0 512 (by omega) (by omega) _ (fun k => ?_) n _ _ (by dsimp only; omega) rfl))
  rw [← yv_col m c t p 0 512 (by omega) k]
  exact congrArg (fun j => yv m c t (ix2 p j)) (Fin.ext (Nat.zero_add _).symm)

theorem final7 (c : Dev nD) : (dats m 0 c).arrAt 7 cfg0.N = keysC m c := by
  refine (dats m 0 c).arrAt_eq_of_covers 7 _ (by decide +kernel) fun t hf y => ?_
  blk_simp
  obtain ⟨z, p, n, rfl⟩ : ∃ (z : Fin 1) (p : Fin 512) (n : Fin 128), y = ix3 z p n := ⟨y 0, y 1, y 2, eq_ix3 y⟩
  have e := rowOf (win0_7.index t) t (outs t).2.1 128 z p n
  refine Eq.trans ?_ (congrArg (keysC m c) (at3 _ (bat t) (rowAt t p) n e.1 e.2.1 e.2.2)).symm
  rw [after7]
  exact (kc_apply (yv m c t) z p n).trans (yv_col m c t p 512 128 (by omega) n)

theorem final8 (c : Dev nD) : (dats m 0 c).arrAt 8 cfg0.N = valuesC m c := by
  refine (dats m 0 c).arrAt_eq_of_covers 8 _ (by decide +kernel) fun t hf y => ?_
  blk_simp
  obtain ⟨z, p, n, rfl⟩ : ∃ (z : Fin 1) (p : Fin 512) (n : Fin 128), y = ix3 z p n := ⟨y 0, y 1, y 2, eq_ix3 y⟩
  have e := rowOf (win0_8.index t) t (outs t).2.2.1 128 z p n
  refine Eq.trans ?_ (congrArg (valuesC m c) (at3 _ (bat t) (rowAt t p) n e.1 e.2.1 e.2.2)).symm
  rw [after8]
  exact (vc_apply (yv m c t) z p n).trans (yv_col m c t p 640 128 (by omega) n)

theorem final9 (c : Dev nD) : (dats m 0 c).arrAt 9 cfg0.N = keysS m c := by
  refine (dats m 0 c).arrAt_eq_of_covers 9 _ (by decide +kernel) fun t hf y => ?_
  blk_simp
  obtain ⟨z, p, n, rfl⟩ : ∃ (z : Fin 1) (p : Fin 512) (n : Fin 128), y = ix3 z p n := ⟨y 0, y 1, y 2, eq_ix3 y⟩
  have e := rowOf (win0_9.index t) t (outs t).2.2.2.1 128 z p n
  refine Eq.trans ?_ (congrArg (keysS m c) (at3 _ (bat t) (rowAt t p) n e.1 e.2.1 e.2.2)).symm
  rw [after9]
  exact (ks_apply (yv m c t) z p _ _ n).trans (turned m c t p 768 128 (by omega) (by omega) _ (yv_col m c t p 768 128 (by omega)) n _ _ (by dsimp only; omega) rfl)

theorem final10 (c : Dev nD) : (dats m 0 c).arrAt 10 cfg0.N = valuesS m c := by
  refine (dats m 0 c).arrAt_eq_of_covers 10 _ (by decide +kernel) fun t hf y => ?_
  blk_simp
  obtain ⟨z, n, p, rfl⟩ : ∃ (z : Fin 1) (n : Fin 128) (p : Fin 512), y = ix3 z n p := ⟨y 0, y 1, y 2, eq_ix3 y⟩
  have e := colOf (win0_10.index t) t (outs t).2.2.2.2.1 128 z n p
  refine Eq.trans ?_ (congrArg (valuesS m c) (at3 _ (bat t) n (rowAt t p) e.1 e.2.1 e.2.2)).symm
  rw [after10]
  exact (vs_apply (yv m c t) z p n).trans (yv_col m c t p 896 128 (by omega) n)

theorem final11 (c : Dev nD) : (dats m 0 c).arrAt 11 cfg0.N = keysW m c := by
  refine (dats m 0 c).arrAt_eq_of_covers 11 _ (by decide +kernel) fun t hf y => ?_
  blk_simp
  obtain ⟨z, p, n, rfl⟩ : ∃ (z : Fin 1) (p : Fin 512) (n : Fin 128), y = ix3 z p n := ⟨y 0, y 1, y 2, eq_ix3 y⟩
  have e := rowOf (win0_11.index t) t (outs t).2.2.2.2.2.1 128 z p n
  refine Eq.trans ?_ (congrArg (keysW m c) (at3 _ (bat t) (rowAt t p) n e.1 e.2.1 e.2.2)).symm
  rw [after11]
  exact (kw_apply (yv m c t) z p _ _ n).trans (turned m c t p 1024 128 (by omega) (by omega) _ (yv_col m c t p 1024 128 (by omega)) n _ _ (by dsimp only; omega) rfl)

theorem final12 (c : Dev nD) : (dats m 0 c).arrAt 12 cfg0.N = valuesW m c := by
  refine (dats m 0 c).arrAt_eq_of_covers 12 _ (by decide +kernel) fun t hf y => ?_
  blk_simp
  obtain ⟨z, n, p, rfl⟩ : ∃ (z : Fin 1) (n : Fin 128) (p : Fin 512), y = ix3 z n p := ⟨y 0, y 1, y 2, eq_ix3 y⟩
  have e := colOf (win0_12.index t) t (outs t).2.2.2.2.2.2.1 128 z n p
  refine Eq.trans ?_ (congrArg (valuesW m c) (at3 _ (bat t) n (rowAt t p) e.1 e.2.1 e.2.2)).symm
  rw [after12]
  exact (vw_apply (yv m c t) z p n).trans (yv_col m c t p 1152 128 (by omega) n)

theorem final13 (c : Dev nD) : (dats m 0 c).arrAt 13 cfg0.N = gatesT m c := by
  refine (dats m 0 c).arrAt_eq_of_covers 13 _ (by decide +kernel) fun t hf y => ?_
  blk_simp
  obtain ⟨z, n, p, rfl⟩ : ∃ (z : Fin 1) (n : Fin 32) (p : Fin 512), y = ix3 z n p := ⟨y 0, y 1, y 2, eq_ix3 y⟩
  have e := colOf (win0_13.index t) t (outs t).2.2.2.2.2.2.2.1 32 z n p
  refine Eq.trans ?_ (congrArg (gatesT m c) (at3 _ (bat t) n (rowAt t p) e.1 e.2.1 e.2.2)).symm
  rw [after13]
  exact (gate_apply (yv m c t) z p n).trans (gated m c t p n)

theorem final14 (c : Dev nD) : (dats m 0 c).arrAt 14 cfg0.N = mixR m c := by
  refine (dats m 0 c).arrAt_eq_of_covers 14 _ (by decide +kernel) fun t hf y => ?_
  blk_simp
  obtain ⟨z, p, n, rfl⟩ : ∃ (z : Fin 1) (p : Fin 512) (n : Fin 512), y = ix3 z p n := ⟨y 0, y 1, y 2, eq_ix3 y⟩
  have e := rowOf (win0_14.index t) t (outs t).2.2.2.2.2.2.2.2.1 512 z p n
  refine Eq.trans ?_ (congrArg (mixR m c) (at3 _ (bat t) (rowAt t p) n e.1 e.2.1 e.2.2)).symm
  rw [after14]
  refine (r_apply z p _ _ _ _ _ n).trans ((mix_apply (yv m c t) p _ _ _).trans ((mix_eq m c t p _).trans ?_))
  exact congrArg (shift (prow m c (bat t)) (mul m c) (rowAt t p)) (Fin.ext (Nat.zero_add _).symm)

theorem final15 (c : Dev nD) : (dats m 0 c).arrAt 15 cfg0.N = mixK m c := by
  refine (dats m 0 c).arrAt_eq_of_covers 15 _ (by decide +kernel) fun t hf y => ?_
  blk_simp
  obtain ⟨z, p, n, rfl⟩ : ∃ (z : Fin 1) (p : Fin 512) (n : Fin 512), y = ix3 z p n := ⟨y 0, y 1, y 2, eq_ix3 y⟩
  have e := rowOf (win0_15.index t) t (outs t).2.2.2.2.2.2.2.2.2.1 512 z p n
  refine Eq.trans ?_ (congrArg (mixK m c) (at3 _ (bat t) (rowAt t p) n e.1 e.2.1 e.2.2)).symm
  rw [after15]
  refine (k_apply z p _ _ _ _ _ n).trans ((mix_apply (yv m c t) p _ _ _).trans ((mix_eq m c t p _).trans ?_))
  rfl

theorem final16 (c : Dev nD) : (dats m 0 c).arrAt 16 cfg0.N = mixV m c := by
  refine (dats m 0 c).arrAt_eq_of_covers 16 _ (by decide +kernel) fun t hf y => ?_
  blk_simp
  obtain ⟨z, p, n, rfl⟩ : ∃ (z : Fin 1) (p : Fin 512) (n : Fin 512), y = ix3 z p n := ⟨y 0, y 1, y 2, eq_ix3 y⟩
  have e := rowOf (win0_16.index t) t (outs t).2.2.2.2.2.2.2.2.2.2.1 512 z p n
  refine Eq.trans ?_ (congrArg (mixV m c) (at3 _ (bat t) (rowAt t p) n e.1 e.2.1 e.2.2)).symm
  rw [after16]
  refine (v_apply z p _ _ _ _ _ n).trans ((mix_apply (yv m c t) p _ _ _).trans ((mix_eq m c t p _).trans ?_))
  rfl

theorem final17 (c : Dev nD) : (dats m 0 c).arrAt 17 cfg0.N = mixLow m c := by
  refine (dats m 0 c).arrAt_eq_of_covers 17 _ (by decide +kernel) fun t hf y => ?_
  blk_simp
  obtain ⟨z, p, n, rfl⟩ : ∃ (z : Fin 1) (p : Fin 512) (n : Fin 256), y = ix3 z p n := ⟨y 0, y 1, y 2, eq_ix3 y⟩
  have e := rowOf (win0_17.index t) t (outs t).2.2.2.2.2.2.2.2.2.2.2 256 z p n
  refine Eq.trans ?_ (congrArg (mixLow m c) (at3 _ (bat t) (rowAt t p) n e.1 e.2.1 e.2.2)).symm
  rw [after17]
  refine (lo_apply z p _ _ _ _ _ n).trans ((mix_apply (yv m c t) p _ _ _).trans ((mix_eq m c t p _).trans ?_))
  rfl

end Cert.Proof.Proj
-- ==== Proof.Proj.Ref.lean ====
/-
  THE INPUT PROJECTIONS' CALL: the reference, entry by entry.
-/
module

public import proofs.«01_k».proof.Proof.Proj.Out
public import proofs.«01_k».proof.Proof.Gen.ProjReferenceIdeal.Run
public import proofs.«01_k».proof.Defs
public import Idealize.ShloMosaic.Lib.IdealHost

@[expose] public section

noncomputable section

namespace Cert.Proof.Proj

open Idealize.ShloMosaic Idealize.ShloMosaic.TcCoe Idealize.SL.Sem
open Cert.Proof.Mem (unit nrm)

section reference
open Cert.ProjReferenceIdeal Cert.ProjReferenceIdeal.Gen

/-- The rows, normalised. -/
def rNorm (x : FVec Ideal S2x8192x1024 .f32) (g : FVec Ideal S1024 .f32) : FVec Ideal S2x8192x1024 .f32 :=
  mulf (mulf x (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf x x) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 g))

/-- The normalised rows against the weight. -/
def rProj (x : FVec Ideal S2x8192x1024 .f32) (g : FVec Ideal S1024 .f32) (w : FVec Ideal S1024x3096 .f32) : FVec Ideal S2x8192x3096 .f32 :=
  Host.dotGeneral dot_S2x8192x1024_S1024x3096_S2x8192x3096_2_0_01_1_n_n none (rNorm x g) w

/-- The sparse attention's columns. -/
def rNsa (y : FVec Ideal S2x8192x3096 .f32) : FVec Ideal S2x8192x1304 .f32 := extractStridedSlice S2x8192x1304 ![0, 0, 0] y slices_S2x8192x3096_S2x8192x1304_0_0_0

/-- The recurrence's columns. -/
def rRec (y : FVec Ideal S2x8192x3096 .f32) : FVec Ideal S2x8192x1792 .f32 := extractStridedSlice S2x8192x1792 ![0, 0, 1304] y slices_S2x8192x3096_S2x8192x1792_0_0_1304

/-- The rows before, nothing before the first. -/
def rPrev (u : FVec Ideal S2x8192x1792 .f32) : FVec Ideal S2x8192x1792 .f32 :=
  extractStridedSlice S2x8192x1792 ![0, 0, 0] (pad S2x8193x1792 ![0, 1, 0] ![0, 0, 0] ![0, 0, 0] u (sitofp .f32 (constantI S_ 32 0#32)) pads_S2x8192x1792_S2x8193x1792_000_100_000 h_S_) slices_S2x8193x1792_S2x8192x1792_0_0_0

/-- The recurrence's columns mixed with the rows before. -/
def rMix (u : FVec Ideal S2x8192x1792 .f32) (mu : FVec Ideal S1792 .f32) : FVec Ideal S2x8192x1792 .f32 :=
  addf u (mulf (subf (rPrev u) u) (broadcastInDim S2x8192x1792 ![0, 1, 2] bcast_S1x1x1792_S2x8192x1792_0_1_2 (broadcastInDim S1x1x1792 ![2] bcast_S1792_S1x1x1792_2 mu)))

/-- The gates, transposed. -/
def rGates (u : FVec Ideal S2x8192x1304 .f32) : FVec Ideal S2x32x8192 .f32 :=
  transpose S2x32x8192 [0, 2, 1] (Host.divf (broadcastInDim S2x8192x32 ![] bcast_S_S2x8192x32 (constant S_ .f32 0x3F800000#32)) (addf (broadcastInDim S2x8192x32 ![] bcast_S_S2x8192x32 (constant S_ .f32 0x3F800000#32)) (Host.exp (Host.negf (pad S2x8192x32 ![0, 0, 0] ![0, 0, 8] ![0, 0, 0] (extractStridedSlice S2x8192x24 ![0, 0, 1280] u slices_S2x8192x1304_S2x8192x24_0_0_1280) (sitofp .f32 (constantI S_ 32 0#32)) pads_S2x8192x24_S2x8192x32_000_000_080 h_S_))))) transposes_S2x8192x32_S2x32x8192_0_2_1

/-- Columns as 8 heads. -/
def heads8 (u : FVec Ideal S2x8192x512 .f32) : FVec Ideal S2x8192x8x64 .f32 := shapeCast _ u shapeCasts_S2x8192x512_S2x8192x8x64

/-- A table's rows, the same for all 8 heads. -/
def table8 (c : FVec Ideal S8192x32 .f32) : FVec Ideal S2x8192x8x32 .f32 :=
  broadcastInDim S2x8192x8x32 ![0, 1, 2, 3] bcast_S1x8192x1x32_S2x8192x8x32_0_1_2_3 (broadcastInDim S1x8192x1x32 ![1, 2, 3] bcast_S8192x1x32_S1x8192x1x32_1_2_3 (broadcastInDim S8192x1x32 ![0, 2] bcast_S8192x32_S8192x1x32_0_2 c))

/-- 8 heads turned. -/
def turned8 (u : FVec Ideal S2x8192x512 .f32) (c s : FVec Ideal S8192x32 .f32) : FVec Ideal S2x8192x8x64 .f32 :=
  concatenate S2x8192x8x64 3 [⟨S2x8192x8x32, (subf (mulf (extractStridedSlice S2x8192x8x32 ![0, 0, 0, 0] (heads8 u) slices_S2x8192x8x64_S2x8192x8x32_0_0_0_0) (table8 c)) (mulf (extractStridedSlice S2x8192x8x32 ![0, 0, 0, 32] (heads8 u) slices_S2x8192x8x64_S2x8192x8x32_0_0_0_32) (table8 s)))⟩,
    ⟨S2x8192x8x32, (addf (mulf (extractStridedSlice S2x8192x8x32 ![0, 0, 0, 0] (heads8 u) slices_S2x8192x8x64_S2x8192x8x32_0_0_0_0) (table8 s)) (mulf (extractStridedSlice S2x8192x8x32 ![0, 0, 0, 32] (heads8 u) slices_S2x8192x8x64_S2x8192x8x32_0_0_0_32) (table8 c)))⟩] concatenates_S2x8192x8x32_S2x8192x8x32_S2x8192x8x64_d3

/-- The 512 columns turned. -/
def rTurn8 (u : FVec Ideal S2x8192x512 .f32) (c s : FVec Ideal S8192x32 .f32) : FVec Ideal S2x8192x512 .f32 :=
  shapeCast _ (turned8 u c s) shapeCasts_S2x8192x8x64_S2x8192x512

/-- Columns as 2 heads. -/
def heads2 (u : FVec Ideal S2x8192x128 .f32) : FVec Ideal S2x8192x2x64 .f32 := shapeCast _ u shapeCasts_S2x8192x128_S2x8192x2x64

/-- A table's rows, the same for all 2 heads. -/
def table2 (c : FVec Ideal S8192x32 .f32) : FVec Ideal S2x8192x2x32 .f32 :=
  broadcastInDim S2x8192x2x32 ![0, 1, 2, 3] bcast_S1x8192x1x32_S2x8192x2x32_0_1_2_3 (broadcastInDim S1x8192x1x32 ![1, 2, 3] bcast_S8192x1x32_S1x8192x1x32_1_2_3 (broadcastInDim S8192x1x32 ![0, 2] bcast_S8192x32_S8192x1x32_0_2 c))

/-- 2 heads turned. -/
def turned2 (u : FVec Ideal S2x8192x128 .f32) (c s : FVec Ideal S8192x32 .f32) : FVec Ideal S2x8192x2x64 .f32 :=
  concatenate S2x8192x2x64 3 [⟨S2x8192x2x32, (subf (mulf (extractStridedSlice S2x8192x2x32 ![0, 0, 0, 0] (heads2 u) slices_S2x8192x2x64_S2x8192x2x32_0_0_0_0) (table2 c)) (mulf (extractStridedSlice S2x8192x2x32 ![0, 0, 0, 32] (heads2 u) slices_S2x8192x2x64_S2x8192x2x32_0_0_0_32) (table2 s)))⟩,
    ⟨S2x8192x2x32, (addf (mulf (extractStridedSlice S2x8192x2x32 ![0, 0, 0, 0] (heads2 u) slices_S2x8192x2x64_S2x8192x2x32_0_0_0_0) (table2 s)) (mulf (extractStridedSlice S2x8192x2x32 ![0, 0, 0, 32] (heads2 u) slices_S2x8192x2x64_S2x8192x2x32_0_0_0_32) (table2 c)))⟩] concatenates_S2x8192x2x32_S2x8192x2x32_S2x8192x2x64_d3

/-- The 128 columns turned. -/
def rTurn2 (u : FVec Ideal S2x8192x128 .f32) (c s : FVec Ideal S8192x32 .f32) : FVec Ideal S2x8192x128 .f32 :=
  shapeCast _ (turned2 u c s) shapeCasts_S2x8192x2x64_S2x8192x128

theorem rNorm_apply (x : FVec Ideal S2x8192x1024 .f32) (g : FVec Ideal S1024 .f32) (b : Fin 2) (p : Fin 8192) (k : Fin 1024) :
    rNorm x g (ix3 b p k) = unit 0x44800000#32 (fun k => x (ix3 b p k)) (fun k => g (ix1 k)) k := by
  pointwise [rNorm, unit, nrm]

theorem rProj_apply (x : FVec Ideal S2x8192x1024 .f32) (g : FVec Ideal S1024 .f32) (w : FVec Ideal S1024x3096 .f32) (b : Fin 2) (p : Fin 8192) (n : Fin 3096) :
    rProj x g w (ix3 b p n) = row (fun b q k => x (ix3 b q k)) (fun k => g (ix1 k)) (fun l n => w (ix2 l n)) b p n := by
  pointwise [rProj, row, dotRow]
  simp only [rNorm_apply]

theorem zero_pad : (FloatOps.sitofp (F := Ideal) FTy.f32 0#32 : EReal) = 0 := by
  show (((0#32 : BitVec 32).toInt : ℝ) : EReal) = 0
  simp

theorem rPrev_apply (u : FVec Ideal S2x8192x1792 .f32) (b : Fin 2) (q : Fin 8192) (n : Fin 1792) :
    rPrev u (ix3 b q n) = if q.val = 0 then (0 : EReal) else u (ix3 b ⟨q.val - 1, by omega⟩ n) := by
  pointwise [rPrev]
  by_cases h : q.val = 0
  · rw [dif_neg (by omega), if_pos h]
    exact zero_pad
  · rw [dif_pos (by omega), if_neg h]

theorem rMix_apply (y : FVec Ideal S2x8192x3096 .f32) (mu : FVec Ideal S1792 .f32) (b : Fin 2) (q : Fin 8192) (n : Fin 1792) :
    rMix (rRec y) mu (ix3 b q n) = shift (fun q n => y (ix3 b q n)) (fun n => mu (ix1 n)) q n := by
  have e : ∀ q, rRec y (ix3 b q n) = y (ix3 b q ⟨1304 + n.val, by omega⟩) := fun q => by pointwise [rRec]
  pointwise [rMix, shift]
  rw [rPrev_apply]
  simp only [e]

theorem rGates_apply (y : FVec Ideal S2x8192x3096 .f32) (b : Fin 2) (n : Fin 32) (q : Fin 8192) :
    rGates (rNsa y) (ix3 b n q) = gates (fun n => y (ix3 b q n)) n := by
  pointwise [rGates, rNsa, gates, gate]
  by_cases h : n.val < 24
  · rw [dif_pos h, dif_pos h]
  · rw [dif_neg h, dif_neg h]
    exact congrArg (fun u => Ideal.div 1 (1 + Ideal.exp (-u))) zero_pad

/-- The turn, head by head. -/
theorem heads_turn {N : ℕ} (u : Fin N → EReal) (c s : Fin 32 → EReal) (hN : 64 ∣ N) (n : Fin N) :
    (if h : n.val % 64 < 32 then
      u n * c ⟨n.val % 64, h⟩ - u ⟨n.val / 64 * 64 + (32 + n.val % 64), by omega⟩ * s ⟨n.val % 64, h⟩
    else
      u ⟨n.val / 64 * 64 + (n.val % 64 - 32), by omega⟩ * s ⟨n.val % 64 - 32, by omega⟩
        + u ⟨n.val / 64 * 64 + (32 + (n.val % 64 - 32)), by omega⟩ * c ⟨n.val % 64 - 32, by omega⟩) = turn u c s n := by
  unfold turn
  have hn := n.isLt
  by_cases h : n.val % 64 < 32
  · have e : (⟨n.val % 64, h⟩ : Fin 32) = ⟨n.val % 32, by omega⟩ := Fin.ext (by show n.val % 64 = n.val % 32; omega)
    have e' : (⟨n.val / 64 * 64 + (32 + n.val % 64), by omega⟩ : Fin N) = ⟨(n.val + 32) % N, Nat.mod_lt _ (by omega)⟩ :=
      Fin.ext (by show n.val / 64 * 64 + (32 + n.val % 64) = (n.val + 32) % N; rw [Nat.mod_eq_of_lt (show n.val + 32 < N by omega)]; omega)
    rw [dif_pos h, if_pos h, e, e']
  · have e : (⟨n.val % 64 - 32, by omega⟩ : Fin 32) = ⟨n.val % 32, by omega⟩ := Fin.ext (by show n.val % 64 - 32 = n.val % 32; omega)
    have e1 : (⟨n.val / 64 * 64 + (n.val % 64 - 32), by omega⟩ : Fin N) = ⟨n.val - 32, by omega⟩ := Fin.ext (by show n.val / 64 * 64 + (n.val % 64 - 32) = n.val - 32; omega)
    have e2 : (⟨n.val / 64 * 64 + (32 + (n.val % 64 - 32)), by omega⟩ : Fin N) = n := Fin.ext (by show n.val / 64 * 64 + (32 + (n.val % 64 - 32)) = n.val; omega)
    rw [dif_neg h, if_neg h, e, e1, e2]

theorem rTurn8_apply (u : FVec Ideal S2x8192x512 .f32) (c s : FVec Ideal S8192x32 .f32) (b : Fin 2) (q : Fin 8192) (n : Fin 512) :
    rTurn8 u c s (ix3 b q n) = turn (fun n => u (ix3 b q n)) (fun k => c (ix2 q k)) (fun k => s (ix2 q k)) n := by
  pointwise [rTurn8, turned8, table8, heads8]
  exact heads_turn (fun n => u (ix3 b q n)) (fun k => c (ix2 q k)) (fun k => s (ix2 q k)) (by decide) n

theorem rTurn2_apply (u : FVec Ideal S2x8192x128 .f32) (c s : FVec Ideal S8192x32 .f32) (b : Fin 2) (q : Fin 8192) (n : Fin 128) :
    rTurn2 u c s (ix3 b q n) = turn (fun n => u (ix3 b q n)) (fun k => c (ix2 q k)) (fun k => s (ix2 q k)) n := by
  pointwise [rTurn2, turned2, table2, heads2]
  exact heads_turn (fun n => u (ix3 b q n)) (fun k => c (ix2 q k)) (fun k => s (ix2 q k)) (by decide) n

/-- Rounding leaves an exact value as it is. -/
theorem trunc_at {s : Shape} (u : FVec Ideal s .f32) (i : s.Idx) : truncf .bf16 u bitsLt_bf16_f32 i = u i := rfl

theorem times_at {s : Shape} (u v : FVec Ideal s .f32) (i : s.Idx) : mulf u v i = u i * v i := rfl

theorem scale_at (b : Fin 2) (q : Fin 8192) (n : Fin 512) :
    (broadcastInDim S2x8192x512 ![] bcast_S_S2x8192x512 (constant S_ .f32 0x3E38AA3B#32) : FVec Ideal S2x8192x512 .f32) (ix3 b q n)
      = Ideal.ofBits .f32 0x3E38AA3B#32 := rfl

/-! ## The results, at any product's entries -/

section results

variable (y : FVec Ideal S2x8192x3096 .f32) (P : Fin 2 → Fin 8192 → Fin 3096 → EReal) (hy : ∀ b q n, y (ix3 b q n) = P b q n)
  (c s : FVec Ideal S8192x32 .f32) (C S : Fin 8192 → Fin 32 → EReal) (hc : ∀ q k, c (ix2 q k) = C q k) (hs : ∀ q k, s (ix2 q k) = S q k)
  (mu : FVec Ideal S1792 .f32) (M : Fin 1792 → EReal) (hm : ∀ n, mu (ix1 n) = M n) (b : Fin 2) (q : Fin 8192)

include hy in
theorem rC0_apply (n : Fin 512) :
    extractStridedSlice S2x8192x512 ![0, 0, 0] (rNsa y) slices_S2x8192x1304_S2x8192x512_0_0_0 (ix3 b q n) = col (P b q) 0 512 (by omega) n := by
  have e : (⟨0 + n.val, by omega⟩ : Fin 3096) = ⟨n.val, by omega⟩ := Fin.ext (Nat.zero_add _)
  unfold col
  rw [e, ← hy]
  pointwise [rNsa]

include hy in
theorem rC768_apply (n : Fin 128) :
    extractStridedSlice S2x8192x128 ![0, 0, 768] (rNsa y) slices_S2x8192x1304_S2x8192x128_0_0_768 (ix3 b q n) = col (P b q) 768 128 (by omega) n := by
  unfold col
  rw [← hy]
  pointwise [rNsa]

include hy in
theorem rC1024_apply (n : Fin 128) :
    extractStridedSlice S2x8192x128 ![0, 0, 1024] (rNsa y) slices_S2x8192x1304_S2x8192x128_0_0_1024 (ix3 b q n) = col (P b q) 1024 128 (by omega) n := by
  unfold col
  rw [← hy]
  pointwise [rNsa]

/-- The queries: turned, scaled, rounded. -/
def rQ : FVec Ideal S2x8192x512 .bf16 :=
  truncf .bf16 (mulf (rTurn8 (extractStridedSlice S2x8192x512 ![0, 0, 0] (rNsa y) slices_S2x8192x1304_S2x8192x512_0_0_0) c s) (broadcastInDim S2x8192x512 ![] bcast_S_S2x8192x512 (constant S_ .f32 0x3E38AA3B#32))) bitsLt_bf16_f32

include hy hc hs in
theorem rQ_apply (n : Fin 512) : rQ y c s (ix3 b q n) = rotated (P b q) 0 512 (by omega) (C q) (S q) n * Ideal.ofBits .f32 0x3E38AA3B#32 := by
  have e : (fun n => extractStridedSlice S2x8192x512 ![0, 0, 0] (rNsa y) slices_S2x8192x1304_S2x8192x512_0_0_0 (ix3 b q n)) = col (P b q) 0 512 (by omega) :=
    funext (rC0_apply y P hy b q)
  have ec : (fun k => c (ix2 q k)) = C q := funext (hc q)
  have es : (fun k => s (ix2 q k)) = S q := funext (hs q)
  unfold rotated
  rw [← e, ← ec, ← es, ← rTurn8_apply]
  unfold rQ
  rw [trunc_at, times_at, scale_at]

/-- The selected branch's keys: turned, rounded. -/
def rK768 : FVec Ideal S2x8192x128 .bf16 :=
  truncf .bf16 (rTurn2 (extractStridedSlice S2x8192x128 ![0, 0, 768] (rNsa y) slices_S2x8192x1304_S2x8192x128_0_0_768) c s) bitsLt_bf16_f32

include hy hc hs in
theorem rK768_apply (n : Fin 128) : rK768 y c s (ix3 b q n) = rotated (P b q) 768 128 (by omega) (C q) (S q) n := by
  have e : (fun n => extractStridedSlice S2x8192x128 ![0, 0, 768] (rNsa y) slices_S2x8192x1304_S2x8192x128_0_0_768 (ix3 b q n)) = col (P b q) 768 128 (by omega) :=
    funext (rC768_apply y P hy b q)
  have ec : (fun k => c (ix2 q k)) = C q := funext (hc q)
  have es : (fun k => s (ix2 q k)) = S q := funext (hs q)
  unfold rotated
  rw [← e, ← ec, ← es, ← rTurn2_apply]
  unfold rK768
  exact trunc_at _ _

/-- The window branch's keys: turned, rounded. -/
def rK1024 : FVec Ideal S2x8192x128 .bf16 :=
  truncf .bf16 (rTurn2 (extractStridedSlice S2x8192x128 ![0, 0, 1024] (rNsa y) slices_S2x8192x1304_S2x8192x128_0_0_1024) c s) bitsLt_bf16_f32

include hy hc hs in
theorem rK1024_apply (n : Fin 128) : rK1024 y c s (ix3 b q n) = rotated (P b q) 1024 128 (by omega) (C q) (S q) n := by
  have e : (fun n => extractStridedSlice S2x8192x128 ![0, 0, 1024] (rNsa y) slices_S2x8192x1304_S2x8192x128_0_0_1024 (ix3 b q n)) = col (P b q) 1024 128 (by omega) :=
    funext (rC1024_apply y P hy b q)
  have ec : (fun k => c (ix2 q k)) = C q := funext (hc q)
  have es : (fun k => s (ix2 q k)) = S q := funext (hs q)
  unfold rotated
  rw [← e, ← ec, ← es, ← rTurn2_apply]
  unfold rK1024
  exact trunc_at _ _

include hy in
theorem rC512_apply (n : Fin 128) :
    extractStridedSlice S2x8192x128 ![0, 0, 512] (rNsa y) slices_S2x8192x1304_S2x8192x128_0_0_512 (ix3 b q n) = col (P b q) 512 128 (by omega) n := by
  unfold col
  rw [← hy]
  pointwise [rNsa]

include hy in
theorem rC640_apply (n : Fin 128) :
    extractStridedSlice S2x8192x128 ![0, 0, 640] (rNsa y) slices_S2x8192x1304_S2x8192x128_0_0_640 (ix3 b q n) = col (P b q) 640 128 (by omega) n := by
  unfold col
  rw [← hy]
  pointwise [rNsa]

/-- Values: transposed, rounded. -/
def rV896 : FVec Ideal S2x128x8192 .bf16 :=
  truncf .bf16 (transpose S2x128x8192 [0, 2, 1] (extractStridedSlice S2x8192x128 ![0, 0, 896] (rNsa y) slices_S2x8192x1304_S2x8192x128_0_0_896) transposes_S2x8192x128_S2x128x8192_0_2_1) bitsLt_bf16_f32

include hy in
theorem rV896_apply (n : Fin 128) : rV896 y (ix3 b n q) = col (P b q) 896 128 (by omega) n := by
  unfold col
  rw [← hy]
  pointwise [rV896, rNsa]

/-- Values: transposed, rounded. -/
def rV1152 : FVec Ideal S2x128x8192 .bf16 :=
  truncf .bf16 (transpose S2x128x8192 [0, 2, 1] (extractStridedSlice S2x8192x128 ![0, 0, 1152] (rNsa y) slices_S2x8192x1304_S2x8192x128_0_0_1152) transposes_S2x8192x128_S2x128x8192_0_2_1) bitsLt_bf16_f32

include hy in
theorem rV1152_apply (n : Fin 128) : rV1152 y (ix3 b n q) = col (P b q) 1152 128 (by omega) n := by
  unfold col
  rw [← hy]
  pointwise [rV1152, rNsa]

include hy in
theorem rG_apply (n : Fin 32) : rGates (rNsa y) (ix3 b n q) = gates (P b q) n := by
  rw [rGates_apply]
  simp only [hy]

include hy hm in
theorem rM_apply (n : Fin 1792) : rMix (rRec y) mu (ix3 b q n) = shift (P b) M q n := by
  rw [rMix_apply]
  simp only [hy, hm]

include hy hm in
theorem rM0_apply (n : Fin 512) :
    extractStridedSlice S2x8192x512 ![0, 0, 0] (rMix (rRec y) mu) slices_S2x8192x1792_S2x8192x512_0_0_0 (ix3 b q n)
      = mixed (P b) M 0 512 (by omega) q n := by
  have e : (⟨0 + n.val, by omega⟩ : Fin 1792) = ⟨n.val, by omega⟩ := Fin.ext (Nat.zero_add _)
  unfold mixed
  rw [e, ← rM_apply y P hy mu M hm b q]
  pointwise

include hy hm in
theorem rM512_apply (n : Fin 512) :
    extractStridedSlice S2x8192x512 ![0, 0, 512] (rMix (rRec y) mu) slices_S2x8192x1792_S2x8192x512_0_0_512 (ix3 b q n)
      = mixed (P b) M 512 512 (by omega) q n := by
  unfold mixed
  rw [← rM_apply y P hy mu M hm b q]
  pointwise

include hy hm in
theorem rM1024_apply (n : Fin 512) :
    extractStridedSlice S2x8192x512 ![0, 0, 1024] (rMix (rRec y) mu) slices_S2x8192x1792_S2x8192x512_0_0_1024 (ix3 b q n)
      = mixed (P b) M 1024 512 (by omega) q n := by
  unfold mixed
  rw [← rM_apply y P hy mu M hm b q]
  pointwise

include hy hm in
theorem rM1536_apply (n : Fin 256) :
    extractStridedSlice S2x8192x256 ![0, 0, 1536] (rMix (rRec y) mu) slices_S2x8192x1792_S2x8192x256_0_0_1536 (ix3 b q n)
      = mixed (P b) M 1536 256 (by omega) q n := by
  unfold mixed
  rw [← rM_apply y P hy mu M hm b q]
  pointwise

end results

end reference

end Cert.Proof.Proj
-- ==== Proof.Proj.Algebra.lean ====
/-
  THE INPUT PROJECTIONS' CALL: the two programs' results equal.
-/
module

public import proofs.«01_k».proof.Proof.Proj.Ref

@[expose] public section

noncomputable section

namespace Cert.Proof.Proj

open Idealize.ShloMosaic Idealize.ShloMosaic.TcCoe Idealize.SL.Sem

section reference
open Cert.ProjReferenceIdeal Cert.ProjReferenceIdeal.Gen

theorem of_row {A B C : ℕ} {f g : (⟨3, ![A, B, C]⟩ : Shape).Idx → EReal} (h : ∀ a b c, f (ix3 a b c) = g (ix3 a b c)) : f = g := by
  funext i
  rw [eq_ix3 i]
  exact h _ _ _

/-- The two programs' results are the same arrays. -/
theorem algebraic_proj : Cert.algebraic_ProjKernelIdeal_ProjReferenceIdeal := by
  intro m ρ m' ρ' _ hagree
  refine ⟨fun c => queries m c, fun c => keysC m c, fun c => valuesC m c, fun c => keysS m c, fun c => valuesS m c, fun c => keysW m c,
    fun c => valuesW m c, fun c => gatesT m c, fun c => mixR m c, fun c => mixK m c, fun c => mixV m c, fun c => mixLow m c, ?_, ?_⟩
  · refine (θ_run Cert.ProjKernelIdeal.defs _ _).mono (fun _ h c => ?_) (Cert.ProjKernelIdeal.Value.run_blocks (F := Ideal) m ρ)
    obtain ⟨r0, r1, r2, r3, r4, r5, r6, r7, r8, r9, r10, r11, rest⟩ := h c
    exact ⟨r0.trans (final6 m c), r1.trans (final7 m c), r2.trans (final8 m c), r3.trans (final9 m c), r4.trans (final10 m c),
      r5.trans (final11 m c), r6.trans (final12 m c), r7.trans (final13 m c), r8.trans (final14 m c), r9.trans (final15 m c),
      r10.trans (final16 m c), r11.trans (final17 m c), rest⟩
  · refine (θ_run Cert.ProjReferenceIdeal.defs _ _).mono (fun _ h c => ?_) (Cert.ProjReferenceIdeal.Value.run (F := Ideal) m' ρ')
    obtain ⟨r0, r1, r2, r3, r4, r5, r6, r7, r8, r9, r10, r11, rest⟩ := h c
    obtain ⟨h0, h1, h2, h3, h4, h5⟩ := hagree c
    have hy : ∀ b q n, rProj (m' ((c.tc : Thread nD τ).loc main_arg0)) (m' ((c.tc : Thread nD τ).loc main_arg1)) (m' ((c.tc : Thread nD τ).loc main_arg2)) (ix3 b q n)
        = prow m c b q n := fun b q n => by
      rw [rProj_apply]
      unfold prow wt
      simp only [h0, h1, h2]
    have hm : ∀ n, m' ((c.tc : Thread nD τ).loc main_arg3) (ix1 n) = mul m c n := fun n => by simp only [h3]; rfl
    have hc : ∀ q k, m' ((c.tc : Thread nD τ).loc main_arg4) (ix2 q k) = cs m c q k := fun q k => by simp only [h4]; rfl
    have hs : ∀ q k, m' ((c.tc : Thread nD τ).loc main_arg5) (ix2 q k) = sn m c q k := fun q k => by simp only [h5]; rfl
    have k0 : rQ (rProj (m' ((c.tc : Thread nD τ).loc main_arg0)) (m' ((c.tc : Thread nD τ).loc main_arg1)) (m' ((c.tc : Thread nD τ).loc main_arg2))) (m' ((c.tc : Thread nD τ).loc main_arg4)) (m' ((c.tc : Thread nD τ).loc main_arg5)) = queries m c := of_row fun b q n => rQ_apply (rProj (m' ((c.tc : Thread nD τ).loc main_arg0)) (m' ((c.tc : Thread nD τ).loc main_arg1)) (m' ((c.tc : Thread nD τ).loc main_arg2))) (prow m c) hy (m' ((c.tc : Thread nD τ).loc main_arg4)) (m' ((c.tc : Thread nD τ).loc main_arg5)) (cs m c) (sn m c) hc hs b q n
    unfold rQ rTurn8 turned8 heads8 table8 rNsa rProj rNorm at k0
    unfold Cert.ProjReferenceIdeal.Value.res_main_v61 at r0
    have k1 : extractStridedSlice S2x8192x128 ![0, 0, 512] (rNsa (rProj (m' ((c.tc : Thread nD τ).loc main_arg0)) (m' ((c.tc : Thread nD τ).loc main_arg1)) (m' ((c.tc : Thread nD τ).loc main_arg2)))) slices_S2x8192x1304_S2x8192x128_0_0_512 = keysC m c := of_row fun b q n => rC512_apply (rProj (m' ((c.tc : Thread nD τ).loc main_arg0)) (m' ((c.tc : Thread nD τ).loc main_arg1)) (m' ((c.tc : Thread nD τ).loc main_arg2))) (prow m c) hy b q n
    unfold rNsa rProj rNorm at k1
    have k2 : extractStridedSlice S2x8192x128 ![0, 0, 640] (rNsa (rProj (m' ((c.tc : Thread nD τ).loc main_arg0)) (m' ((c.tc : Thread nD τ).loc main_arg1)) (m' ((c.tc : Thread nD τ).loc main_arg2)))) slices_S2x8192x1304_S2x8192x128_0_0_640 = valuesC m c := of_row fun b q n => rC640_apply (rProj (m' ((c.tc : Thread nD τ).loc main_arg0)) (m' ((c.tc : Thread nD τ).loc main_arg1)) (m' ((c.tc : Thread nD τ).loc main_arg2))) (prow m c) hy b q n
    unfold rNsa rProj rNorm at k2
    have k3 : rK768 (rProj (m' ((c.tc : Thread nD τ).loc main_arg0)) (m' ((c.tc : Thread nD τ).loc main_arg1)) (m' ((c.tc : Thread nD τ).loc main_arg2))) (m' ((c.tc : Thread nD τ).loc main_arg4)) (m' ((c.tc : Thread nD τ).loc main_arg5)) = keysS m c := of_row fun b q n => rK768_apply (rProj (m' ((c.tc : Thread nD τ).loc main_arg0)) (m' ((c.tc : Thread nD τ).loc main_arg1)) (m' ((c.tc : Thread nD τ).loc main_arg2))) (prow m c) hy (m' ((c.tc : Thread nD τ).loc main_arg4)) (m' ((c.tc : Thread nD τ).loc main_arg5)) (cs m c) (sn m c) hc hs b q n
    unfold rK768 rTurn2 turned2 heads2 table2 rNsa rProj rNorm at k3
    unfold Cert.ProjReferenceIdeal.Value.res_main_v83 at r3
    have k4 : rV896 (rProj (m' ((c.tc : Thread nD τ).loc main_arg0)) (m' ((c.tc : Thread nD τ).loc main_arg1)) (m' ((c.tc : Thread nD τ).loc main_arg2))) = valuesS m c := of_row fun b n q => rV896_apply (rProj (m' ((c.tc : Thread nD τ).loc main_arg0)) (m' ((c.tc : Thread nD τ).loc main_arg1)) (m' ((c.tc : Thread nD τ).loc main_arg2))) (prow m c) hy b q n
    unfold rV896 rNsa rProj rNorm at k4
    have k5 : rK1024 (rProj (m' ((c.tc : Thread nD τ).loc main_arg0)) (m' ((c.tc : Thread nD τ).loc main_arg1)) (m' ((c.tc : Thread nD τ).loc main_arg2))) (m' ((c.tc : Thread nD τ).loc main_arg4)) (m' ((c.tc : Thread nD τ).loc main_arg5)) = keysW m c := of_row fun b q n => rK1024_apply (rProj (m' ((c.tc : Thread nD τ).loc main_arg0)) (m' ((c.tc : Thread nD τ).loc main_arg1)) (m' ((c.tc : Thread nD τ).loc main_arg2))) (prow m c) hy (m' ((c.tc : Thread nD τ).loc main_arg4)) (m' ((c.tc : Thread nD τ).loc main_arg5)) (cs m c) (sn m c) hc hs b q n
    unfold rK1024 rTurn2 turned2 heads2 table2 rNsa rProj rNorm at k5
    unfold Cert.ProjReferenceIdeal.Value.res_main_v107 at r5
    have k6 : rV1152 (rProj (m' ((c.tc : Thread nD τ).loc main_arg0)) (m' ((c.tc : Thread nD τ).loc main_arg1)) (m' ((c.tc : Thread nD τ).loc main_arg2))) = valuesW m c := of_row fun b n q => rV1152_apply (rProj (m' ((c.tc : Thread nD τ).loc main_arg0)) (m' ((c.tc : Thread nD τ).loc main_arg1)) (m' ((c.tc : Thread nD τ).loc main_arg2))) (prow m c) hy b q n
    unfold rV1152 rNsa rProj rNorm at k6
    have k7 : rGates (rNsa (rProj (m' ((c.tc : Thread nD τ).loc main_arg0)) (m' ((c.tc : Thread nD τ).loc main_arg1)) (m' ((c.tc : Thread nD τ).loc main_arg2)))) = gatesT m c := of_row fun b n q => rG_apply (rProj (m' ((c.tc : Thread nD τ).loc main_arg0)) (m' ((c.tc : Thread nD τ).loc main_arg1)) (m' ((c.tc : Thread nD τ).loc main_arg2))) (prow m c) hy b q n
    unfold rGates rNsa rProj rNorm at k7
    have k8 : extractStridedSlice S2x8192x512 ![0, 0, 0] (rMix (rRec (rProj (m' ((c.tc : Thread nD τ).loc main_arg0)) (m' ((c.tc : Thread nD τ).loc main_arg1)) (m' ((c.tc : Thread nD τ).loc main_arg2)))) (m' ((c.tc : Thread nD τ).loc main_arg3))) slices_S2x8192x1792_S2x8192x512_0_0_0 = mixR m c := of_row fun b q n => rM0_apply (rProj (m' ((c.tc : Thread nD τ).loc main_arg0)) (m' ((c.tc : Thread nD τ).loc main_arg1)) (m' ((c.tc : Thread nD τ).loc main_arg2))) (prow m c) hy (m' ((c.tc : Thread nD τ).loc main_arg3)) (mul m c) hm b q n
    unfold rMix rPrev rRec rProj rNorm at k8
    have k9 : extractStridedSlice S2x8192x512 ![0, 0, 512] (rMix (rRec (rProj (m' ((c.tc : Thread nD τ).loc main_arg0)) (m' ((c.tc : Thread nD τ).loc main_arg1)) (m' ((c.tc : Thread nD τ).loc main_arg2)))) (m' ((c.tc : Thread nD τ).loc main_arg3))) slices_S2x8192x1792_S2x8192x512_0_0_512 = mixK m c := of_row fun b q n => rM512_apply (rProj (m' ((c.tc : Thread nD τ).loc main_arg0)) (m' ((c.tc : Thread nD τ).loc main_arg1)) (m' ((c.tc : Thread nD τ).loc main_arg2))) (prow m c) hy (m' ((c.tc : Thread nD τ).loc main_arg3)) (mul m c) hm b q n
    unfold rMix rPrev rRec rProj rNorm at k9
    have k10 : extractStridedSlice S2x8192x512 ![0, 0, 1024] (rMix (rRec (rProj (m' ((c.tc : Thread nD τ).loc main_arg0)) (m' ((c.tc : Thread nD τ).loc main_arg1)) (m' ((c.tc : Thread nD τ).loc main_arg2)))) (m' ((c.tc : Thread nD τ).loc main_arg3))) slices_S2x8192x1792_S2x8192x512_0_0_1024 = mixV m c := of_row fun b q n => rM1024_apply (rProj (m' ((c.tc : Thread nD τ).loc main_arg0)) (m' ((c.tc : Thread nD τ).loc main_arg1)) (m' ((c.tc : Thread nD τ).loc main_arg2))) (prow m c) hy (m' ((c.tc : Thread nD τ).loc main_arg3)) (mul m c) hm b q n
    unfold rMix rPrev rRec rProj rNorm at k10
    have k11 : extractStridedSlice S2x8192x256 ![0, 0, 1536] (rMix (rRec (rProj (m' ((c.tc : Thread nD τ).loc main_arg0)) (m' ((c.tc : Thread nD τ).loc main_arg1)) (m' ((c.tc : Thread nD τ).loc main_arg2)))) (m' ((c.tc : Thread nD τ).loc main_arg3))) slices_S2x8192x1792_S2x8192x256_0_0_1536 = mixLow m c := of_row fun b q n => rM1536_apply (rProj (m' ((c.tc : Thread nD τ).loc main_arg0)) (m' ((c.tc : Thread nD τ).loc main_arg1)) (m' ((c.tc : Thread nD τ).loc main_arg2))) (prow m c) hy (m' ((c.tc : Thread nD τ).loc main_arg3)) (mul m c) hm b q n
    unfold rMix rPrev rRec rProj rNorm at k11
    exact ⟨r0.trans k0, r1.trans k1, r2.trans k2, r3.trans k3, r4.trans k4, r5.trans k5, r6.trans k6, r7.trans k7, r8.trans k8, r9.trans k9, r10.trans k10, r11.trans k11, rest⟩

end reference

end Cert.Proof.Proj
-- ==== Proof.lean ====
module

public import proofs.«01_k».proof.Defs
public import proofs.«01_k».proof.Proof.Claims.Frames
public import proofs.«01_k».proof.Proof.Gen.Kernel
public import proofs.«01_k».proof.Proof.Gen.KernelIdeal
public import proofs.«01_k».proof.Proof.Gen.ReferenceIdeal
public import proofs.«01_k».proof.Proof.Gen.FfnKernel
public import proofs.«01_k».proof.Proof.Gen.FfnKernelIdeal
public import proofs.«01_k».proof.Proof.Gen.FfnReferenceIdeal
public import proofs.«01_k».proof.Proof.Gen.MemKernel
public import proofs.«01_k».proof.Proof.Gen.MemKernelIdeal
public import proofs.«01_k».proof.Proof.Gen.MemReferenceIdeal
public import proofs.«01_k».proof.Proof.Gen.KvKernel
public import proofs.«01_k».proof.Proof.Gen.KvKernelIdeal
public import proofs.«01_k».proof.Proof.Gen.KvReferenceIdeal
public import proofs.«01_k».proof.Proof.Gen.FfnKernelIdeal.Value
public import proofs.«01_k».proof.Proof.Gen.MemKernelIdeal.Value
public import proofs.«01_k».proof.Proof.Gen.KvKernelIdeal.Value
public import proofs.«01_k».proof.Proof.Gen.ProjKernel
public import proofs.«01_k».proof.Proof.Gen.ProjKernelIdeal
public import proofs.«01_k».proof.Proof.Gen.ProjReferenceIdeal
public import proofs.«01_k».proof.Proof.Gen.ProjKernelIdeal.Value
public import proofs.«01_k».proof.Proof.Ffn.Algebra
public import proofs.«01_k».proof.Proof.Mem.Algebra
public import proofs.«01_k».proof.Proof.Kv.Algebra
public import proofs.«01_k».proof.Proof.Proj.Algebra

@[expose] public section

theorem Cert.Proof.claim : Cert.Claim :=
  ⟨Cert.Kernel.Gen.facts, Cert.KernelIdeal.Gen.facts, Cert.ReferenceIdeal.Gen.facts, Cert.FfnKernel.Gen.facts,
    Cert.FfnKernelIdeal.Gen.facts, Cert.FfnReferenceIdeal.Gen.facts, Cert.MemKernel.Gen.facts, Cert.MemKernelIdeal.Gen.facts,
    Cert.MemReferenceIdeal.Gen.facts, Cert.KvKernel.Gen.facts, Cert.KvKernelIdeal.Gen.facts, Cert.KvReferenceIdeal.Gen.facts,
    Cert.ProjKernel.Gen.facts, Cert.ProjKernelIdeal.Gen.facts, Cert.ProjReferenceIdeal.Gen.facts,
    Cert.Proof.frame_kernel, Cert.Proof.frame_ideal, Cert.Proof.frame_reference,
    Cert.Proof.frame_ffn_kernel, Cert.Proof.frame_ffn_ideal, Cert.Proof.frame_ffn_reference,
    Cert.Proof.frame_mem_kernel, Cert.Proof.frame_mem_ideal, Cert.Proof.frame_mem_reference,
    Cert.Proof.frame_kv_kernel, Cert.Proof.frame_kv_ideal, Cert.Proof.frame_kv_reference,
    Cert.Proof.frame_proj_kernel, Cert.Proof.frame_proj_ideal, Cert.Proof.frame_proj_reference,
    Cert.Proof.preserves_mask, trivial, Cert.Proof.Ffn.algebraic_ffn, trivial, Cert.Proof.Mem.algebraic_mem, trivial,
    Cert.Proof.Kv.algebraic_kv, trivial,
    Cert.Proof.Proj.algebraic_proj⟩

end
